-- ==== Defs.lean ====
def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))).1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))).2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))).2.2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3))).1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3))).2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3))).2.2 = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5))).1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5))).2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5))).2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5))).2.2.2 = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5))).1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5))).2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5))).2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5))).2.2.2 = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel11Ideal_finite11 [hPre_finite11 : Cert.Pre_finite11.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5))).1 = (fun _ => 1#1)
    ∧ (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5))).2.1 = (fun _ => 1#1)
    ∧ (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5))).2.2.1 = (fun _ => 1#1)
    ∧ (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5))).2.2.2 = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_finite11 [hPre_finite11 : Cert.Pre_finite11.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5))).1 = (fun _ => 1#1)
    ∧ (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5))).2.1 = (fun _ => 1#1)
    ∧ (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5))).2.2.1 = (fun _ => 1#1)
    ∧ (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5))).2.2.2 = (fun _ => 1#1)

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Kernel12Ideal_finite12 [hPre_finite12 : Cert.Pre_finite12.Facts] (m : (ℓ : Loc Cert.Kernel12Ideal.nD Cert.Kernel12Ideal.τ Cert.Kernel12Ideal.sig) → Buf (Elt Ideal) ℓ) : Prop :=
  ∀ c : Dev Cert.Kernel12Ideal.nD,
    (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5)) (m ((c.tc : Thread Cert.Kernel12Ideal.nD Cert.Kernel12Ideal.τ).loc Cert.Kernel12Ideal.main_arg6)) (m ((c.tc : Thread Cert.Kernel12Ideal.nD Cert.Kernel12Ideal.τ).loc Cert.Kernel12Ideal.main_arg7))).1 = (fun _ => 1#1)
    ∧ (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5)) (m ((c.tc : Thread Cert.Kernel12Ideal.nD Cert.Kernel12Ideal.τ).loc Cert.Kernel12Ideal.main_arg6)) (m ((c.tc : Thread Cert.Kernel12Ideal.nD Cert.Kernel12Ideal.τ).loc Cert.Kernel12Ideal.main_arg7))).2.1 = (fun _ => 1#1)
    ∧ (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5)) (m ((c.tc : Thread Cert.Kernel12Ideal.nD Cert.Kernel12Ideal.τ).loc Cert.Kernel12Ideal.main_arg6)) (m ((c.tc : Thread Cert.Kernel12Ideal.nD Cert.Kernel12Ideal.τ).loc Cert.Kernel12Ideal.main_arg7))).2.2 = (fun _ => 1#1)

def Pre_Reference12Ideal (m : (ℓ : Loc Cert.Reference12Ideal.nD Cert.Reference12Ideal.τ Cert.Reference12Ideal.sig) → Buf (Elt Ideal) ℓ) : Prop :=
  True

def Pre_Reference12Ideal_finite12 [hPre_finite12 : Cert.Pre_finite12.Facts] (m : (ℓ : Loc Cert.Reference12Ideal.nD Cert.Reference12Ideal.τ Cert.Reference12Ideal.sig) → Buf (Elt Ideal) ℓ) : Prop :=
  ∀ c : Dev Cert.Reference12Ideal.nD,
    (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5)) (m ((c.tc : Thread Cert.Reference12Ideal.nD Cert.Reference12Ideal.τ).loc Cert.Reference12Ideal.main_arg6)) (m ((c.tc : Thread Cert.Reference12Ideal.nD Cert.Reference12Ideal.τ).loc Cert.Reference12Ideal.main_arg7))).1 = (fun _ => 1#1)
    ∧ (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5)) (m ((c.tc : Thread Cert.Reference12Ideal.nD Cert.Reference12Ideal.τ).loc Cert.Reference12Ideal.main_arg6)) (m ((c.tc : Thread Cert.Reference12Ideal.nD Cert.Reference12Ideal.τ).loc Cert.Reference12Ideal.main_arg7))).2.1 = (fun _ => 1#1)
    ∧ (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5)) (m ((c.tc : Thread Cert.Reference12Ideal.nD Cert.Reference12Ideal.τ).loc Cert.Reference12Ideal.main_arg6)) (m ((c.tc : Thread Cert.Reference12Ideal.nD Cert.Reference12Ideal.τ).loc Cert.Reference12Ideal.main_arg7))).2.2 = (fun _ => 1#1)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ r.2.sem = fun _ => 0)

def quiescent_Kernel11Ideal_pre_finite11 [hKernel11Ideal : Cert.Kernel11Ideal.Facts] [hPre_finite11 : Cert.Pre_finite11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal_finite11 m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5))
      ∧ r.2.sem = fun _ => 0)

def quiescent_Reference11Ideal_pre_finite11 [hReference11Ideal : Cert.Reference11Ideal.Facts] [hPre_finite11 : Cert.Pre_finite11.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_finite11 m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5)
      ∧ r.2.mem ((c.tc : Thread Cert.Kernel12.nD Cert.Kernel12.τ).loc Cert.Kernel12.main_arg6) = m ((c.tc : Thread Cert.Kernel12.nD Cert.Kernel12.τ).loc Cert.Kernel12.main_arg6)
      ∧ r.2.mem ((c.tc : Thread Cert.Kernel12.nD Cert.Kernel12.τ).loc Cert.Kernel12.main_arg7) = m ((c.tc : Thread Cert.Kernel12.nD Cert.Kernel12.τ).loc Cert.Kernel12.main_arg7))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
      ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7))
      ∧ r.2.sem = fun _ => 0)

def quiescent_Kernel12Ideal_pre_finite12 [hKernel12Ideal : Cert.Kernel12Ideal.Facts] [hPre_finite12 : Cert.Pre_finite12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal_finite12 m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
      ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6)
      ∧ r.2.mem ((c.tc : Thread Cert.Reference12Ideal.nD Cert.Reference12Ideal.τ).loc Cert.Reference12Ideal.main_arg7) = m ((c.tc : Thread Cert.Reference12Ideal.nD Cert.Reference12Ideal.τ).loc Cert.Reference12Ideal.main_arg7))
      ∧ r.2.sem = fun _ => 0)

def quiescent_Reference12Ideal_pre_finite12 [hReference12Ideal : Cert.Reference12Ideal.Facts] [hPre_finite12 : Cert.Pre_finite12.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal_finite12 m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6)
      ∧ r.2.mem ((c.tc : Thread Cert.Reference12Ideal.nD Cert.Reference12Ideal.τ).loc Cert.Reference12Ideal.main_arg7) = m ((c.tc : Thread Cert.Reference12Ideal.nD Cert.Reference12Ideal.τ).loc Cert.Reference12Ideal.main_arg7))
      ∧ r.2.sem = fun _ => 0)

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v30_0)) (v1 : (c : Dev Cert.Kernel2Ideal.nD) → Buf (Elt Ideal) ((c.tc : Thread Cert.Kernel2Ideal.nD Cert.Kernel2Ideal.τ).loc Cert.Kernel2Ideal.main_v30_1)) (v2 : (c : Dev Cert.Kernel2Ideal.nD) → Buf (Elt Ideal) ((c.tc : Thread Cert.Kernel2Ideal.nD Cert.Kernel2Ideal.τ).loc Cert.Kernel2Ideal.main_v30_2)) (v3 : (c : Dev Cert.Kernel2Ideal.nD) → Buf (Elt Ideal) ((c.tc : Thread Cert.Kernel2Ideal.nD Cert.Kernel2Ideal.τ).loc Cert.Kernel2Ideal.main_v30_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v30_0) = v0 c
          ∧ r.2.mem ((c.tc : Thread Cert.Kernel2Ideal.nD Cert.Kernel2Ideal.τ).loc Cert.Kernel2Ideal.main_v30_1) = v1 c
          ∧ r.2.mem ((c.tc : Thread Cert.Kernel2Ideal.nD Cert.Kernel2Ideal.τ).loc Cert.Kernel2Ideal.main_v30_2) = v2 c
          ∧ r.2.mem ((c.tc : Thread Cert.Kernel2Ideal.nD Cert.Kernel2Ideal.τ).loc Cert.Kernel2Ideal.main_v30_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v43) = v0 c
          ∧ r.2.mem ((c.tc : Thread Cert.Reference2Ideal.nD Cert.Reference2Ideal.τ).loc Cert.Reference2Ideal.main_v45) = v1 c
          ∧ r.2.mem ((c.tc : Thread Cert.Reference2Ideal.nD Cert.Reference2Ideal.τ).loc Cert.Reference2Ideal.main_v47) = v2 c
          ∧ r.2.mem ((c.tc : Thread Cert.Reference2Ideal.nD Cert.Reference2Ideal.τ).loc Cert.Reference2Ideal.main_v48) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v9_0)) (v1 : (c : Dev Cert.Kernel3Ideal.nD) → Buf (Elt Ideal) ((c.tc : Thread Cert.Kernel3Ideal.nD Cert.Kernel3Ideal.τ).loc Cert.Kernel3Ideal.main_v9_1)) (v2 : (c : Dev Cert.Kernel3Ideal.nD) → Buf (Elt Ideal) ((c.tc : Thread Cert.Kernel3Ideal.nD Cert.Kernel3Ideal.τ).loc Cert.Kernel3Ideal.main_v9_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9_0) = v0 c
          ∧ r.2.mem ((c.tc : Thread Cert.Kernel3Ideal.nD Cert.Kernel3Ideal.τ).loc Cert.Kernel3Ideal.main_v9_1) = v1 c
          ∧ r.2.mem ((c.tc : Thread Cert.Kernel3Ideal.nD Cert.Kernel3Ideal.τ).loc Cert.Kernel3Ideal.main_v9_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v28) = v0 c
          ∧ r.2.mem ((c.tc : Thread Cert.Reference3Ideal.nD Cert.Reference3Ideal.τ).loc Cert.Reference3Ideal.main_v16) = v1 c
          ∧ r.2.mem ((c.tc : Thread Cert.Reference3Ideal.nD Cert.Reference3Ideal.τ).loc Cert.Reference3Ideal.main_v20) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v2_0)) (v1 : (c : Dev Cert.Kernel4Ideal.nD) → Buf (Elt Ideal) ((c.tc : Thread Cert.Kernel4Ideal.nD Cert.Kernel4Ideal.τ).loc Cert.Kernel4Ideal.main_v2_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2_0) = v0 c
          ∧ r.2.mem ((c.tc : Thread Cert.Kernel4Ideal.nD Cert.Kernel4Ideal.τ).loc Cert.Kernel4Ideal.main_v2_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v37) = v0 c
          ∧ r.2.mem ((c.tc : Thread Cert.Reference4Ideal.nD Cert.Reference4Ideal.τ).loc Cert.Reference4Ideal.main_v38) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v1_0)) (v1 : (c : Dev Cert.Kernel5Ideal.nD) → Buf (Elt Ideal) ((c.tc : Thread Cert.Kernel5Ideal.nD Cert.Kernel5Ideal.τ).loc Cert.Kernel5Ideal.main_v1_1)) (v2 : (c : Dev Cert.Kernel5Ideal.nD) → Buf (Elt Ideal) ((c.tc : Thread Cert.Kernel5Ideal.nD Cert.Kernel5Ideal.τ).loc Cert.Kernel5Ideal.main_v1_2)) (v3 : (c : Dev Cert.Kernel5Ideal.nD) → Buf (Elt Ideal) ((c.tc : Thread Cert.Kernel5Ideal.nD Cert.Kernel5Ideal.τ).loc Cert.Kernel5Ideal.main_v1_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1_0) = v0 c
          ∧ r.2.mem ((c.tc : Thread Cert.Kernel5Ideal.nD Cert.Kernel5Ideal.τ).loc Cert.Kernel5Ideal.main_v1_1) = v1 c
          ∧ r.2.mem ((c.tc : Thread Cert.Kernel5Ideal.nD Cert.Kernel5Ideal.τ).loc Cert.Kernel5Ideal.main_v1_2) = v2 c
          ∧ r.2.mem ((c.tc : Thread Cert.Kernel5Ideal.nD Cert.Kernel5Ideal.τ).loc Cert.Kernel5Ideal.main_v1_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v17) = v0 c
          ∧ r.2.mem ((c.tc : Thread Cert.Reference5Ideal.nD Cert.Reference5Ideal.τ).loc Cert.Reference5Ideal.main_v18) = v1 c
          ∧ r.2.mem ((c.tc : Thread Cert.Reference5Ideal.nD Cert.Reference5Ideal.τ).loc Cert.Reference5Ideal.main_v19) = v2 c
          ∧ r.2.mem ((c.tc : Thread Cert.Reference5Ideal.nD Cert.Reference5Ideal.τ).loc Cert.Reference5Ideal.main_v7) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  IdealRules.named_const.Statement Cert.Kernel6Ideal.κ "masked" .f32 0xF149F2CA#32 ⊥

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v71) = v0 c
          ∧ r.2.mem ((c.tc : Thread Cert.Reference6Ideal.nD Cert.Reference6Ideal.τ).loc Cert.Reference6Ideal.main_v77) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)) (v3 : (c : Dev Cert.Kernel7Ideal.nD) → Buf (Elt Ideal) ((c.tc : Thread Cert.Kernel7Ideal.nD Cert.Kernel7Ideal.τ).loc Cert.Kernel7Ideal.main_v0_3)) (v4 : (c : Dev Cert.Kernel7Ideal.nD) → Buf (Elt Ideal) ((c.tc : Thread Cert.Kernel7Ideal.nD Cert.Kernel7Ideal.τ).loc Cert.Kernel7Ideal.main_v0_4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_v0_3) = v3 c
          ∧ r.2.mem ((c.tc : Thread Cert.Kernel7Ideal.nD Cert.Kernel7Ideal.τ).loc Cert.Kernel7Ideal.main_v0_4) = v4 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_arg5) = v0 c
          ∧ r.2.mem ((c.tc : Thread Cert.Reference7Ideal.nD Cert.Reference7Ideal.τ).loc Cert.Reference7Ideal.main_v43) = v1 c
          ∧ r.2.mem ((c.tc : Thread Cert.Reference7Ideal.nD Cert.Reference7Ideal.τ).loc Cert.Reference7Ideal.main_v50) = v2 c
          ∧ r.2.mem ((c.tc : Thread Cert.Reference7Ideal.nD Cert.Reference7Ideal.τ).loc Cert.Reference7Ideal.main_v65) = v3 c
          ∧ r.2.mem ((c.tc : Thread Cert.Reference7Ideal.nD Cert.Reference7Ideal.τ).loc Cert.Reference7Ideal.main_v41) = v4 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v1_0)) (v1 : (c : Dev Cert.Kernel8Ideal.nD) → Buf (Elt Ideal) ((c.tc : Thread Cert.Kernel8Ideal.nD Cert.Kernel8Ideal.τ).loc Cert.Kernel8Ideal.main_v1_1)) (v2 : (c : Dev Cert.Kernel8Ideal.nD) → Buf (Elt Ideal) ((c.tc : Thread Cert.Kernel8Ideal.nD Cert.Kernel8Ideal.τ).loc Cert.Kernel8Ideal.main_v1_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1_0) = v0 c
          ∧ r.2.mem ((c.tc : Thread Cert.Kernel8Ideal.nD Cert.Kernel8Ideal.τ).loc Cert.Kernel8Ideal.main_v1_1) = v1 c
          ∧ r.2.mem ((c.tc : Thread Cert.Kernel8Ideal.nD Cert.Kernel8Ideal.τ).loc Cert.Kernel8Ideal.main_v1_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v44) = v0 c
          ∧ r.2.mem ((c.tc : Thread Cert.Reference8Ideal.nD Cert.Reference8Ideal.τ).loc Cert.Reference8Ideal.main_v45) = v1 c
          ∧ r.2.mem ((c.tc : Thread Cert.Reference8Ideal.nD Cert.Reference8Ideal.τ).loc Cert.Reference8Ideal.main_v22) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)) →
    ∃ (v0 : (c : Dev Cert.Kernel9Ideal.nD) → Buf (Elt Ideal) ((c.tc : Thread Cert.Kernel9Ideal.nD Cert.Kernel9Ideal.τ).loc Cert.Kernel9Ideal.main_v1_0)) (v1 : (c : Dev Cert.Kernel9Ideal.nD) → Buf (Elt Ideal) ((c.tc : Thread Cert.Kernel9Ideal.nD Cert.Kernel9Ideal.τ).loc Cert.Kernel9Ideal.main_v1_1)) (v2 : (c : Dev Cert.Kernel9Ideal.nD) → Buf (Elt Ideal) ((c.tc : Thread Cert.Kernel9Ideal.nD Cert.Kernel9Ideal.τ).loc Cert.Kernel9Ideal.main_v1_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1_0) = v0 c
          ∧ r.2.mem ((c.tc : Thread Cert.Kernel9Ideal.nD Cert.Kernel9Ideal.τ).loc Cert.Kernel9Ideal.main_v1_1) = v1 c
          ∧ r.2.mem ((c.tc : Thread Cert.Kernel9Ideal.nD Cert.Kernel9Ideal.τ).loc Cert.Kernel9Ideal.main_v1_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v44) = v0 c
          ∧ r.2.mem ((c.tc : Thread Cert.Reference9Ideal.nD Cert.Reference9Ideal.τ).loc Cert.Reference9Ideal.main_v45) = v1 c
          ∧ r.2.mem ((c.tc : Thread Cert.Reference9Ideal.nD Cert.Reference9Ideal.τ).loc Cert.Reference9Ideal.main_v22) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)) →
    ∃ (v0 : (c : Dev Cert.Kernel10Ideal.nD) → Buf (Elt Ideal) ((c.tc : Thread Cert.Kernel10Ideal.nD Cert.Kernel10Ideal.τ).loc Cert.Kernel10Ideal.main_v3_0)) (v1 : (c : Dev Cert.Kernel10Ideal.nD) → Buf (Elt Ideal) ((c.tc : Thread Cert.Kernel10Ideal.nD Cert.Kernel10Ideal.τ).loc Cert.Kernel10Ideal.main_v3_1)) (v2 : (c : Dev Cert.Kernel10Ideal.nD) → Buf (Elt Ideal) ((c.tc : Thread Cert.Kernel10Ideal.nD Cert.Kernel10Ideal.τ).loc Cert.Kernel10Ideal.main_v3_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v3_0) = v0 c
          ∧ r.2.mem ((c.tc : Thread Cert.Kernel10Ideal.nD Cert.Kernel10Ideal.τ).loc Cert.Kernel10Ideal.main_v3_1) = v1 c
          ∧ r.2.mem ((c.tc : Thread Cert.Kernel10Ideal.nD Cert.Kernel10Ideal.τ).loc Cert.Kernel10Ideal.main_v3_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v19) = v0 c
          ∧ r.2.mem ((c.tc : Thread Cert.Reference10Ideal.nD Cert.Reference10Ideal.τ).loc Cert.Reference10Ideal.main_v20) = v1 c
          ∧ r.2.mem ((c.tc : Thread Cert.Reference10Ideal.nD Cert.Reference10Ideal.τ).loc Cert.Reference10Ideal.main_v21) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5))

def preserves_Kernel11_Kernel11Ideal : Prop :=
  True

def algebraic_Kernel11Ideal_Reference11Ideal_pre_finite11 [hKernel11Ideal : Cert.Kernel11Ideal.Facts] [hReference11Ideal : Cert.Reference11Ideal.Facts] [hPre_finite11 : Cert.Pre_finite11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal_finite11 m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)) →
    ∃ (v0 : (c : Dev Cert.Kernel11Ideal.nD) → Buf (Elt Ideal) ((c.tc : Thread Cert.Kernel11Ideal.nD Cert.Kernel11Ideal.τ).loc Cert.Kernel11Ideal.main_v2_0)) (v1 : (c : Dev Cert.Kernel11Ideal.nD) → Buf (Elt Ideal) ((c.tc : Thread Cert.Kernel11Ideal.nD Cert.Kernel11Ideal.τ).loc Cert.Kernel11Ideal.main_v2_1)) (v2 : (c : Dev Cert.Kernel11Ideal.nD) → Buf (Elt Ideal) ((c.tc : Thread Cert.Kernel11Ideal.nD Cert.Kernel11Ideal.τ).loc Cert.Kernel11Ideal.main_v2_2)) (v3 : (c : Dev Cert.Kernel11Ideal.nD) → Buf (Elt Ideal) ((c.tc : Thread Cert.Kernel11Ideal.nD Cert.Kernel11Ideal.τ).loc Cert.Kernel11Ideal.main_v2_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2_0) = v0 c
          ∧ r.2.mem ((c.tc : Thread Cert.Kernel11Ideal.nD Cert.Kernel11Ideal.τ).loc Cert.Kernel11Ideal.main_v2_1) = v1 c
          ∧ r.2.mem ((c.tc : Thread Cert.Kernel11Ideal.nD Cert.Kernel11Ideal.τ).loc Cert.Kernel11Ideal.main_v2_2) = v2 c
          ∧ r.2.mem ((c.tc : Thread Cert.Kernel11Ideal.nD Cert.Kernel11Ideal.τ).loc Cert.Kernel11Ideal.main_v2_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v82) = v0 c
          ∧ r.2.mem ((c.tc : Thread Cert.Reference11Ideal.nD Cert.Reference11Ideal.τ).loc Cert.Reference11Ideal.main_v83) = v1 c
          ∧ r.2.mem ((c.tc : Thread Cert.Reference11Ideal.nD Cert.Reference11Ideal.τ).loc Cert.Reference11Ideal.main_v60) = v2 c
          ∧ r.2.mem ((c.tc : Thread Cert.Reference11Ideal.nD Cert.Reference11Ideal.τ).loc Cert.Reference11Ideal.main_v84) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5))

def preserves_Kernel12_Kernel12Ideal : Prop :=
  True

def algebraic_Kernel12Ideal_Reference12Ideal_pre_finite12 [hKernel12Ideal : Cert.Kernel12Ideal.Facts] [hReference12Ideal : Cert.Reference12Ideal.Facts] [hPre_finite12 : Cert.Pre_finite12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal_finite12 m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)
      ∧ m' ((c.tc : Thread Cert.Reference12Ideal.nD Cert.Reference12Ideal.τ).loc Cert.Reference12Ideal.main_arg6) = m ((c.tc : Thread Cert.Kernel12Ideal.nD Cert.Kernel12Ideal.τ).loc Cert.Kernel12Ideal.main_arg6)
      ∧ m' ((c.tc : Thread Cert.Reference12Ideal.nD Cert.Reference12Ideal.τ).loc Cert.Reference12Ideal.main_arg7) = m ((c.tc : Thread Cert.Kernel12Ideal.nD Cert.Kernel12Ideal.τ).loc Cert.Kernel12Ideal.main_arg7)) →
    ∃ (v0 : (c : Dev Cert.Kernel12Ideal.nD) → Buf (Elt Ideal) ((c.tc : Thread Cert.Kernel12Ideal.nD Cert.Kernel12Ideal.τ).loc Cert.Kernel12Ideal.main_v3_0)) (v1 : (c : Dev Cert.Kernel12Ideal.nD) → Buf (Elt Ideal) ((c.tc : Thread Cert.Kernel12Ideal.nD Cert.Kernel12Ideal.τ).loc Cert.Kernel12Ideal.main_v3_1)) (v2 : (c : Dev Cert.Kernel12Ideal.nD) → Buf (Elt Ideal) ((c.tc : Thread Cert.Kernel12Ideal.nD Cert.Kernel12Ideal.τ).loc Cert.Kernel12Ideal.main_v3_2)) (v3 : (c : Dev Cert.Kernel12Ideal.nD) → Buf (Elt Ideal) ((c.tc : Thread Cert.Kernel12Ideal.nD Cert.Kernel12Ideal.τ).loc Cert.Kernel12Ideal.main_v3_3)) (v4 : (c : Dev Cert.Kernel12Ideal.nD) → Buf (Elt Ideal) ((c.tc : Thread Cert.Kernel12Ideal.nD Cert.Kernel12Ideal.τ).loc Cert.Kernel12Ideal.main_v3_4)) (v5 : (c : Dev Cert.Kernel12Ideal.nD) → Buf (Elt Ideal) ((c.tc : Thread Cert.Kernel12Ideal.nD Cert.Kernel12Ideal.τ).loc Cert.Kernel12Ideal.main_v3_5)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v3_0) = v0 c
          ∧ r.2.mem ((c.tc : Thread Cert.Kernel12Ideal.nD Cert.Kernel12Ideal.τ).loc Cert.Kernel12Ideal.main_v3_1) = v1 c
          ∧ r.2.mem ((c.tc : Thread Cert.Kernel12Ideal.nD Cert.Kernel12Ideal.τ).loc Cert.Kernel12Ideal.main_v3_2) = v2 c
          ∧ r.2.mem ((c.tc : Thread Cert.Kernel12Ideal.nD Cert.Kernel12Ideal.τ).loc Cert.Kernel12Ideal.main_v3_3) = v3 c
          ∧ r.2.mem ((c.tc : Thread Cert.Kernel12Ideal.nD Cert.Kernel12Ideal.τ).loc Cert.Kernel12Ideal.main_v3_4) = v4 c
          ∧ r.2.mem ((c.tc : Thread Cert.Kernel12Ideal.nD Cert.Kernel12Ideal.τ).loc Cert.Kernel12Ideal.main_v3_5) = v5 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
          ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
          ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v14) = v0 c
          ∧ r.2.mem ((c.tc : Thread Cert.Reference12Ideal.nD Cert.Reference12Ideal.τ).loc Cert.Reference12Ideal.main_v15) = v1 c
          ∧ r.2.mem ((c.tc : Thread Cert.Reference12Ideal.nD Cert.Reference12Ideal.τ).loc Cert.Reference12Ideal.main_v16) = v2 c
          ∧ r.2.mem ((c.tc : Thread Cert.Reference12Ideal.nD Cert.Reference12Ideal.τ).loc Cert.Reference12Ideal.main_v46) = v3 c
          ∧ r.2.mem ((c.tc : Thread Cert.Reference12Ideal.nD Cert.Reference12Ideal.τ).loc Cert.Reference12Ideal.main_v76) = v4 c
          ∧ r.2.mem ((c.tc : Thread Cert.Reference12Ideal.nD Cert.Reference12Ideal.τ).loc Cert.Reference12Ideal.main_v92) = v5 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5)
          ∧ r.2.mem ((c.tc : Thread Cert.Reference12Ideal.nD Cert.Reference12Ideal.τ).loc Cert.Reference12Ideal.main_arg6) = m' ((c.tc : Thread Cert.Reference12Ideal.nD Cert.Reference12Ideal.τ).loc Cert.Reference12Ideal.main_arg6)
          ∧ r.2.mem ((c.tc : Thread Cert.Reference12Ideal.nD Cert.Reference12Ideal.τ).loc Cert.Reference12Ideal.main_arg7) = m' ((c.tc : Thread Cert.Reference12Ideal.nD Cert.Reference12Ideal.τ).loc Cert.Reference12Ideal.main_arg7))

def Claim : Prop :=
  ∃ (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hPre_finite2 : Cert.Pre_finite2.Facts) (hPre_finite6 : Cert.Pre_finite6.Facts) (hPre_finite7 : Cert.Pre_finite7.Facts) (hPre_finite11 : Cert.Pre_finite11.Facts) (hPre_finite12 : Cert.Pre_finite12.Facts),
    quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Kernel11Ideal_pre_finite11 (hKernel11Ideal := hKernel11Ideal) (hPre_finite11 := hPre_finite11)
    ∧ quiescent_Reference11Ideal (hReference11Ideal := hReference11Ideal)
    ∧ quiescent_Reference11Ideal_pre_finite11 (hReference11Ideal := hReference11Ideal) (hPre_finite11 := hPre_finite11)
    ∧ quiescent_Kernel12 (hKernel12 := hKernel12)
    ∧ quiescent_Kernel12Ideal (hKernel12Ideal := hKernel12Ideal)
    ∧ quiescent_Kernel12Ideal_pre_finite12 (hKernel12Ideal := hKernel12Ideal) (hPre_finite12 := hPre_finite12)
    ∧ quiescent_Reference12Ideal (hReference12Ideal := hReference12Ideal)
    ∧ quiescent_Reference12Ideal_pre_finite12 (hReference12Ideal := hReference12Ideal) (hPre_finite12 := hPre_finite12)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel7_Kernel7Ideal
    ∧ algebraic_Kernel7Ideal_Reference7Ideal_pre_finite7 (hKernel7Ideal := hKernel7Ideal) (hReference7Ideal := hReference7Ideal) (hPre_finite7 := hPre_finite7)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal_pre_finite11 (hKernel11Ideal := hKernel11Ideal) (hReference11Ideal := hReference11Ideal) (hPre_finite11 := hPre_finite11)
    ∧ preserves_Kernel12_Kernel12Ideal
    ∧ algebraic_Kernel12Ideal_Reference12Ideal_pre_finite12 (hKernel12Ideal := hKernel12Ideal) (hReference12Ideal := hReference12Ideal) (hPre_finite12 := hPre_finite12)
-- ==== Pre_finite11.lean ====
abbrev S4096x1024 : Shape := ⟨2, ![4096, 1024]⟩
abbrev S1024 : Shape := ⟨1, ![1024]⟩
abbrev S1024x768 : Shape := ⟨2, ![1024, 768]⟩
abbrev S64 : Shape := ⟨1, ![64]⟩
abbrev S6x4096x128 : Shape := ⟨3, ![6, 4096, 128]⟩
abbrev S_ : Shape := ⟨0, ![]⟩

class Facts : Prop where
  bcast_S_S1024 : S_.BroadcastsInDim S1024 (![] : Fin 0 → Fin S1024.rank)
  bcast_S_S1024x768 : S_.BroadcastsInDim S1024x768 (![] : Fin 0 → Fin S1024x768.rank)
  bcast_S_S64 : S_.BroadcastsInDim S64 (![] : Fin 0 → Fin S64.rank)
  bcast_S_S6x4096x128 : S_.BroadcastsInDim S6x4096x128 (![] : Fin 0 → Fin S6x4096x128.rank)

variable [Facts]

def fn {F : FTy → Type} [FloatOps F] (main_arg0 : FVec F S4096x1024 .f32) (main_arg1 : FVec F S1024 .f32) (main_arg2 : FVec F S1024x768 .f32) (main_arg3 : FVec F S64 .f32) (main_arg4 : FVec F S6x4096x128 .f32) (main_arg5 : FVec F S4096x1024 .f32) : IVec S1024 1 × IVec S1024x768 1 × IVec S64 1 × IVec S6x4096x128 1 :=
  let main_v0 : FVec F S1024 .f32 := subf main_arg1 main_arg1
  let main_cst : FVec F S_ .f32 := constant S_ .f32 0x00000000#32
  let main_v1 : FVec F S1024 .f32 := broadcastInDim S1024 ![] bcast_S_S1024 main_cst
  let main_v2 : IVec S1024 1 := cmpf .oeq main_v0 main_v1
  let main_v3 : FVec F S1024x768 .f32 := subf main_arg2 main_arg2
  let main_cst_0 : FVec F S_ .f32 := constant S_ .f32 0x00000000#32
  let main_v4 : FVec F S1024x768 .f32 := broadcastInDim S1024x768 ![] bcast_S_S1024x768 main_cst_0
  let main_v5 : IVec S1024x768 1 := cmpf .oeq main_v3 main_v4
  let main_v6 : FVec F S64 .f32 := subf main_arg3 main_arg3
  let main_cst_1 : FVec F S_ .f32 := constant S_ .f32 0x00000000#32
  let main_v7 : FVec F S64 .f32 := broadcastInDim S64 ![] bcast_S_S64 main_cst_1
  let main_v8 : IVec S64 1 := cmpf .oeq main_v6 main_v7
  let main_v9 : FVec F S6x4096x128 .f32 := subf main_arg4 main_arg4
  let main_cst_2 : FVec F S_ .f32 := constant S_ .f32 0x00000000#32
  let main_v10 : FVec F S6x4096x128 .f32 := broadcastInDim S6x4096x128 ![] bcast_S_S6x4096x128 main_cst_2
  let main_v11 : IVec S6x4096x128 1 := cmpf .oeq main_v9 main_v10
  (main_v2, main_v5, main_v8, main_v11)
-- ==== Pre_finite12.lean ====
abbrev S4096x1024 : Shape := ⟨2, ![4096, 1024]⟩
abbrev S1024 : Shape := ⟨1, ![1024]⟩
abbrev S1024x768 : Shape := ⟨2, ![1024, 768]⟩
abbrev S64 : Shape := ⟨1, ![64]⟩
abbrev S_ : Shape := ⟨0, ![]⟩

class Facts : Prop where
  bcast_S_S1024 : S_.BroadcastsInDim S1024 (![] : Fin 0 → Fin S1024.rank)
  bcast_S_S1024x768 : S_.BroadcastsInDim S1024x768 (![] : Fin 0 → Fin S1024x768.rank)

variable [Facts]

def fn {F : FTy → Type} [FloatOps F] (main_arg0 : FVec F S4096x1024 .f32) (main_arg1 : FVec F S1024 .f32) (main_arg2 : FVec F S1024x768 .f32) (main_arg3 : FVec F S1024x768 .f32) (main_arg4 : FVec F S1024x768 .f32) (main_arg5 : FVec F S1024x768 .f32) (main_arg6 : FVec F S64 .f32) (main_arg7 : FVec F S64 .f32) : IVec S1024 1 × IVec S1024x768 1 × IVec S1024x768 1 :=
  let main_v0 : FVec F S1024 .f32 := subf main_arg1 main_arg1
  let main_cst : FVec F S_ .f32 := constant S_ .f32 0x00000000#32
  let main_v1 : FVec F S1024 .f32 := broadcastInDim S1024 ![] bcast_S_S1024 main_cst
  let main_v2 : IVec S1024 1 := cmpf .oeq main_v0 main_v1
  let main_v3 : FVec F S1024x768 .f32 := subf main_arg3 main_arg3
  let main_cst_0 : FVec F S_ .f32 := constant S_ .f32 0x00000000#32
  let main_v4 : FVec F S1024x768 .f32 := broadcastInDim S1024x768 ![] bcast_S_S1024x768 main_cst_0
  let main_v5 : IVec S1024x768 1 := cmpf .oeq main_v3 main_v4
  let main_v6 : FVec F S1024x768 .f32 := subf main_arg4 main_arg4
  let main_cst_1 : FVec F S_ .f32 := constant S_ .f32 0x00000000#32
  let main_v7 : FVec F S1024x768 .f32 := broadcastInDim S1024x768 ![] bcast_S_S1024x768 main_cst_1
  let main_v8 : IVec S1024x768 1 := cmpf .oeq main_v6 main_v7
  (main_v2, main_v5, main_v8)
-- ==== Pre_finite2.lean ====
abbrev S4096x1024 : Shape := ⟨2, ![4096, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S1024 : S_.BroadcastsInDim S1024 (![] : Fin 0 → Fin S1024.rank)
  bcast_S_S1024x2816 : S_.BroadcastsInDim S1024x2816 (![] : Fin 0 → Fin S1024x2816.rank)
  bcast_S_S2816x1024 : S_.BroadcastsInDim S2816x1024 (![] : Fin 0 → Fin S2816x1024.rank)
  bcast_S_S4096x1024 : S_.BroadcastsInDim S4096x1024 (![] : Fin 0 → Fin S4096x1024.rank)

variable [Facts]

def fn {F : FTy → Type} [FloatOps F] (main_arg0 : FVec F S4096x1024 .f32) (main_arg1 : FVec F S1024 .f32) (main_arg2 : FVec F S1024x2816 .f32) (main_arg3 : FVec F S1024x2816 .f32) (main_arg4 : FVec F S2816x1024 .f32) (main_arg5 : FVec F S4096x1024 .f32) : IVec S1024 1 × IVec S1024x2816 1 × IVec S2816x1024 1 × IVec S4096x1024 1 :=
  let main_v0 : FVec F S1024 .f32 := subf main_arg1 main_arg1
  let main_cst : FVec F S_ .f32 := constant S_ .f32 0x00000000#32
  let main_v1 : FVec F S1024 .f32 := broadcastInDim S1024 ![] bcast_S_S1024 main_cst
  let main_v2 : IVec S1024 1 := cmpf .oeq main_v0 main_v1
  let main_v3 : FVec F S1024x2816 .f32 := subf main_arg3 main_arg3
  let main_cst_0 : FVec F S_ .f32 := constant S_ .f32 0x00000000#32
  let main_v4 : FVec F S1024x2816 .f32 := broadcastInDim S1024x2816 ![] bcast_S_S1024x2816 main_cst_0
  let main_v5 : IVec S1024x2816 1 := cmpf .oeq main_v3 main_v4
  let main_v6 : FVec F S2816x1024 .f32 := subf main_arg4 main_arg4
  let main_cst_1 : FVec F S_ .f32 := constant S_ .f32 0x00000000#32
  let main_v7 : FVec F S2816x1024 .f32 := broadcastInDim S2816x1024 ![] bcast_S_S2816x1024 main_cst_1
  let main_v8 : IVec S2816x1024 1 := cmpf .oeq main_v6 main_v7
  let main_v9 : FVec F S4096x1024 .f32 := subf main_arg5 main_arg5
  let main_cst_2 : FVec F S_ .f32 := constant S_ .f32 0x00000000#32
  let main_v10 : FVec F S4096x1024 .f32 := broadcastInDim S4096x1024 ![] bcast_S_S4096x1024 main_cst_2
  let main_v11 : IVec S4096x1024 1 := cmpf .oeq main_v9 main_v10
  (main_v2, main_v5, main_v8, main_v11)
-- ==== Pre_finite6.lean ====
abbrev S6x4096x128 : Shape := ⟨3, ![6, 4096, 128]⟩
abbrev S12x128x256 : Shape := ⟨3, ![12, 128, 256]⟩
abbrev S_ : Shape := ⟨0, ![]⟩

class Facts : Prop where
  bcast_S_S6x4096x128 : S_.BroadcastsInDim S6x4096x128 (![] : Fin 0 → Fin S6x4096x128.rank)
  bcast_S_S12x128x256 : S_.BroadcastsInDim S12x128x256 (![] : Fin 0 → Fin S12x128x256.rank)

variable [Facts]

def fn {F : FTy → Type} [FloatOps F] (main_arg0 : FVec F S6x4096x128 .f32) (main_arg1 : FVec F S6x4096x128 .f32) (main_arg2 : FVec F S6x4096x128 .f32) (main_arg3 : FVec F S12x128x256 .f32) : IVec S6x4096x128 1 × IVec S6x4096x128 1 × IVec S12x128x256 1 :=
  let main_v0 : FVec F S6x4096x128 .f32 := subf main_arg0 main_arg0
  let main_cst : FVec F S_ .f32 := constant S_ .f32 0x00000000#32
  let main_v1 : FVec F S6x4096x128 .f32 := broadcastInDim S6x4096x128 ![] bcast_S_S6x4096x128 main_cst
  let main_v2 : IVec S6x4096x128 1 := cmpf .oeq main_v0 main_v1
  let main_v3 : FVec F S6x4096x128 .f32 := subf main_arg1 main_arg1
  let main_cst_0 : FVec F S_ .f32 := constant S_ .f32 0x00000000#32
  let main_v4 : FVec F S6x4096x128 .f32 := broadcastInDim S6x4096x128 ![] bcast_S_S6x4096x128 main_cst_0
  let main_v5 : IVec S6x4096x128 1 := cmpf .oeq main_v3 main_v4
  let main_v6 : FVec F S12x128x256 .f32 := subf main_arg3 main_arg3
  let main_cst_1 : FVec F S_ .f32 := constant S_ .f32 0x00000000#32
  let main_v7 : FVec F S12x128x256 .f32 := broadcastInDim S12x128x256 ![] bcast_S_S12x128x256 main_cst_1
  let main_v8 : IVec S12x128x256 1 := cmpf .oeq main_v6 main_v7
  (main_v2, main_v5, main_v8)
-- ==== Pre_finite7.lean ====
abbrev S4096x1024 : Shape := ⟨2, ![4096, 1024]⟩
abbrev S4096x256 : Shape := ⟨2, ![4096, 256]⟩
abbrev S6x4096x128 : Shape := ⟨3, ![6, 4096, 128]⟩
abbrev S512x1024 : Shape := ⟨2, ![512, 1024]⟩
abbrev S_ : Shape := ⟨0, ![]⟩

class Facts : Prop where
  bcast_S_S6x4096x128 : S_.BroadcastsInDim S6x4096x128 (![] : Fin 0 → Fin S6x4096x128.rank)
  bcast_S_S512x1024 : S_.BroadcastsInDim S512x1024 (![] : Fin 0 → Fin S512x1024.rank)
  bcast_S_S4096x1024 : S_.BroadcastsInDim S4096x1024 (![] : Fin 0 → Fin S4096x1024.rank)

variable [Facts]

def fn {F : FTy → Type} [FloatOps F] (main_arg0 : FVec F S4096x1024 .f32) (main_arg1 : FVec F S4096x256 .f32) (main_arg2 : FVec F S6x4096x128 .f32) (main_arg3 : FVec F S6x4096x128 .f32) (main_arg4 : FVec F S512x1024 .f32) (main_arg5 : FVec F S4096x1024 .f32) : IVec S6x4096x128 1 × IVec S6x4096x128 1 × IVec S512x1024 1 × IVec S4096x1024 1 :=
  let main_v0 : FVec F S6x4096x128 .f32 := subf main_arg2 main_arg2
  let main_cst : FVec F S_ .f32 := constant S_ .f32 0x00000000#32
  let main_v1 : FVec F S6x4096x128 .f32 := broadcastInDim S6x4096x128 ![] bcast_S_S6x4096x128 main_cst
  let main_v2 : IVec S6x4096x128 1 := cmpf .oeq main_v0 main_v1
  let main_v3 : FVec F S6x4096x128 .f32 := subf main_arg3 main_arg3
  let main_cst_0 : FVec F S_ .f32 := constant S_ .f32 0x00000000#32
  let main_v4 : FVec F S6x4096x128 .f32 := broadcastInDim S6x4096x128 ![] bcast_S_S6x4096x128 main_cst_0
  let main_v5 : IVec S6x4096x128 1 := cmpf .oeq main_v3 main_v4
  let main_v6 : FVec F S512x1024 .f32 := subf main_arg4 main_arg4
  let main_cst_1 : FVec F S_ .f32 := constant S_ .f32 0x00000000#32
  let main_v7 : FVec F S512x1024 .f32 := broadcastInDim S512x1024 ![] bcast_S_S512x1024 main_cst_1
  let main_v8 : IVec S512x1024 1 := cmpf .oeq main_v6 main_v7
  let main_v9 : FVec F S4096x1024 .f32 := subf main_arg5 main_arg5
  let main_cst_2 : FVec F S_ .f32 := constant S_ .f32 0x00000000#32
  let main_v10 : FVec F S4096x1024 .f32 := broadcastInDim S4096x1024 ![] bcast_S_S4096x1024 main_cst_2
  let main_v11 : IVec S4096x1024 1 := cmpf .oeq main_v9 main_v10
  (main_v2, main_v5, main_v8, main_v11)
-- ==== Kernel2.lean ====
abbrev S4096x1024 : Shape := ⟨2, ![4096, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2816 : Shape := ⟨2, ![4096, 2816]⟩
abbrev S4096x4x704 : Shape := ⟨3, ![4096, 4, 704]⟩
abbrev S4x4096x704 : Shape := ⟨3, ![4, 4096, 704]⟩
abbrev S1024x4x704 : Shape := ⟨3, ![1024, 4, 704]⟩
abbrev S4x1024x704 : Shape := ⟨3, ![4, 1024, 704]⟩
abbrev S4x704x1024 : Shape := ⟨3, ![4, 704, 1024]⟩
abbrev S4x4096x1024 : Shape := ⟨3, ![4, 4096, 1024]⟩
abbrev S512x1024 : Shape := ⟨2, ![512, 1024]⟩
abbrev S1x1024x704 : Shape := ⟨3, ![1, 1024, 704]⟩
abbrev S1x704x1024 : Shape := ⟨3, ![1, 704, 1024]⟩
abbrev S1x512x704 : Shape := ⟨3, ![1, 512, 704]⟩
abbrev S1x512x1024 : Shape := ⟨3, ![1, 512, 1024]⟩
abbrev S512 : Shape := ⟨1, ![512]⟩
abbrev S512x1 : Shape := ⟨2, ![512, 1]⟩
abbrev S1024x704 : Shape := ⟨2, ![1024, 704]⟩
abbrev S704x1024 : Shape := ⟨2, ![704, 1024]⟩
abbrev S512x704 : Shape := ⟨2, ![512, 704]⟩

abbrev nBuf : Space → Nat
  | .hbm => 43
  | .vmem => 23
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x2816, .f32⟩
  | .hbm, ⟨23, _⟩ => ⟨S4096x4x704, .f32⟩
  | .hbm, ⟨24, _⟩ => ⟨S4x4096x704, .f32⟩
  | .hbm, ⟨25, _⟩ => ⟨S4x4096x704, .bf16⟩
  | .hbm, ⟨26, _⟩ => ⟨S4096x2816, .f32⟩
  | .hbm, ⟨27, _⟩ => ⟨S4096x4x704, .f32⟩
  | .hbm, ⟨28, _⟩ => ⟨S4x4096x704, .f32⟩
  | .hbm, ⟨29, _⟩ => ⟨S4x4096x704, .bf16⟩
  | .hbm, ⟨30, _⟩ => ⟨S1x1024, .f32⟩
  | .hbm, ⟨31, _⟩ => ⟨S1024x4x704, .f32⟩
  | .hbm, ⟨32, _⟩ => ⟨S4x1024x704, .f32⟩
  | .hbm, ⟨33, _⟩ => ⟨S4x1024x704, .bf16⟩
  | .hbm, ⟨34, _⟩ => ⟨S1024x4x704, .f32⟩
  | .hbm, ⟨35, _⟩ => ⟨S4x1024x704, .f32⟩
  | .hbm, ⟨36, _⟩ => ⟨S4x1024x704, .bf16⟩
  | .hbm, ⟨37, _⟩ => ⟨S4x704x1024, .f32⟩
  | .hbm, ⟨38, _⟩ => ⟨S4x704x1024, .bf16⟩
  | .hbm, ⟨39, _⟩ => ⟨S4x4096x1024, .bf16⟩
  | .hbm, ⟨40, _⟩ => ⟨S4x704x1024, .f32⟩
  | .hbm, ⟨41, _⟩ => ⟨S4x704x1024, .f32⟩
  | .hbm, ⟨42, _⟩ => ⟨S4x704x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x704, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x1024x704, .bf16⟩
  | .local _ .vmem, ⟨7, _⟩ => ⟨S1x704x1024, .bf16⟩
  | .local _ .vmem, ⟨8, _⟩ => ⟨S1x704x1024, .bf16⟩
  | .local _ .vmem, ⟨9, _⟩ => ⟨S512x1024, .f32⟩
  | .local _ .vmem, ⟨10, _⟩ => ⟨S512x1024, .f32⟩
  | .local _ .vmem, ⟨11, _⟩ => ⟨S1x512x704, .bf16⟩
  | .local _ .vmem, ⟨12, _⟩ => ⟨S1x512x704, .bf16⟩
  | .local _ .vmem, ⟨13, _⟩ => ⟨S1x512x704, .bf16⟩
  | .local _ .vmem, ⟨14, _⟩ => ⟨S1x512x704, .bf16⟩
  | .local _ .vmem, ⟨15, _⟩ => ⟨S1x512x1024, .bf16⟩
  | .local _ .vmem, ⟨16, _⟩ => ⟨S1x512x1024, .bf16⟩
  | .local _ .vmem, ⟨17, _⟩ => ⟨S1x704x1024, .f32⟩
  | .local _ .vmem, ⟨18, _⟩ => ⟨S1x704x1024, .f32⟩
  | .local _ .vmem, ⟨19, _⟩ => ⟨S1x704x1024, .f32⟩
  | .local _ .vmem, ⟨20, _⟩ => ⟨S1x704x1024, .f32⟩
  | .local _ .vmem, ⟨21, _⟩ => ⟨S1x704x1024, .f32⟩
  | .local _ .vmem, ⟨22, _⟩ => ⟨S1x704x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30_0 : Ref sig .tc := ⟨.hbm, 39, rfl⟩
abbrev main_v30_1 : Ref sig .tc := ⟨.hbm, 40, rfl⟩
abbrev main_v30_2 : Ref sig .tc := ⟨.hbm, 41, rfl⟩
abbrev main_v30_3 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c0_i32 : BitVec 32 := 0#32
  let v61 : BitVec 1 := Scalar.cmpi .eq arg1 c0_i32
  let v62 : BitVec 32 := Scalar.extui v61
  let c0_i32_34 : BitVec 32 := 0#32
  let v63 : BitVec 1 := Scalar.cmpi .ne v62 c0_i32_34
  v63

def k0_cond2 (i : grid0.Coords) : BitVec 1 :=
  let arg1 : BitVec 32 := BitVec.ofNat 32 (i 1).val
  let c0_i32_35 : BitVec 32 := 0#32
  let v64 : BitVec 1 := Scalar.cmpi .ne arg1 c0_i32_35
  let v65 : BitVec 32 := Scalar.extui v64
  let c0_i32_36 : BitVec 32 := 0#32
  let v66 : BitVec 1 := Scalar.cmpi .ne v65 c0_i32_36
  v66

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x704x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x704x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x704x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x704x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== Reference2Ideal.lean ====
abbrev S4096x1024 : Shape := ⟨2, ![4096, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4x4096x1024 : Shape := ⟨3, ![4, 4096, 1024]⟩
abbrev S1024x4x704 : Shape := ⟨3, ![1024, 4, 704]⟩
abbrev S4x4096x704 : Shape := ⟨3, ![4, 4096, 704]⟩
abbrev S4x704x1024 : Shape := ⟨3, ![4, 704, 1024]⟩
abbrev S4096x4x704 : Shape := ⟨3, ![4096, 4, 704]⟩

abbrev nBuf : Space → Nat
  | .hbm => 75
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4x4096x1024, .f32⟩
  | .hbm, ⟨23, _⟩ => ⟨S1024x4x704, .f32⟩
  | .hbm, ⟨24, _⟩ => ⟨S4x4096x704, .f32⟩
  | .hbm, ⟨25, _⟩ => ⟨S1024x4x704, .f32⟩
  | .hbm, ⟨26, _⟩ => ⟨S4x4096x704, .f32⟩
  | .hbm, ⟨27, _⟩ => ⟨S4x4096x704, .f32⟩
  | .hbm, ⟨28, _⟩ => ⟨S4x4096x704, .f32⟩
  | .hbm, ⟨29, _⟩ => ⟨S_, .f32⟩
  | .hbm, ⟨30, _⟩ => ⟨S4x4096x704, .f32⟩
  | .hbm, ⟨31, _⟩ => ⟨S4x4096x704, .f32⟩
  | .hbm, ⟨32, _⟩ => ⟨S_, .f32⟩
  | .hbm, ⟨33, _⟩ => ⟨S4x4096x704, .f32⟩
  | .hbm, ⟨34, _⟩ => ⟨S4x4096x704, .f32⟩
  | .hbm, ⟨35, _⟩ => ⟨S_, .f32⟩
  | .hbm, ⟨36, _⟩ => ⟨S4x4096x704, .f32⟩
  | .hbm, ⟨37, _⟩ => ⟨S4x4096x704, .f32⟩
  | .hbm, ⟨38, _⟩ => ⟨S4x4096x704, .f32⟩
  | .hbm, ⟨39, _⟩ => ⟨S4x4096x704, .f32⟩
  | .hbm, ⟨40, _⟩ => ⟨S4x4096x704, .f32⟩
  | .hbm, ⟨41, _⟩ => ⟨S4x704x1024, .f32⟩
  | .hbm, ⟨42, _⟩ => ⟨S4096x1024, .f32⟩
  | .hbm, ⟨43, _⟩ => ⟨S_, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S4096x1024, .f32⟩
  | .hbm, ⟨48, _⟩ => ⟨S4096x1024, .f32⟩
  | .hbm, ⟨49, _⟩ => ⟨S1024x4x704, .f32⟩
  | .hbm, ⟨50, _⟩ => ⟨S4x704x1024, .f32⟩
  | .hbm, ⟨51, _⟩ => ⟨S4096x4x704, .f32⟩
  | .hbm, ⟨52, _⟩ => ⟨S4x4096x704, .f32⟩
  | .hbm, ⟨53, _⟩ => ⟨S2816x1024, .f32⟩
  | .hbm, ⟨54, _⟩ => ⟨S4x4096x704, .f32⟩
  | .hbm, ⟨55, _⟩ => ⟨S4x4096x704, .f32⟩
  | .hbm, ⟨56, _⟩ => ⟨S4x4096x704, .f32⟩
  | .hbm, ⟨57, _⟩ => ⟨S4x4096x704, .f32⟩
  | .hbm, ⟨58, _⟩ => ⟨S4x4096x704, .f32⟩
  | .hbm, ⟨59, _⟩ => ⟨S4x4096x704, .f32⟩
  | .hbm, ⟨60, _⟩ => ⟨S4x704x1024, .f32⟩
  | .hbm, ⟨61, _⟩ => ⟨S1024x4x704, .f32⟩
  | .hbm, ⟨62, _⟩ => ⟨S4x4096x1024, .f32⟩
  | .hbm, ⟨63, _⟩ => ⟨S1024x2816, .f32⟩
  | .hbm, ⟨64, _⟩ => ⟨S4x704x1024, .f32⟩
  | .hbm, ⟨65, _⟩ => ⟨S1024x4x704, .f32⟩
  | .hbm, ⟨66, _⟩ => ⟨S4x4096x1024, .f32⟩
  | .hbm, ⟨67, _⟩ => ⟨S4x4096x1024, .f32⟩
  | .hbm, ⟨68, _⟩ => ⟨S1024x2816, .f32⟩
  | .hbm, ⟨69, _⟩ => ⟨S4x4096x1024, .bf16⟩
  | .hbm, ⟨70, _⟩ => ⟨S2816x1024, .f32⟩
  | .hbm, ⟨71, _⟩ => ⟨S4x704x1024, .f32⟩
  | .hbm, ⟨72, _⟩ => ⟨S2816x1024, .f32⟩
  | .hbm, ⟨73, _⟩ => ⟨S4x704x1024, .f32⟩
  | .hbm, ⟨74, _⟩ => ⟨S4x704x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_v18_2 : Ref sig .tc := ⟨.hbm, 34, rfl⟩
abbrev main_call0_cst_1 : Ref sig .tc := ⟨.hbm, 35, rfl⟩
abbrev main_call0_v6 : Ref sig .tc := ⟨.hbm, 36, rfl⟩
abbrev main_call0_v7 : Ref sig .tc := ⟨.hbm, 37, rfl⟩
abbrev main_v18_1 : Ref sig .tc := ⟨.hbm, 38, rfl⟩
abbrev main_v18_0 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_2 : Ref sig .tc := ⟨.hbm, 43, rfl⟩
abbrev main_v22 : Ref sig .tc := ⟨.hbm, 44, rfl⟩
abbrev main_v23 : Ref sig .tc := ⟨.hbm, 45, rfl⟩
abbrev main_cst_3 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩

abbrev nD : Nat := 1
abbrev τ : Topo := Topo.v7x

variable {F : FTy → Type} [FloatOps F]
-- ==== Kernel3.lean ====
abbrev S4096x1024 : Shape := ⟨2, ![4096, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S1024x4x704 : Shape := ⟨3, ![1024, 4, 704]⟩
abbrev S4x1024x704 : Shape := ⟨3, ![4, 1024, 704]⟩
abbrev S4x704x1024 : Shape := ⟨3, ![4, 704, 1024]⟩
abbrev S4x4096x704 : Shape := ⟨3, ![4, 4096, 704]⟩
abbrev S1024x1024 : Shape := ⟨2, ![1024, 1024]⟩
abbrev S1x1024x704 : Shape := ⟨3, ![1, 1024, 704]⟩
abbrev S1x704x1024 : Shape := ⟨3, ![1, 704, 1024]⟩
abbrev S1024x1 : Shape := ⟨2, ![1024, 1]⟩
abbrev S1024x704 : Shape := ⟨2, ![1024, 704]⟩
abbrev S704x1024 : Shape := ⟨2, ![704, 1024]⟩

abbrev nBuf : Space → Nat
  | .hbm => 17
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x1024, .f32⟩
  | .hbm, ⟨6, _⟩ => ⟨S1024x4x704, .f32⟩
  | .hbm, ⟨7, _⟩ => ⟨S4x1024x704, .f32⟩
  | .hbm, ⟨8, _⟩ => ⟨S4x1024x704, .bf16⟩
  | .hbm, ⟨9, _⟩ => ⟨S1024x4x704, .f32⟩
  | .hbm, ⟨10, _⟩ => ⟨S4x1024x704, .f32⟩
  | .hbm, ⟨11, _⟩ => ⟨S4x1024x704, .bf16⟩
  | .hbm, ⟨12, _⟩ => ⟨S4x704x1024, .f32⟩
  | .hbm, ⟨13, _⟩ => ⟨S4x704x1024, .bf16⟩
  | .hbm, ⟨14, _⟩ => ⟨S4096x1024, .f32⟩
  | .hbm, ⟨15, _⟩ => ⟨S4x4096x704, .bf16⟩
  | .hbm, ⟨16, _⟩ => ⟨S4x4096x704, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x704, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x1024x704, .bf16⟩
  | .local _ .vmem, ⟨7, _⟩ => ⟨S1x704x1024, .bf16⟩
  | .local _ .vmem, ⟨8, _⟩ => ⟨S1x704x1024, .bf16⟩
  | .local _ .vmem, ⟨9, _⟩ => ⟨S1024x1024, .f32⟩
  | .local _ .vmem, ⟨10, _⟩ => ⟨S1024x1024, .f32⟩
  | .local _ .vmem, ⟨11, _⟩ => ⟨S1x1024x704, .bf16⟩
  | .local _ .vmem, ⟨12, _⟩ => ⟨S1x1024x704, .bf16⟩
  | .local _ .vmem, ⟨13, _⟩ => ⟨S1x1024x704, .bf16⟩
  | .local _ .vmem, ⟨14, _⟩ => ⟨S1x1024x704, .bf16⟩
  | .local _ .vmem, ⟨15, _⟩ => ⟨S1024x1024, .bf16⟩
  | .local _ .vmem, ⟨16, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v9_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v30 : BitVec 1 := Scalar.cmpi .eq arg1 c3_i32
  let v31 : BitVec 32 := Scalar.extui v30
  let c0_i32_23 : BitVec 32 := 0#32
  let v32 : BitVec 1 := Scalar.cmpi .ne v31 c0_i32_23
  v32

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x704x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1024x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference3Ideal.lean ====
abbrev S4096x1024 : Shape := ⟨2, ![4096, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2816 : Shape := ⟨2, ![4096, 2816]⟩
abbrev S4096x4x704 : Shape := ⟨3, ![4096, 4, 704]⟩
abbrev S4x4096x704 : Shape := ⟨3, ![4, 4096, 704]⟩

abbrev nBuf : Space → Nat
  | .hbm => 46
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x2816, .f32⟩
  | .hbm, ⟨22, _⟩ => ⟨S4096x4x704, .f32⟩
  | .hbm, ⟨23, _⟩ => ⟨S4x4096x704, .f32⟩
  | .hbm, ⟨24, _⟩ => ⟨S4x4096x704, .bf16⟩
  | .hbm, ⟨25, _⟩ => ⟨S4096x2816, .f32⟩
  | .hbm, ⟨26, _⟩ => ⟨S4096x4x704, .f32⟩
  | .hbm, ⟨27, _⟩ => ⟨S4x4096x704, .f32⟩
  | .hbm, ⟨28, _⟩ => ⟨S4x4096x704, .bf16⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S_, .f32⟩
  | .hbm, ⟨33, _⟩ => ⟨S4096x2816, .f32⟩
  | .hbm, ⟨34, _⟩ => ⟨S4096x2816, .f32⟩
  | .hbm, ⟨35, _⟩ => ⟨S_, .f32⟩
  | .hbm, ⟨36, _⟩ => ⟨S4096x2816, .f32⟩
  | .hbm, ⟨37, _⟩ => ⟨S4096x2816, .f32⟩
  | .hbm, ⟨38, _⟩ => ⟨S4096x2816, .f32⟩
  | .hbm, ⟨39, _⟩ => ⟨S4096x2816, .f32⟩
  | .hbm, ⟨40, _⟩ => ⟨S4096x2816, .f32⟩
  | .hbm, ⟨41, _⟩ => ⟨S4096x1024, .f32⟩
  | .hbm, ⟨42, _⟩ => ⟨S_, .f32⟩
  | .hbm, ⟨43, _⟩ => ⟨S4096x1024, .f32⟩
  | .hbm, ⟨44, _⟩ => ⟨S4096x1024, .f32⟩
  | .hbm, ⟨45, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_2 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩

abbrev nD : Nat := 1
abbrev τ : Topo := Topo.v7x

variable {F : FTy → Type} [FloatOps F]
-- ==== Kernel4.lean ====
abbrev S4096x1024 : Shape := ⟨2, ![4096, 1024]⟩
abbrev S1024 : Shape := ⟨1, ![1024]⟩
abbrev S4x4096x1024 : Shape := ⟨3, ![4, 4096, 1024]⟩
abbrev S1x1024 : Shape := ⟨2, ![1, 1024]⟩
abbrev S512x1024 : Shape := ⟨2, ![512, 1024]⟩
abbrev S4x512x1024 : Shape := ⟨3, ![4, 512, 1024]⟩
abbrev S1x512x1024 : Shape := ⟨3, ![1, 512, 1024]⟩
abbrev S512 : Shape := ⟨1, ![512]⟩
abbrev S512x1 : Shape := ⟨2, ![512, 1]⟩

abbrev nBuf : Space → Nat
  | .hbm => 8
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4x4096x1024, .f32⟩
  | .hbm, ⟨3, _⟩ => ⟨S4096x1024, .f32⟩
  | .hbm, ⟨4, _⟩ => ⟨S1x1024, .f32⟩
  | .hbm, ⟨5, _⟩ => ⟨S4x4096x1024, .bf16⟩
  | .hbm, ⟨6, _⟩ => ⟨S4096x1024, .f32⟩
  | .hbm, ⟨7, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x512x1024, .bf16⟩
  | .local _ .vmem, ⟨4, _⟩ => ⟨S4x512x1024, .bf16⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v54 : BitVec 1 := Scalar.cmpi .eq arg0 c0_i32
  let v55 : BitVec 32 := Scalar.extui v54
  let c0_i32_23 : BitVec 32 := 0#32
  let v56 : BitVec 1 := Scalar.cmpi .ne v55 c0_i32_23
  v56

def k0_cond2 (i : grid0.Coords) : BitVec 1 :=
  let arg0 : BitVec 32 := BitVec.ofNat 32 (i 0).val
  let c0_i32_24 : BitVec 32 := 0#32
  let v57 : BitVec 1 := Scalar.cmpi .ne arg0 c0_i32_24
  let v58 : BitVec 32 := Scalar.extui v57
  let c0_i32_25 : BitVec 32 := 0#32
  let v59 : BitVec 1 := Scalar.cmpi .ne v58 c0_i32_25
  v59

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference4Ideal.lean ====
abbrev S4096x1024 : Shape := ⟨2, ![4096, 1024]⟩
abbrev S1024 : Shape := ⟨1, ![1024]⟩
abbrev S4x4096x1024 : Shape := ⟨3, ![4, 4096, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 53
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4x4096x1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S_, .f32⟩
  | .hbm, ⟨45, _⟩ => ⟨S4096, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_7 : Ref sig .tc := ⟨.hbm, 41, rfl⟩
abbrev main_v29 : Ref sig .tc := ⟨.hbm, 42, rfl⟩
abbrev main_v30 : Ref sig .tc := ⟨.hbm, 43, rfl⟩
abbrev main_cst_8 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩

abbrev nD : Nat := 1
abbrev τ : Topo := Topo.v7x

variable {F : FTy → Type} [FloatOps F]
-- ==== Kernel5.lean ====
abbrev S4096x1024 : Shape := ⟨2, ![4096, 1024]⟩
abbrev S1024 : Shape := ⟨1, ![1024]⟩
abbrev S1024x1024 : Shape := ⟨2, ![1024, 1024]⟩
abbrev S1x1024 : Shape := ⟨2, ![1, 1024]⟩
abbrev S256x1024 : Shape := ⟨2, ![256, 1024]⟩

abbrev nBuf : Space → Nat
  | .hbm => 12
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1x1024, .f32⟩
  | .hbm, ⟨8, _⟩ => ⟨S4096x1024, .f32⟩
  | .hbm, ⟨9, _⟩ => ⟨S4096x1024, .f32⟩
  | .hbm, ⟨10, _⟩ => ⟨S1x1024, .f32⟩
  | .hbm, ⟨11, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1024x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S1x1024, .f32⟩
  | .local _ .vmem, ⟨17, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v30 : BitVec 1 := Scalar.cmpi .eq arg0 c0_i32
  let v31 : BitVec 32 := Scalar.extui v30
  let c0_i32_20 : BitVec 32 := 0#32
  let v32 : BitVec 1 := Scalar.cmpi .ne v31 c0_i32_20
  v32

def k0_cond2 (i : grid0.Coords) : BitVec 1 :=
  let arg0 : BitVec 32 := BitVec.ofNat 32 (i 0).val
  let c0_i32 : BitVec 32 := 0#32
  let v30 : BitVec 1 := Scalar.cmpi .eq arg0 c0_i32
  let v_true : BitVec 1 := 1#1
  let v33 : BitVec 1 := Scalar.xori v30 v_true
  let v34 : BitVec 32 := Scalar.extui v33
  let c0_i32_21 : BitVec 32 := 0#32
  let v35 : BitVec 1 := Scalar.cmpi .ne v34 c0_i32_21
  v35

def k0_cond3 (i : grid0.Coords) : BitVec 1 :=
  let arg0 : BitVec 32 := BitVec.ofNat 32 (i 0).val
  let c0_i32 : BitVec 32 := 0#32
  let v30 : BitVec 1 := Scalar.cmpi .eq arg0 c0_i32
  let v36 : BitVec 32 := Scalar.extui v30
  let c0_i32_22 : BitVec 32 := 0#32
  let v37 : BitVec 1 := Scalar.cmpi .ne v36 c0_i32_22
  v37

def k0_cond4 (i : grid0.Coords) : BitVec 1 :=
  let arg0 : BitVec 32 := BitVec.ofNat 32 (i 0).val
  let c0_i32 : BitVec 32 := 0#32
  let v30 : BitVec 1 := Scalar.cmpi .eq arg0 c0_i32
  let true_23 : BitVec 1 := 1#1
  let v38 : BitVec 1 := Scalar.xori v30 true_23
  let v39 : BitVec 32 := Scalar.extui v38
  let c0_i32_24 : BitVec 32 := 0#32
  let v40 : BitVec 1 := Scalar.cmpi .ne v39 c0_i32_24
  v40

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference5Ideal.lean ====
abbrev S4096x1024 : Shape := ⟨2, ![4096, 1024]⟩
abbrev S1024 : Shape := ⟨1, ![1024]⟩
abbrev S1024x1024 : Shape := ⟨2, ![1024, 1024]⟩
abbrev S1x1024 : Shape := ⟨2, ![1, 1024]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S1x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S1024x1024, .f32⟩
  | .hbm, ⟨14, _⟩ => ⟨S1024x1024, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]
-- ==== Kernel6.lean ====
abbrev S6x4096x128 : Shape := ⟨3, ![6, 4096, 128]⟩
abbrev S12x128x256 : Shape := ⟨3, ![12, 128, 256]⟩
abbrev S2x128x128 : Shape := ⟨3, ![2, 128, 128]⟩
abbrev S4x128x256 : Shape := ⟨3, ![4, 128, 256]⟩
abbrev S512x256 : Shape := ⟨2, ![512, 256]⟩
abbrev S1x128x128 : Shape := ⟨3, ![1, 128, 128]⟩
abbrev S128x128 : Shape := ⟨2, ![128, 128]⟩
abbrev S128x256 : Shape := ⟨2, ![128, 256]⟩
abbrev S256x256 : Shape := ⟨2, ![256, 256]⟩
abbrev S1x256 : Shape := ⟨2, ![1, 256]⟩
abbrev S512 : Shape := ⟨1, ![512]⟩
abbrev S512x1 : Shape := ⟨2, ![512, 1]⟩

abbrev nBuf : Space → Nat
  | .hbm => 6
  | .vmem => 16
  | .smem => 0
  | _ => 0

abbrev bufTy : (tb : Table) → Fin (tcTables nBuf tb) → BufTy
  | .hbm, ⟨0, _⟩ => ⟨S6x4096x128, .f32⟩
  | .hbm, ⟨1, _⟩ => ⟨S6x4096x128, .f32⟩
  | .hbm, ⟨2, _⟩ => ⟨S6x4096x128, .f32⟩
  | .hbm, ⟨3, _⟩ => ⟨S12x128x256, .f32⟩
  | .hbm, ⟨4, _⟩ => ⟨S6x4096x128, .f32⟩
  | .hbm, ⟨5, _⟩ => ⟨S6x4096x128, .f32⟩
  | .local _ .vmem, ⟨0, _⟩ => ⟨S2x128x128, .f32⟩
  | .local _ .vmem, ⟨1, _⟩ => ⟨S2x128x128, .f32⟩
  | .local _ .vmem, ⟨2, _⟩ => ⟨S2x128x128, .f32⟩
  | .local _ .vmem, ⟨3, _⟩ => ⟨S2x128x128, .f32⟩
  | .local _ .vmem, ⟨4, _⟩ => ⟨S2x128x128, .f32⟩
  | .local _ .vmem, ⟨5, _⟩ => ⟨S2x128x128, .f32⟩
  | .local _ .vmem, ⟨6, _⟩ => ⟨S2x128x128, .f32⟩
  | .local _ .vmem, ⟨7, _⟩ => ⟨S2x128x128, .f32⟩
  | .local _ .vmem, ⟨8, _⟩ => ⟨S2x128x128, .f32⟩
  | .local _ .vmem, ⟨9, _⟩ => ⟨S2x128x128, .f32⟩
  | .local _ .vmem, ⟨10, _⟩ => ⟨S4x128x256, .f32⟩
  | .local _ .vmem, ⟨11, _⟩ => ⟨S4x128x256, .f32⟩
  | .local _ .vmem, ⟨12, _⟩ => ⟨S2x128x128, .f32⟩
  | .local _ .vmem, ⟨13, _⟩ => ⟨S2x128x128, .f32⟩
  | .local _ .vmem, ⟨14, _⟩ => ⟨S2x128x128, .f32⟩
  | .local _ .vmem, ⟨15, _⟩ => ⟨S2x128x128, .f32⟩
  | _, _ => ⟨S6x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![3, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Kernel6Ideal.lean ====
variable {F : FTy → Type} [FloatOps F] [Named F]
def κ : String → Option EReal := fun
  | "masked" => some ⊥
  | _ => none
-- ==== Reference6Ideal.lean ====
abbrev S6x4096x128 : Shape := ⟨3, ![6, 4096, 128]⟩
abbrev S12x128x256 : Shape := ⟨3, ![12, 128, 256]⟩
abbrev S12x32x1x1 : Shape := ⟨4, ![12, 32, 1, 1]⟩
abbrev S_ : Shape := ⟨0, ![]⟩
abbrev S6x4096x2x64 : Shape := ⟨4, ![6, 4096, 2, 64]⟩
abbrev S6x2x4096x64 : Shape := ⟨4, ![6, 2, 4096, 64]⟩
abbrev S12x32x128x64 : Shape := ⟨4, ![12, 32, 128, 64]⟩
abbrev S12x1x128x64 : Shape := ⟨4, ![12, 1, 128, 64]⟩
abbrev S12x31x128x64 : Shape := ⟨4, ![12, 31, 128, 64]⟩
abbrev S12x32x256x64 : Shape := ⟨4, ![12, 32, 256, 64]⟩
abbrev S12x32x128x256 : Shape := ⟨4, ![12, 32, 128, 256]⟩
abbrev S128x256 : Shape := ⟨2, ![128, 256]⟩
abbrev S1x1x128x256 : Shape := ⟨4, ![1, 1, 128, 256]⟩
abbrev S12x1x128x256 : Shape := ⟨4, ![12, 1, 128, 256]⟩
abbrev S12x32x128 : Shape := ⟨3, ![12, 32, 128]⟩
abbrev S12x32x128x1 : Shape := ⟨4, ![12, 32, 128, 1]⟩

abbrev nBuf : Space → Nat
  | .hbm => 106
  | .vmem => 0
  | .smem => 0
  | _ => 0

abbrev bufTy : (tb : Table) → Fin (tcTables nBuf tb) → BufTy
  | .hbm, ⟨0, _⟩ => ⟨S6x4096x128, .f32⟩
  | .hbm, ⟨1, _⟩ => ⟨S6x4096x128, .f32⟩
  | .hbm, ⟨2, _⟩ => ⟨S6x4096x128, .f32⟩
  | .hbm, ⟨3, _⟩ => ⟨S12x128x256, .f32⟩
  | .hbm, ⟨4, _⟩ => ⟨S12x32x1x1, .i32⟩
  | .hbm, ⟨5, _⟩ => ⟨S_, .i32⟩
  | .hbm, ⟨6, _⟩ => ⟨S12x32x1x1, .i32⟩
  | .hbm, ⟨7, _⟩ => ⟨S12x32x1x1, .i32⟩
  | .hbm, ⟨8, _⟩ => ⟨S12x32x1x1, .i32⟩
  | .hbm, ⟨9, _⟩ => ⟨S_, .i32⟩
  | .hbm, ⟨10, _⟩ => ⟨S12x32x1x1, .i32⟩
  | .hbm, ⟨11, _⟩ => ⟨S12x32x1x1, .i32⟩
  | .hbm, ⟨12, _⟩ => ⟨S_, .i32⟩
  | .hbm, ⟨13, _⟩ => ⟨S12x32x1x1, .i32⟩
  | .hbm, ⟨14, _⟩ => ⟨S12x32x1x1, .i32⟩
  | .hbm, ⟨15, _⟩ => ⟨S12x32x1x1, .i32⟩
  | .hbm, ⟨16, _⟩ => ⟨S_, .i32⟩
  | .hbm, ⟨17, _⟩ => ⟨S12x32x1x1, .i32⟩
  | .hbm, ⟨18, _⟩ => ⟨S12x32x1x1, .i1⟩
  | .hbm, ⟨19, _⟩ => ⟨S6x4096x2x64, .f32⟩
  | .hbm, ⟨20, _⟩ => ⟨S6x2x4096x64, .f32⟩
  | .hbm, ⟨21, _⟩ => ⟨S12x32x128x64, .f32⟩
  | .hbm, ⟨22, _⟩ => ⟨S12x1x128x64, .f32⟩
  | .hbm, ⟨23, _⟩ => ⟨S_, .f32⟩
  | .hbm, ⟨24, _⟩ => ⟨S12x1x128x64, .f32⟩
  | .hbm, ⟨25, _⟩ => ⟨S12x31x128x64, .f32⟩
  | .hbm, ⟨26, _⟩ => ⟨S12x32x128x64, .f32⟩
  | .hbm, ⟨27, _⟩ => ⟨S_, .f32⟩
  | .hbm, ⟨28, _⟩ => ⟨S_, .f32⟩
  | .hbm, ⟨29, _⟩ => ⟨S12x32x128x64, .i1⟩
  | .hbm, ⟨30, _⟩ => ⟨S12x32x128x64, .f32⟩
  | .hbm, ⟨31, _⟩ => ⟨S12x32x128x64, .f32⟩
  | .hbm, ⟨32, _⟩ => ⟨S12x32x256x64, .f32⟩
  | .hbm, ⟨33, _⟩ => ⟨S6x4096x2x64, .f32⟩
  | .hbm, ⟨34, _⟩ => ⟨S6x2x4096x64, .f32⟩
  | .hbm, ⟨35, _⟩ => ⟨S12x32x128x64, .f32⟩
  | .hbm, ⟨36, _⟩ => ⟨S12x1x128x64, .f32⟩
  | .hbm, ⟨37, _⟩ => ⟨S_, .f32⟩
  | .hbm, ⟨38, _⟩ => ⟨S12x1x128x64, .f32⟩
  | .hbm, ⟨39, _⟩ => ⟨S12x31x128x64, .f32⟩
  | .hbm, ⟨40, _⟩ => ⟨S12x32x128x64, .f32⟩
  | .hbm, ⟨41, _⟩ => ⟨S_, .f32⟩
  | .hbm, ⟨42, _⟩ => ⟨S_, .f32⟩
  | .hbm, ⟨43, _⟩ => ⟨S12x32x128x64, .i1⟩
  | .hbm, ⟨44, _⟩ => ⟨S12x32x128x64, .f32⟩
  | .hbm, ⟨45, _⟩ => ⟨S12x32x128x64, .f32⟩
  | .hbm, ⟨46, _⟩ => ⟨S12x32x256x64, .f32⟩
  | .hbm, ⟨47, _⟩ => ⟨S6x4096x2x64, .f32⟩
  | .hbm, ⟨48, _⟩ => ⟨S6x2x4096x64, .f32⟩
  | .hbm, ⟨49, _⟩ => ⟨S12x32x128x64, .f32⟩
  | .hbm, ⟨50, _⟩ => ⟨S12x32x128x256, .f32⟩
  | .hbm, ⟨51, _⟩ => ⟨S_, .f32⟩
  | .hbm, ⟨52, _⟩ => ⟨S12x32x128x256, .f32⟩
  | .hbm, ⟨53, _⟩ => ⟨S12x32x128x256, .f32⟩
  | .hbm, ⟨54, _⟩ => ⟨S128x256, .i32⟩
  | .hbm, ⟨55, _⟩ => ⟨S_, .i32⟩
  | .hbm, ⟨56, _⟩ => ⟨S128x256, .i32⟩
  | .hbm, ⟨57, _⟩ => ⟨S128x256, .i32⟩
  | .hbm, ⟨58, _⟩ => ⟨S128x256, .i32⟩
  | .hbm, ⟨59, _⟩ => ⟨S128x256, .i32⟩
  | .hbm, ⟨60, _⟩ => ⟨S_, .i32⟩
  | .hbm, ⟨61, _⟩ => ⟨S128x256, .i32⟩
  | .hbm, ⟨62, _⟩ => ⟨S128x256, .i1⟩
  | .hbm, ⟨63, _⟩ => ⟨S_, .i32⟩
  | .hbm, ⟨64, _⟩ => ⟨S128x256, .i32⟩
  | .hbm, ⟨65, _⟩ => ⟨S128x256, .i1⟩
  | .hbm, ⟨66, _⟩ => ⟨S128x256, .i1⟩
  | .hbm, ⟨67, _⟩ => ⟨S12x32x1x1, .i1⟩
  | .hbm, ⟨68, _⟩ => ⟨S_, .i32⟩
  | .hbm, ⟨69, _⟩ => ⟨S128x256, .i32⟩
  | .hbm, ⟨70, _⟩ => ⟨S128x256, .i1⟩
  | .hbm, ⟨71, _⟩ => ⟨S1x1x128x256, .i1⟩
  | .hbm, ⟨72, _⟩ => ⟨S12x32x128x256, .i1⟩
  | .hbm, ⟨73, _⟩ => ⟨S12x32x128x256, .i1⟩
  | .hbm, ⟨74, _⟩ => ⟨S12x32x128x256, .i1⟩
  | .hbm, ⟨75, _⟩ => ⟨S1x1x128x256, .i1⟩
  | .hbm, ⟨76, _⟩ => ⟨S12x32x128x256, .i1⟩
  | .hbm, ⟨77, _⟩ => ⟨S12x32x128x256, .i1⟩
  | .hbm, ⟨78, _⟩ => ⟨S12x1x128x256, .f32⟩
  | .hbm, ⟨79, _⟩ => ⟨S12x32x128x256, .f32⟩
  | .hbm, ⟨80, _⟩ => ⟨S12x32x128x256, .f32⟩
  | .hbm, ⟨81, _⟩ => ⟨S_, .f32⟩
  | .hbm, ⟨82, _⟩ => ⟨S_, .f32⟩
  | .hbm, ⟨83, _⟩ => ⟨S12x32x128x256, .f32⟩
  | .hbm, ⟨84, _⟩ => ⟨S12x32x128x256, .f32⟩
  | .hbm, ⟨85, _⟩ => ⟨S_, .f32⟩
  | .hbm, ⟨86, _⟩ => ⟨S12x32x128, .f32⟩
  | .hbm, ⟨87, _⟩ => ⟨S12x32x128x1, .f32⟩
  | .hbm, ⟨88, _⟩ => ⟨S12x32x128x256, .f32⟩
  | .hbm, ⟨89, _⟩ => ⟨S12x32x128x256, .f32⟩
  | .hbm, ⟨90, _⟩ => ⟨S12x32x128x256, .f32⟩
  | .hbm, ⟨91, _⟩ => ⟨S_, .f32⟩
  | .hbm, ⟨92, _⟩ => ⟨S12x32x128, .f32⟩
  | .hbm, ⟨93, _⟩ => ⟨S12x32x128x1, .f32⟩
  | .hbm, ⟨94, _⟩ => ⟨S12x32x128x256, .f32⟩
  | .hbm, ⟨95, _⟩ => ⟨S12x32x128x256, .f32⟩
  | .hbm, ⟨96, _⟩ => ⟨S12x32x128x64, .f32⟩
  | .hbm, ⟨97, _⟩ => ⟨S6x2x4096x64, .f32⟩
  | .hbm, ⟨98, _⟩ => ⟨S6x4096x2x64, .f32⟩
  | .hbm, ⟨99, _⟩ => ⟨S6x4096x128, .f32⟩
  | .hbm, ⟨100, _⟩ => ⟨S12x32x128x1, .f32⟩
  | .hbm, ⟨101, _⟩ => ⟨S12x32x128x1, .f32⟩
  | .hbm, ⟨102, _⟩ => ⟨S12x32x128x64, .f32⟩
  | .hbm, ⟨103, _⟩ => ⟨S6x2x4096x64, .f32⟩
  | .hbm, ⟨104, _⟩ => ⟨S6x4096x2x64, .f32⟩
  | .hbm, ⟨105, _⟩ => ⟨S6x4096x128, .f32⟩
  | _, _ => ⟨S6x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_5 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_6 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_7 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_c_8 : Ref sig .tc := ⟨.hbm, 60, rfl⟩
abbrev main_v40 : Ref sig .tc := ⟨.hbm, 61, rfl⟩
abbrev main_v41 : Ref sig .tc := ⟨.hbm, 62, rfl⟩
abbrev main_c_9 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_c_10 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_11 : Ref sig .tc := ⟨.hbm, 81, rfl⟩
abbrev main_call2_v0 : Ref sig .tc := ⟨.hbm, 82, rfl⟩
abbrev main_call2_v1 : Ref sig .tc := ⟨.hbm, 83, rfl⟩
abbrev main_v58 : Ref sig .tc := ⟨.hbm, 84, rfl⟩
abbrev main_cst_12 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_13 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩

abbrev nD : Nat := 1
abbrev τ : Topo := Topo.v7x

variable {F : FTy → Type} [FloatOps F]
-- ==== Kernel7.lean ====
abbrev S4096x1024 : Shape := ⟨2, ![4096, 1024]⟩
abbrev S4096x256 : Shape := ⟨2, ![4096, 256]⟩
abbrev S6x4096x128 : Shape := ⟨3, ![6, 4096, 128]⟩
abbrev S512x1024 : Shape := ⟨2, ![512, 1024]⟩
abbrev S256x1024 : Shape := ⟨2, ![256, 1024]⟩
abbrev S256x256 : Shape := ⟨2, ![256, 256]⟩
abbrev S6x256x128 : Shape := ⟨3, ![6, 256, 128]⟩
abbrev S1x256x128 : Shape := ⟨3, ![1, 256, 128]⟩
abbrev S256x128 : Shape := ⟨2, ![256, 128]⟩
abbrev S256x512 : Shape := ⟨2, ![256, 512]⟩
abbrev S5x256x128 : Shape := ⟨3, ![5, 256, 128]⟩
abbrev S4x256x128 : Shape := ⟨3, ![4, 256, 128]⟩
abbrev S3x256x128 : Shape := ⟨3, ![3, 256, 128]⟩
abbrev S2x256x128 : Shape := ⟨3, ![2, 256, 128]⟩

abbrev nBuf : Space → Nat
  | .hbm => 11
  | .vmem => 20
  | .smem => 0
  | _ => 0

abbrev bufTy : (tb : Table) → Fin (tcTables nBuf tb) → BufTy
  | .hbm, ⟨0, _⟩ => ⟨S4096x1024, .f32⟩
  | .hbm, ⟨1, _⟩ => ⟨S4096x256, .f32⟩
  | .hbm, ⟨2, _⟩ => ⟨S6x4096x128, .f32⟩
  | .hbm, ⟨3, _⟩ => ⟨S6x4096x128, .f32⟩
  | .hbm, ⟨4, _⟩ => ⟨S512x1024, .f32⟩
  | .hbm, ⟨5, _⟩ => ⟨S4096x1024, .f32⟩
  | .hbm, ⟨6, _⟩ => ⟨S4096x1024, .f32⟩
  | .hbm, ⟨7, _⟩ => ⟨S4096x256, .f32⟩
  | .hbm, ⟨8, _⟩ => ⟨S6x4096x128, .f32⟩
  | .hbm, ⟨9, _⟩ => ⟨S6x4096x128, .f32⟩
  | .hbm, ⟨10, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x256, .f32⟩
  | .local _ .vmem, ⟨3, _⟩ => ⟨S256x256, .f32⟩
  | .local _ .vmem, ⟨4, _⟩ => ⟨S6x256x128, .f32⟩
  | .local _ .vmem, ⟨5, _⟩ => ⟨S6x256x128, .f32⟩
  | .local _ .vmem, ⟨6, _⟩ => ⟨S6x256x128, .f32⟩
  | .local _ .vmem, ⟨7, _⟩ => ⟨S6x256x128, .f32⟩
  | .local _ .vmem, ⟨8, _⟩ => ⟨S512x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x256, .f32⟩
  | .local _ .vmem, ⟨14, _⟩ => ⟨S256x256, .f32⟩
  | .local _ .vmem, ⟨15, _⟩ => ⟨S6x256x128, .f32⟩
  | .local _ .vmem, ⟨16, _⟩ => ⟨S6x256x128, .f32⟩
  | .local _ .vmem, ⟨17, _⟩ => ⟨S6x256x128, .f32⟩
  | .local _ .vmem, ⟨18, _⟩ => ⟨S6x256x128, .f32⟩
  | .local _ .vmem, ⟨19, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v202 : BitVec 1 := Scalar.cmpi .eq arg0 c0_i32
  let v203 : BitVec 32 := Scalar.extui v202
  let c0_i32_51 : BitVec 32 := 0#32
  let v204 : BitVec 1 := Scalar.cmpi .ne v203 c0_i32_51
  v204

def k0_cond2 (i : grid0.Coords) : BitVec 1 :=
  let arg0 : BitVec 32 := BitVec.ofNat 32 (i 0).val
  let c0_i32 : BitVec 32 := 0#32
  let v202 : BitVec 1 := Scalar.cmpi .eq arg0 c0_i32
  let v_true : BitVec 1 := 1#1
  let v205 : BitVec 1 := Scalar.xori v202 v_true
  let v206 : BitVec 32 := Scalar.extui v205
  let c0_i32_52 : BitVec 32 := 0#32
  let v207 : BitVec 1 := Scalar.cmpi .ne v206 c0_i32_52
  v207

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S6x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S6x256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S6x256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S512x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference7Ideal.lean ====
abbrev S4096x1024 : Shape := ⟨2, ![4096, 1024]⟩
abbrev S4096x256 : Shape := ⟨2, ![4096, 256]⟩
abbrev S6x4096x128 : Shape := ⟨3, ![6, 4096, 128]⟩
abbrev S512x1024 : Shape := ⟨2, ![512, 1024]⟩
abbrev S3x2x4096x128 : Shape := ⟨4, ![3, 2, 4096, 128]⟩
abbrev S3x4096x2x128 : Shape := ⟨4, ![3, 4096, 2, 128]⟩
abbrev S3x4096x256 : Shape := ⟨3, ![3, 4096, 256]⟩
abbrev S_ : Shape := ⟨0, ![]⟩
abbrev S1x4096x256 : Shape := ⟨3, ![1, 4096, 256]⟩
abbrev S4096x512 : Shape := ⟨2, ![4096, 512]⟩
abbrev S1024x512 : Shape := ⟨2, ![1024, 512]⟩

abbrev nBuf : Space → Nat
  | .hbm => 85
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x256, .f32⟩
  | .hbm, ⟨2, _⟩ => ⟨S6x4096x128, .f32⟩
  | .hbm, ⟨3, _⟩ => ⟨S6x4096x128, .f32⟩
  | .hbm, ⟨4, _⟩ => ⟨S512x1024, .f32⟩
  | .hbm, ⟨5, _⟩ => ⟨S4096x1024, .f32⟩
  | .hbm, ⟨6, _⟩ => ⟨S3x2x4096x128, .f32⟩
  | .hbm, ⟨7, _⟩ => ⟨S3x4096x2x128, .f32⟩
  | .hbm, ⟨8, _⟩ => ⟨S3x4096x256, .f32⟩
  | .hbm, ⟨9, _⟩ => ⟨S_, .f32⟩
  | .hbm, ⟨10, _⟩ => ⟨S4096x256, .f32⟩
  | .hbm, ⟨11, _⟩ => ⟨S1x4096x256, .f32⟩
  | .hbm, ⟨12, _⟩ => ⟨S3x4096x256, .f32⟩
  | .hbm, ⟨13, _⟩ => ⟨S3x4096x256, .i1⟩
  | .hbm, ⟨14, _⟩ => ⟨S3x4096x256, .f32⟩
  | .hbm, ⟨15, _⟩ => ⟨S_, .f32⟩
  | .hbm, ⟨16, _⟩ => ⟨S4096x256, .f32⟩
  | .hbm, ⟨17, _⟩ => ⟨S_, .f32⟩
  | .hbm, ⟨18, _⟩ => ⟨S4096x256, .f32⟩
  | .hbm, ⟨19, _⟩ => ⟨S4096x256, .f32⟩
  | .hbm, ⟨20, _⟩ => ⟨S_, .f32⟩
  | .hbm, ⟨21, _⟩ => ⟨S4096x256, .f32⟩
  | .hbm, ⟨22, _⟩ => ⟨S4096x256, .i1⟩
  | .hbm, ⟨23, _⟩ => ⟨S_, .f32⟩
  | .hbm, ⟨24, _⟩ => ⟨S4096x256, .f32⟩
  | .hbm, ⟨25, _⟩ => ⟨S4096x256, .i1⟩
  | .hbm, ⟨26, _⟩ => ⟨S_, .f32⟩
  | .hbm, ⟨27, _⟩ => ⟨S4096x256, .f32⟩
  | .hbm, ⟨28, _⟩ => ⟨S_, .f32⟩
  | .hbm, ⟨29, _⟩ => ⟨S4096x256, .f32⟩
  | .hbm, ⟨30, _⟩ => ⟨S_, .f32⟩
  | .hbm, ⟨31, _⟩ => ⟨S4096x256, .f32⟩
  | .hbm, ⟨32, _⟩ => ⟨S4096x256, .f32⟩
  | .hbm, ⟨33, _⟩ => ⟨S4096x256, .f32⟩
  | .hbm, ⟨34, _⟩ => ⟨S1x4096x256, .f32⟩
  | .hbm, ⟨35, _⟩ => ⟨S3x4096x256, .f32⟩
  | .hbm, ⟨36, _⟩ => ⟨S3x4096x256, .f32⟩
  | .hbm, ⟨37, _⟩ => ⟨S3x4096x256, .f32⟩
  | .hbm, ⟨38, _⟩ => ⟨S_, .f32⟩
  | .hbm, ⟨39, _⟩ => ⟨S4096x256, .f32⟩
  | .hbm, ⟨40, _⟩ => ⟨S1x4096x256, .f32⟩
  | .hbm, ⟨41, _⟩ => ⟨S3x4096x256, .f32⟩
  | .hbm, ⟨42, _⟩ => ⟨S3x4096x256, .f32⟩
  | .hbm, ⟨43, _⟩ => ⟨S1x4096x256, .f32⟩
  | .hbm, ⟨44, _⟩ => ⟨S_, .f32⟩
  | .hbm, ⟨45, _⟩ => ⟨S1x4096x256, .f32⟩
  | .hbm, ⟨46, _⟩ => ⟨S1x4096x256, .f32⟩
  | .hbm, ⟨47, _⟩ => ⟨S3x2x4096x128, .f32⟩
  | .hbm, ⟨48, _⟩ => ⟨S3x4096x2x128, .f32⟩
  | .hbm, ⟨49, _⟩ => ⟨S3x4096x256, .f32⟩
  | .hbm, ⟨50, _⟩ => ⟨S3x4096x256, .f32⟩
  | .hbm, ⟨51, _⟩ => ⟨S_, .f32⟩
  | .hbm, ⟨52, _⟩ => ⟨S4096x256, .f32⟩
  | .hbm, ⟨53, _⟩ => ⟨S4096x512, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S1024x512, .f32⟩
  | .hbm, ⟨58, _⟩ => ⟨S512x1024, .f32⟩
  | .hbm, ⟨59, _⟩ => ⟨S4096x512, .f32⟩
  | .hbm, ⟨60, _⟩ => ⟨S4096x256, .f32⟩
  | .hbm, ⟨61, _⟩ => ⟨S4096x256, .f32⟩
  | .hbm, ⟨62, _⟩ => ⟨S3x4096x256, .f32⟩
  | .hbm, ⟨63, _⟩ => ⟨S3x4096x256, .f32⟩
  | .hbm, ⟨64, _⟩ => ⟨S3x4096x256, .f32⟩
  | .hbm, ⟨65, _⟩ => ⟨S3x4096x2x128, .f32⟩
  | .hbm, ⟨66, _⟩ => ⟨S3x2x4096x128, .f32⟩
  | .hbm, ⟨67, _⟩ => ⟨S6x4096x128, .f32⟩
  | .hbm, ⟨68, _⟩ => ⟨S3x4096x256, .f32⟩
  | .hbm, ⟨69, _⟩ => ⟨S3x4096x256, .f32⟩
  | .hbm, ⟨70, _⟩ => ⟨S3x4096x256, .f32⟩
  | .hbm, ⟨71, _⟩ => ⟨S_, .f32⟩
  | .hbm, ⟨72, _⟩ => ⟨S4096x256, .f32⟩
  | .hbm, ⟨73, _⟩ => ⟨S1x4096x256, .f32⟩
  | .hbm, ⟨74, _⟩ => ⟨S1x4096x256, .f32⟩
  | .hbm, ⟨75, _⟩ => ⟨S3x4096x256, .f32⟩
  | .hbm, ⟨76, _⟩ => ⟨S3x4096x256, .f32⟩
  | .hbm, ⟨77, _⟩ => ⟨S_, .f32⟩
  | .hbm, ⟨78, _⟩ => ⟨S4096x256, .f32⟩
  | .hbm, ⟨79, _⟩ => ⟨S3x4096x256, .f32⟩
  | .hbm, ⟨80, _⟩ => ⟨S3x4096x256, .f32⟩
  | .hbm, ⟨81, _⟩ => ⟨S3x4096x256, .f32⟩
  | .hbm, ⟨82, _⟩ => ⟨S3x4096x2x128, .f32⟩
  | .hbm, ⟨83, _⟩ => ⟨S3x2x4096x128, .f32⟩
  | .hbm, ⟨84, _⟩ => ⟨S6x4096x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_cst_5 : Ref sig .tc := ⟨.hbm, 28, rfl⟩
abbrev main_v16 : Ref sig .tc := ⟨.hbm, 29, rfl⟩
abbrev main_cst_6 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_7 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_8 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_9 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_10 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_11 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩

abbrev nD : Nat := 1
abbrev τ : Topo := Topo.v7x

variable {F : FTy → Type} [FloatOps F]
-- ==== Kernel8.lean ====
abbrev S4096x1024 : Shape := ⟨2, ![4096, 1024]⟩
abbrev S1024 : Shape := ⟨1, ![1024]⟩
abbrev S1024x768 : Shape := ⟨2, ![1024, 768]⟩
abbrev S6x4096x128 : Shape := ⟨3, ![6, 4096, 128]⟩
abbrev S1x1024 : Shape := ⟨2, ![1, 1024]⟩
abbrev S256x1024 : Shape := ⟨2, ![256, 1024]⟩
abbrev S6x256x128 : Shape := ⟨3, ![6, 256, 128]⟩
abbrev S256 : Shape := ⟨1, ![256]⟩
abbrev S256x1 : Shape := ⟨2, ![256, 1]⟩
abbrev S1x256x128 : Shape := ⟨3, ![1, 256, 128]⟩
abbrev S256x128 : Shape := ⟨2, ![256, 128]⟩
abbrev S256x640 : Shape := ⟨2, ![256, 640]⟩
abbrev S256x768 : Shape := ⟨2, ![256, 768]⟩
abbrev S256x512 : Shape := ⟨2, ![256, 512]⟩
abbrev S256x384 : Shape := ⟨2, ![256, 384]⟩
abbrev S256x256 : Shape := ⟨2, ![256, 256]⟩

abbrev nBuf : Space → Nat
  | .hbm => 9
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x768, .f32⟩
  | .hbm, ⟨3, _⟩ => ⟨S6x4096x128, .f32⟩
  | .hbm, ⟨4, _⟩ => ⟨S4096x1024, .f32⟩
  | .hbm, ⟨5, _⟩ => ⟨S1x1024, .f32⟩
  | .hbm, ⟨6, _⟩ => ⟨S4096x1024, .f32⟩
  | .hbm, ⟨7, _⟩ => ⟨S1x1024, .f32⟩
  | .hbm, ⟨8, _⟩ => ⟨S1024x768, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x768, .f32⟩
  | .local _ .vmem, ⟨4, _⟩ => ⟨S6x256x128, .f32⟩
  | .local _ .vmem, ⟨5, _⟩ => ⟨S6x256x128, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | .local _ .vmem, ⟨11, _⟩ => ⟨S1024x768, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v86 : BitVec 1 := Scalar.cmpi .eq arg0 c0_i32
  let v87 : BitVec 32 := Scalar.extui v86
  let c0_i32_27 : BitVec 32 := 0#32
  let v88 : BitVec 1 := Scalar.cmpi .ne v87 c0_i32_27
  v88

def k0_cond2 (i : grid0.Coords) : BitVec 1 :=
  let arg0 : BitVec 32 := BitVec.ofNat 32 (i 0).val
  let c0_i32 : BitVec 32 := 0#32
  let v86 : BitVec 1 := Scalar.cmpi .eq arg0 c0_i32
  let v_true : BitVec 1 := 1#1
  let v89 : BitVec 1 := Scalar.xori v86 v_true
  let v90 : BitVec 32 := Scalar.extui v89
  let c0_i32_28 : BitVec 32 := 0#32
  let v91 : BitVec 1 := Scalar.cmpi .ne v90 c0_i32_28
  v91

def k0_cond3 (i : grid0.Coords) : BitVec 1 :=
  let arg0 : BitVec 32 := BitVec.ofNat 32 (i 0).val
  let c0_i32 : BitVec 32 := 0#32
  let v86 : BitVec 1 := Scalar.cmpi .eq arg0 c0_i32
  let v92 : BitVec 32 := Scalar.extui v86
  let c0_i32_29 : BitVec 32 := 0#32
  let v93 : BitVec 1 := Scalar.cmpi .ne v92 c0_i32_29
  v93

def k0_cond4 (i : grid0.Coords) : BitVec 1 :=
  let arg0 : BitVec 32 := BitVec.ofNat 32 (i 0).val
  let c0_i32 : BitVec 32 := 0#32
  let v86 : BitVec 1 := Scalar.cmpi .eq arg0 c0_i32
  let true_30 : BitVec 1 := 1#1
  let v94 : BitVec 1 := Scalar.xori v86 true_30
  let v95 : BitVec 32 := Scalar.extui v94
  let c0_i32_31 : BitVec 32 := 0#32
  let v96 : BitVec 1 := Scalar.cmpi .ne v95 c0_i32_31
  v96

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S6x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference8Ideal.lean ====
abbrev S4096x1024 : Shape := ⟨2, ![4096, 1024]⟩
abbrev S1024 : Shape := ⟨1, ![1024]⟩
abbrev S1024x768 : Shape := ⟨2, ![1024, 768]⟩
abbrev S6x4096x128 : Shape := ⟨3, ![6, 4096, 128]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x768 : Shape := ⟨2, ![4096, 768]⟩
abbrev S4096x6x128 : Shape := ⟨3, ![4096, 6, 128]⟩
abbrev S768x1024 : Shape := ⟨2, ![768, 1024]⟩

abbrev nBuf : Space → Nat
  | .hbm => 60
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x768, .f32⟩
  | .hbm, ⟨3, _⟩ => ⟨S6x4096x128, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x768, .f32⟩
  | .hbm, ⟨26, _⟩ => ⟨S4096x6x128, .f32⟩
  | .hbm, ⟨27, _⟩ => ⟨S6x4096x128, .f32⟩
  | .hbm, ⟨28, _⟩ => ⟨S4096x6x128, .f32⟩
  | .hbm, ⟨29, _⟩ => ⟨S4096x768, .f32⟩
  | .hbm, ⟨30, _⟩ => ⟨S768x1024, .f32⟩
  | .hbm, ⟨31, _⟩ => ⟨S1024x768, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S1024, .f32⟩
  | .hbm, ⟨41, _⟩ => ⟨S4096x1024, .f32⟩
  | .hbm, ⟨42, _⟩ => ⟨S_, .f32⟩
  | .hbm, ⟨43, _⟩ => ⟨S4096, .f32⟩
  | .hbm, ⟨44, _⟩ => ⟨S4096x1, .f32⟩
  | .hbm, ⟨45, _⟩ => ⟨S4096x1024, .f32⟩
  | .hbm, ⟨46, _⟩ => ⟨S4096x1024, .f32⟩
  | .hbm, ⟨47, _⟩ => ⟨S4096x1, .f32⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S_, .f32⟩
  | .hbm, ⟨52, _⟩ => ⟨S4096, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩

abbrev nD : Nat := 1
abbrev τ : Topo := Topo.v7x

variable {F : FTy → Type} [FloatOps F]
-- ==== Kernel9.lean ====
abbrev S4096x1024 : Shape := ⟨2, ![4096, 1024]⟩
abbrev S1024 : Shape := ⟨1, ![1024]⟩
abbrev S1024x768 : Shape := ⟨2, ![1024, 768]⟩
abbrev S4096x256 : Shape := ⟨2, ![4096, 256]⟩
abbrev S1x1024 : Shape := ⟨2, ![1, 1024]⟩
abbrev S256x1024 : Shape := ⟨2, ![256, 1024]⟩
abbrev S256x256 : Shape := ⟨2, ![256, 256]⟩
abbrev S256 : Shape := ⟨1, ![256]⟩
abbrev S256x1 : Shape := ⟨2, ![256, 1]⟩
abbrev S256x512 : Shape := ⟨2, ![256, 512]⟩
abbrev S256x768 : Shape := ⟨2, ![256, 768]⟩

abbrev nBuf : Space → Nat
  | .hbm => 11
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x768, .f32⟩
  | .hbm, ⟨3, _⟩ => ⟨S4096x256, .f32⟩
  | .hbm, ⟨4, _⟩ => ⟨S4096x256, .f32⟩
  | .hbm, ⟨5, _⟩ => ⟨S4096x256, .f32⟩
  | .hbm, ⟨6, _⟩ => ⟨S4096x1024, .f32⟩
  | .hbm, ⟨7, _⟩ => ⟨S1x1024, .f32⟩
  | .hbm, ⟨8, _⟩ => ⟨S4096x1024, .f32⟩
  | .hbm, ⟨9, _⟩ => ⟨S1x1024, .f32⟩
  | .hbm, ⟨10, _⟩ => ⟨S1024x768, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x768, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S1x1024, .f32⟩
  | .local _ .vmem, ⟨15, _⟩ => ⟨S1024x768, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v61 : BitVec 1 := Scalar.cmpi .eq arg0 c0_i32
  let v62 : BitVec 32 := Scalar.extui v61
  let c0_i32_27 : BitVec 32 := 0#32
  let v63 : BitVec 1 := Scalar.cmpi .ne v62 c0_i32_27
  v63

def k0_cond2 (i : grid0.Coords) : BitVec 1 :=
  let arg0 : BitVec 32 := BitVec.ofNat 32 (i 0).val
  let c0_i32 : BitVec 32 := 0#32
  let v61 : BitVec 1 := Scalar.cmpi .eq arg0 c0_i32
  let v_true : BitVec 1 := 1#1
  let v64 : BitVec 1 := Scalar.xori v61 v_true
  let v65 : BitVec 32 := Scalar.extui v64
  let c0_i32_28 : BitVec 32 := 0#32
  let v66 : BitVec 1 := Scalar.cmpi .ne v65 c0_i32_28
  v66

def k0_cond3 (i : grid0.Coords) : BitVec 1 :=
  let arg0 : BitVec 32 := BitVec.ofNat 32 (i 0).val
  let c0_i32 : BitVec 32 := 0#32
  let v61 : BitVec 1 := Scalar.cmpi .eq arg0 c0_i32
  let v67 : BitVec 32 := Scalar.extui v61
  let c0_i32_29 : BitVec 32 := 0#32
  let v68 : BitVec 1 := Scalar.cmpi .ne v67 c0_i32_29
  v68

def k0_cond4 (i : grid0.Coords) : BitVec 1 :=
  let arg0 : BitVec 32 := BitVec.ofNat 32 (i 0).val
  let c0_i32 : BitVec 32 := 0#32
  let v61 : BitVec 1 := Scalar.cmpi .eq arg0 c0_i32
  let true_30 : BitVec 1 := 1#1
  let v69 : BitVec 1 := Scalar.xori v61 true_30
  let v70 : BitVec 32 := Scalar.extui v69
  let c0_i32_31 : BitVec 32 := 0#32
  let v71 : BitVec 1 := Scalar.cmpi .ne v70 c0_i32_31
  v71

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference9Ideal.lean ====
abbrev S4096x1024 : Shape := ⟨2, ![4096, 1024]⟩
abbrev S1024 : Shape := ⟨1, ![1024]⟩
abbrev S1024x768 : Shape := ⟨2, ![1024, 768]⟩
abbrev S4096x256 : Shape := ⟨2, ![4096, 256]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x768 : Shape := ⟨2, ![4096, 768]⟩
abbrev S768x1024 : Shape := ⟨2, ![768, 1024]⟩

abbrev nBuf : Space → Nat
  | .hbm => 62
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x768, .f32⟩
  | .hbm, ⟨3, _⟩ => ⟨S4096x256, .f32⟩
  | .hbm, ⟨4, _⟩ => ⟨S4096x256, .f32⟩
  | .hbm, ⟨5, _⟩ => ⟨S4096x256, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x768, .f32⟩
  | .hbm, ⟨28, _⟩ => ⟨S4096x256, .f32⟩
  | .hbm, ⟨29, _⟩ => ⟨S4096x256, .f32⟩
  | .hbm, ⟨30, _⟩ => ⟨S4096x256, .f32⟩
  | .hbm, ⟨31, _⟩ => ⟨S4096x768, .f32⟩
  | .hbm, ⟨32, _⟩ => ⟨S768x1024, .f32⟩
  | .hbm, ⟨33, _⟩ => ⟨S1024x768, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S1024, .f32⟩
  | .hbm, ⟨43, _⟩ => ⟨S4096x1024, .f32⟩
  | .hbm, ⟨44, _⟩ => ⟨S_, .f32⟩
  | .hbm, ⟨45, _⟩ => ⟨S4096, .f32⟩
  | .hbm, ⟨46, _⟩ => ⟨S4096x1, .f32⟩
  | .hbm, ⟨47, _⟩ => ⟨S4096x1024, .f32⟩
  | .hbm, ⟨48, _⟩ => ⟨S4096x1024, .f32⟩
  | .hbm, ⟨49, _⟩ => ⟨S4096x1, .f32⟩
  | .hbm, ⟨50, _⟩ => ⟨S_, .f32⟩
  | .hbm, ⟨51, _⟩ => ⟨S4096x1, .f32⟩
  | .hbm, ⟨52, _⟩ => ⟨S4096x1, .f32⟩
  | .hbm, ⟨53, _⟩ => ⟨S_, .f32⟩
  | .hbm, ⟨54, _⟩ => ⟨S4096, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_6 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩

abbrev nD : Nat := 1
abbrev τ : Topo := Topo.v7x

variable {F : FTy → Type} [FloatOps F]
-- ==== Kernel10.lean ====
abbrev S4096x1024 : Shape := ⟨2, ![4096, 1024]⟩
abbrev S6x1024 : Shape := ⟨2, ![6, 1024]⟩
abbrev S1024x1024 : Shape := ⟨2, ![1024, 1024]⟩
abbrev S1x1024 : Shape := ⟨2, ![1, 1024]⟩
abbrev S256x1024 : Shape := ⟨2, ![256, 1024]⟩

abbrev nBuf : Space → Nat
  | .hbm => 12
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S6x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference10Ideal.lean ====
abbrev S4096x1024 : Shape := ⟨2, ![4096, 1024]⟩
abbrev S6x1024 : Shape := ⟨2, ![6, 1024]⟩
abbrev S1024x1024 : Shape := ⟨2, ![1024, 1024]⟩
abbrev S1x1024 : Shape := ⟨2, ![1, 1024]⟩
abbrev S1024 : Shape := ⟨1, ![1024]⟩

abbrev nBuf : Space → Nat
  | .hbm => 28
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S6x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S4096x1024, .f32⟩
  | .hbm, ⟨7, _⟩ => ⟨S1x1024, .f32⟩
  | .hbm, ⟨8, _⟩ => ⟨S1024, .f32⟩
  | .hbm, ⟨9, _⟩ => ⟨S1x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S1x1024, .f32⟩
  | .hbm, ⟨14, _⟩ => ⟨S1024, .f32⟩
  | .hbm, ⟨15, _⟩ => ⟨S1x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩

abbrev nD : Nat := 1
abbrev τ : Topo := Topo.v7x

variable {F : FTy → Type} [FloatOps F]
-- ==== Kernel11.lean ====
abbrev S4096x1024 : Shape := ⟨2, ![4096, 1024]⟩
abbrev S1024 : Shape := ⟨1, ![1024]⟩
abbrev S1024x768 : Shape := ⟨2, ![1024, 768]⟩
abbrev S64 : Shape := ⟨1, ![64]⟩
abbrev S6x4096x128 : Shape := ⟨3, ![6, 4096, 128]⟩
abbrev S1x1024 : Shape := ⟨2, ![1, 1024]⟩
abbrev S1x64 : Shape := ⟨2, ![1, 64]⟩
abbrev S256x1024 : Shape := ⟨2, ![256, 1024]⟩
abbrev S6x256x128 : Shape := ⟨3, ![6, 256, 128]⟩
abbrev S256 : Shape := ⟨1, ![256]⟩
abbrev S256x1 : Shape := ⟨2, ![256, 1]⟩
abbrev S256x768 : Shape := ⟨2, ![256, 768]⟩
abbrev S768x12 : Shape := ⟨2, ![768, 12]⟩
abbrev S256x2304 : Shape := ⟨2, ![256, 2304]⟩
abbrev S2304x12 : Shape := ⟨2, ![2304, 12]⟩
abbrev S256x12 : Shape := ⟨2, ![256, 12]⟩
abbrev S256x36 : Shape := ⟨2, ![256, 36]⟩
abbrev S768x36 : Shape := ⟨2, ![768, 36]⟩
abbrev S1x768 : Shape := ⟨2, ![1, 768]⟩
abbrev S1x256x128 : Shape := ⟨3, ![1, 256, 128]⟩
abbrev S256x128 : Shape := ⟨2, ![256, 128]⟩
abbrev S256x640 : Shape := ⟨2, ![256, 640]⟩
abbrev S256x512 : Shape := ⟨2, ![256, 512]⟩
abbrev S256x384 : Shape := ⟨2, ![256, 384]⟩
abbrev S256x256 : Shape := ⟨2, ![256, 256]⟩
abbrev S768 : Shape := ⟨1, ![768]⟩

abbrev nBuf : Space → Nat
  | .hbm => 12
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x768, .f32⟩
  | .hbm, ⟨3, _⟩ => ⟨S64, .f32⟩
  | .hbm, ⟨4, _⟩ => ⟨S6x4096x128, .f32⟩
  | .hbm, ⟨5, _⟩ => ⟨S4096x1024, .f32⟩
  | .hbm, ⟨6, _⟩ => ⟨S1x1024, .f32⟩
  | .hbm, ⟨7, _⟩ => ⟨S1x64, .f32⟩
  | .hbm, ⟨8, _⟩ => ⟨S4096x1024, .f32⟩
  | .hbm, ⟨9, _⟩ => ⟨S1x1024, .f32⟩
  | .hbm, ⟨10, _⟩ => ⟨S1024x768, .f32⟩
  | .hbm, ⟨11, _⟩ => ⟨S1x64, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x768, .f32⟩
  | .local _ .vmem, ⟨4, _⟩ => ⟨S1x64, .f32⟩
  | .local _ .vmem, ⟨5, _⟩ => ⟨S6x256x128, .f32⟩
  | .local _ .vmem, ⟨6, _⟩ => ⟨S6x256x128, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S1x1024, .f32⟩
  | .local _ .vmem, ⟨12, _⟩ => ⟨S1024x768, .f32⟩
  | .local _ .vmem, ⟨13, _⟩ => ⟨S1x64, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32_50 : BitVec 32 := 0#32
  let v239 : BitVec 1 := Scalar.cmpi .eq arg0 c0_i32_50
  let v240 : BitVec 32 := Scalar.extui v239
  let c0_i32_51 : BitVec 32 := 0#32
  let v241 : BitVec 1 := Scalar.cmpi .ne v240 c0_i32_51
  v241

def k0_cond2 (i : grid0.Coords) : BitVec 1 :=
  let arg0 : BitVec 32 := BitVec.ofNat 32 (i 0).val
  let c0_i32_50 : BitVec 32 := 0#32
  let v239 : BitVec 1 := Scalar.cmpi .eq arg0 c0_i32_50
  let v_true : BitVec 1 := 1#1
  let v242 : BitVec 1 := Scalar.xori v239 v_true
  let v243 : BitVec 32 := Scalar.extui v242
  let c0_i32_52 : BitVec 32 := 0#32
  let v244 : BitVec 1 := Scalar.cmpi .ne v243 c0_i32_52
  v244

def k0_cond3 (i : grid0.Coords) : BitVec 1 :=
  let arg0 : BitVec 32 := BitVec.ofNat 32 (i 0).val
  let c0_i32_50 : BitVec 32 := 0#32
  let v239 : BitVec 1 := Scalar.cmpi .eq arg0 c0_i32_50
  let v245 : BitVec 32 := Scalar.extui v239
  let c0_i32_53 : BitVec 32 := 0#32
  let v246 : BitVec 1 := Scalar.cmpi .ne v245 c0_i32_53
  v246

def k0_cond4 (i : grid0.Coords) : BitVec 1 :=
  let arg0 : BitVec 32 := BitVec.ofNat 32 (i 0).val
  let c0_i32_50 : BitVec 32 := 0#32
  let v239 : BitVec 1 := Scalar.cmpi .eq arg0 c0_i32_50
  let true_54 : BitVec 1 := 1#1
  let v247 : BitVec 1 := Scalar.xori v239 true_54
  let v248 : BitVec 32 := Scalar.extui v247
  let c0_i32_55 : BitVec 32 := 0#32
  let v249 : BitVec 1 := Scalar.cmpi .ne v248 c0_i32_55
  v249

def k0_cond5 (i : grid0.Coords) : BitVec 1 :=
  let arg0 : BitVec 32 := BitVec.ofNat 32 (i 0).val
  let c0_i32_50 : BitVec 32 := 0#32
  let v239 : BitVec 1 := Scalar.cmpi .eq arg0 c0_i32_50
  let v250 : BitVec 32 := Scalar.extui v239
  let c0_i32_56 : BitVec 32 := 0#32
  let v251 : BitVec 1 := Scalar.cmpi .ne v250 c0_i32_56
  v251

def k0_cond6 (i : grid0.Coords) : BitVec 1 :=
  let arg0 : BitVec 32 := BitVec.ofNat 32 (i 0).val
  let c0_i32_50 : BitVec 32 := 0#32
  let v239 : BitVec 1 := Scalar.cmpi .eq arg0 c0_i32_50
  let true_57 : BitVec 1 := 1#1
  let v252 : BitVec 1 := Scalar.xori v239 true_57
  let v253 : BitVec 32 := Scalar.extui v252
  let c0_i32_58 : BitVec 32 := 0#32
  let v254 : BitVec 1 := Scalar.cmpi .ne v253 c0_i32_58
  v254

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S6x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference11Ideal.lean ====
abbrev S4096x1024 : Shape := ⟨2, ![4096, 1024]⟩
abbrev S1024 : Shape := ⟨1, ![1024]⟩
abbrev S1024x768 : Shape := ⟨2, ![1024, 768]⟩
abbrev S64 : Shape := ⟨1, ![64]⟩
abbrev S6x4096x128 : Shape := ⟨3, ![6, 4096, 128]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x768 : Shape := ⟨2, ![4096, 768]⟩
abbrev S4096x12x64 : Shape := ⟨3, ![4096, 12, 64]⟩
abbrev S4096x12 : Shape := ⟨2, ![4096, 12]⟩
abbrev S4096x12x1 : Shape := ⟨3, ![4096, 12, 1]⟩
abbrev S1x1x64 : Shape := ⟨3, ![1, 1, 64]⟩
abbrev S4096x6x128 : Shape := ⟨3, ![4096, 6, 128]⟩
abbrev S768x1024 : Shape := ⟨2, ![768, 1024]⟩
abbrev S1x64 : Shape := ⟨2, ![1, 64]⟩

abbrev nBuf : Space → Nat
  | .hbm => 109
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x768, .f32⟩
  | .hbm, ⟨3, _⟩ => ⟨S64, .f32⟩
  | .hbm, ⟨4, _⟩ => ⟨S6x4096x128, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x768, .f32⟩
  | .hbm, ⟨27, _⟩ => ⟨S4096x12x64, .f32⟩
  | .hbm, ⟨28, _⟩ => ⟨S4096x12x64, .f32⟩
  | .hbm, ⟨29, _⟩ => ⟨S_, .f32⟩
  | .hbm, ⟨30, _⟩ => ⟨S4096x12, .f32⟩
  | .hbm, ⟨31, _⟩ => ⟨S4096x12x1, .f32⟩
  | .hbm, ⟨32, _⟩ => ⟨S_, .f32⟩
  | .hbm, ⟨33, _⟩ => ⟨S4096x12x1, .f32⟩
  | .hbm, ⟨34, _⟩ => ⟨S4096x12x1, .f32⟩
  | .hbm, ⟨35, _⟩ => ⟨S_, .f32⟩
  | .hbm, ⟨36, _⟩ => ⟨S4096x12x1, .f32⟩
  | .hbm, ⟨37, _⟩ => ⟨S4096x12x1, .f32⟩
  | .hbm, ⟨38, _⟩ => ⟨S4096x12x1, .f32⟩
  | .hbm, ⟨39, _⟩ => ⟨S4096x12x1, .f32⟩
  | .hbm, ⟨40, _⟩ => ⟨S_, .f32⟩
  | .hbm, ⟨41, _⟩ => ⟨S4096x12x1, .f32⟩
  | .hbm, ⟨42, _⟩ => ⟨S4096x12x1, .f32⟩
  | .hbm, ⟨43, _⟩ => ⟨S4096x12x64, .f32⟩
  | .hbm, ⟨44, _⟩ => ⟨S4096x12x64, .f32⟩
  | .hbm, ⟨45, _⟩ => ⟨S1x1x64, .f32⟩
  | .hbm, ⟨46, _⟩ => ⟨S4096x12x64, .f32⟩
  | .hbm, ⟨47, _⟩ => ⟨S4096x12x64, .f32⟩
  | .hbm, ⟨48, _⟩ => ⟨S4096x6x128, .f32⟩
  | .hbm, ⟨49, _⟩ => ⟨S6x4096x128, .f32⟩
  | .hbm, ⟨50, _⟩ => ⟨S4096x6x128, .f32⟩
  | .hbm, ⟨51, _⟩ => ⟨S4096x12x64, .f32⟩
  | .hbm, ⟨52, _⟩ => ⟨S4096x12x64, .f32⟩
  | .hbm, ⟨53, _⟩ => ⟨S_, .f32⟩
  | .hbm, ⟨54, _⟩ => ⟨S64, .f32⟩
  | .hbm, ⟨55, _⟩ => ⟨S1x1x64, .f32⟩
  | .hbm, ⟨56, _⟩ => ⟨S4096x12x64, .f32⟩
  | .hbm, ⟨57, _⟩ => ⟨S4096x12x64, .f32⟩
  | .hbm, ⟨58, _⟩ => ⟨S_, .f32⟩
  | .hbm, ⟨59, _⟩ => ⟨S64, .f32⟩
  | .hbm, ⟨60, _⟩ => ⟨S4096x12x64, .f32⟩
  | .hbm, ⟨61, _⟩ => ⟨S_, .f32⟩
  | .hbm, ⟨62, _⟩ => ⟨S4096x12, .f32⟩
  | .hbm, ⟨63, _⟩ => ⟨S4096x12x1, .f32⟩
  | .hbm, ⟨64, _⟩ => ⟨S4096x12x64, .f32⟩
  | .hbm, ⟨65, _⟩ => ⟨S4096x12x64, .f32⟩
  | .hbm, ⟨66, _⟩ => ⟨S4096x12x1, .f32⟩
  | .hbm, ⟨67, _⟩ => ⟨S_, .f32⟩
  | .hbm, ⟨68, _⟩ => ⟨S4096x12x1, .f32⟩
  | .hbm, ⟨69, _⟩ => ⟨S4096x12x1, .f32⟩
  | .hbm, ⟨70, _⟩ => ⟨S_, .f32⟩
  | .hbm, ⟨71, _⟩ => ⟨S4096x12, .f32⟩
  | .hbm, ⟨72, _⟩ => ⟨S4096x12x64, .f32⟩
  | .hbm, ⟨73, _⟩ => ⟨S4096x12x64, .f32⟩
  | .hbm, ⟨74, _⟩ => ⟨S4096x12x64, .f32⟩
  | .hbm, ⟨75, _⟩ => ⟨S4096x12x64, .f32⟩
  | .hbm, ⟨76, _⟩ => ⟨S4096x12x64, .f32⟩
  | .hbm, ⟨77, _⟩ => ⟨S4096x768, .f32⟩
  | .hbm, ⟨78, _⟩ => ⟨S768x1024, .f32⟩
  | .hbm, ⟨79, _⟩ => ⟨S1024x768, .f32⟩
  | .hbm, ⟨80, _⟩ => ⟨S4096x1024, .f32⟩
  | .hbm, ⟨81, _⟩ => ⟨S4096x1024, .f32⟩
  | .hbm, ⟨82, _⟩ => ⟨S_, .f32⟩
  | .hbm, ⟨83, _⟩ => ⟨S1024, .f32⟩
  | .hbm, ⟨84, _⟩ => ⟨S1x1024, .f32⟩
  | .hbm, ⟨85, _⟩ => ⟨S4096x1024, .f32⟩
  | .hbm, ⟨86, _⟩ => ⟨S4096x1024, .f32⟩
  | .hbm, ⟨87, _⟩ => ⟨S_, .f32⟩
  | .hbm, ⟨88, _⟩ => ⟨S1024, .f32⟩
  | .hbm, ⟨89, _⟩ => ⟨S4096x1024, .f32⟩
  | .hbm, ⟨90, _⟩ => ⟨S_, .f32⟩
  | .hbm, ⟨91, _⟩ => ⟨S4096, .f32⟩
  | .hbm, ⟨92, _⟩ => ⟨S4096x1, .f32⟩
  | .hbm, ⟨93, _⟩ => ⟨S4096x1024, .f32⟩
  | .hbm, ⟨94, _⟩ => ⟨S4096x1024, .f32⟩
  | .hbm, ⟨95, _⟩ => ⟨S4096x1, .f32⟩
  | .hbm, ⟨96, _⟩ => ⟨S_, .f32⟩
  | .hbm, ⟨97, _⟩ => ⟨S4096x1, .f32⟩
  | .hbm, ⟨98, _⟩ => ⟨S4096x1, .f32⟩
  | .hbm, ⟨99, _⟩ => ⟨S_, .f32⟩
  | .hbm, ⟨100, _⟩ => ⟨S4096, .f32⟩
  | .hbm, ⟨101, _⟩ => ⟨S4096x1024, .f32⟩
  | .hbm, ⟨102, _⟩ => ⟨S4096x1024, .f32⟩
  | .hbm, ⟨103, _⟩ => ⟨S4096x1024, .f32⟩
  | .hbm, ⟨104, _⟩ => ⟨S4096x1024, .f32⟩
  | .hbm, ⟨105, _⟩ => ⟨S4096x1024, .f32⟩
  | .hbm, ⟨106, _⟩ => ⟨S4096x1024, .f32⟩
  | .hbm, ⟨107, _⟩ => ⟨S1x1024, .f32⟩
  | .hbm, ⟨108, _⟩ => ⟨S1x64, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_7 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_8 : Ref sig .tc := ⟨.hbm, 58, rfl⟩
abbrev main_v43 : Ref sig .tc := ⟨.hbm, 59, rfl⟩
abbrev main_v44 : Ref sig .tc := ⟨.hbm, 60, rfl⟩
abbrev main_cst_9 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_10 : Ref sig .tc := ⟨.hbm, 67, rfl⟩
abbrev main_v50 : Ref sig .tc := ⟨.hbm, 68, rfl⟩
abbrev main_v51 : Ref sig .tc := ⟨.hbm, 69, rfl⟩
abbrev main_cst_11 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_cst_12 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_cst_13 : Ref sig .tc := ⟨.hbm, 87, rfl⟩
abbrev main_v67 : Ref sig .tc := ⟨.hbm, 88, rfl⟩
abbrev main_v68 : Ref sig .tc := ⟨.hbm, 89, rfl⟩
abbrev main_cst_14 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_cst_15 : Ref sig .tc := ⟨.hbm, 96, rfl⟩
abbrev main_v74 : Ref sig .tc := ⟨.hbm, 97, rfl⟩
abbrev main_v75 : Ref sig .tc := ⟨.hbm, 98, rfl⟩
abbrev main_cst_16 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩

abbrev nD : Nat := 1
abbrev τ : Topo := Topo.v7x

variable {F : FTy → Type} [FloatOps F]
-- ==== Kernel12.lean ====
abbrev S4096x1024 : Shape := ⟨2, ![4096, 1024]⟩
abbrev S1024 : Shape := ⟨1, ![1024]⟩
abbrev S1024x768 : Shape := ⟨2, ![1024, 768]⟩
abbrev S64 : Shape := ⟨1, ![64]⟩
abbrev S1x1024 : Shape := ⟨2, ![1, 1024]⟩
abbrev S1x64 : Shape := ⟨2, ![1, 64]⟩
abbrev S4096x256 : Shape := ⟨2, ![4096, 256]⟩
abbrev S6x4096x128 : Shape := ⟨3, ![6, 4096, 128]⟩
abbrev S256x1024 : Shape := ⟨2, ![256, 1024]⟩
abbrev S256x256 : Shape := ⟨2, ![256, 256]⟩
abbrev S6x256x128 : Shape := ⟨3, ![6, 256, 128]⟩
abbrev S256 : Shape := ⟨1, ![256]⟩
abbrev S256x1 : Shape := ⟨2, ![256, 1]⟩
abbrev S256x768 : Shape := ⟨2, ![256, 768]⟩
abbrev S768x12 : Shape := ⟨2, ![768, 12]⟩
abbrev S256x2304 : Shape := ⟨2, ![256, 2304]⟩
abbrev S2304x12 : Shape := ⟨2, ![2304, 12]⟩
abbrev S256x12 : Shape := ⟨2, ![256, 12]⟩
abbrev S256x36 : Shape := ⟨2, ![256, 36]⟩
abbrev S768x36 : Shape := ⟨2, ![768, 36]⟩
abbrev S1x768 : Shape := ⟨2, ![1, 768]⟩
abbrev S256x128 : Shape := ⟨2, ![256, 128]⟩
abbrev S1x256x128 : Shape := ⟨3, ![1, 256, 128]⟩

abbrev nBuf : Space → Nat
  | .hbm => 17
  | .vmem => 21
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x768, .f32⟩
  | .hbm, ⟨3, _⟩ => ⟨S1024x768, .f32⟩
  | .hbm, ⟨4, _⟩ => ⟨S1024x768, .f32⟩
  | .hbm, ⟨5, _⟩ => ⟨S1024x768, .f32⟩
  | .hbm, ⟨6, _⟩ => ⟨S64, .f32⟩
  | .hbm, ⟨7, _⟩ => ⟨S64, .f32⟩
  | .hbm, ⟨8, _⟩ => ⟨S1x1024, .f32⟩
  | .hbm, ⟨9, _⟩ => ⟨S1x64, .f32⟩
  | .hbm, ⟨10, _⟩ => ⟨S1x64, .f32⟩
  | .hbm, ⟨11, _⟩ => ⟨S4096x256, .f32⟩
  | .hbm, ⟨12, _⟩ => ⟨S4096x256, .f32⟩
  | .hbm, ⟨13, _⟩ => ⟨S4096x256, .f32⟩
  | .hbm, ⟨14, _⟩ => ⟨S6x4096x128, .f32⟩
  | .hbm, ⟨15, _⟩ => ⟨S6x4096x128, .f32⟩
  | .hbm, ⟨16, _⟩ => ⟨S6x4096x128, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x768, .f32⟩
  | .local _ .vmem, ⟨4, _⟩ => ⟨S1024x768, .f32⟩
  | .local _ .vmem, ⟨5, _⟩ => ⟨S1024x768, .f32⟩
  | .local _ .vmem, ⟨6, _⟩ => ⟨S1024x768, .f32⟩
  | .local _ .vmem, ⟨7, _⟩ => ⟨S1x64, .f32⟩
  | .local _ .vmem, ⟨8, _⟩ => ⟨S1x64, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S6x256x128, .f32⟩
  | .local _ .vmem, ⟨16, _⟩ => ⟨S6x256x128, .f32⟩
  | .local _ .vmem, ⟨17, _⟩ => ⟨S6x256x128, .f32⟩
  | .local _ .vmem, ⟨18, _⟩ => ⟨S6x256x128, .f32⟩
  | .local _ .vmem, ⟨19, _⟩ => ⟨S6x256x128, .f32⟩
  | .local _ .vmem, ⟨20, _⟩ => ⟨S6x256x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v3_3 : Ref sig .tc := ⟨.hbm, 14, rfl⟩
abbrev main_v3_4 : Ref sig .tc := ⟨.hbm, 15, rfl⟩
abbrev main_v3_5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S6x256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S6x256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S6x256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference12Ideal.lean ====
abbrev S4096x1024 : Shape := ⟨2, ![4096, 1024]⟩
abbrev S1024 : Shape := ⟨1, ![1024]⟩
abbrev S1024x768 : Shape := ⟨2, ![1024, 768]⟩
abbrev S64 : Shape := ⟨1, ![64]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x768 : Shape := ⟨2, ![4096, 768]⟩
abbrev S4096x256 : Shape := ⟨2, ![4096, 256]⟩
abbrev S4096x12x64 : Shape := ⟨3, ![4096, 12, 64]⟩
abbrev S4096x12 : Shape := ⟨2, ![4096, 12]⟩
abbrev S4096x12x1 : Shape := ⟨3, ![4096, 12, 1]⟩
abbrev S1x1x64 : Shape := ⟨3, ![1, 1, 64]⟩
abbrev S4096x6x128 : Shape := ⟨3, ![4096, 6, 128]⟩
abbrev S6x4096x128 : Shape := ⟨3, ![6, 4096, 128]⟩

abbrev nBuf : Space → Nat
  | .hbm => 119
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x768, .f32⟩
  | .hbm, ⟨3, _⟩ => ⟨S1024x768, .f32⟩
  | .hbm, ⟨4, _⟩ => ⟨S1024x768, .f32⟩
  | .hbm, ⟨5, _⟩ => ⟨S1024x768, .f32⟩
  | .hbm, ⟨6, _⟩ => ⟨S64, .f32⟩
  | .hbm, ⟨7, _⟩ => ⟨S64, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x768, .f32⟩
  | .hbm, ⟨25, _⟩ => ⟨S4096x256, .f32⟩
  | .hbm, ⟨26, _⟩ => ⟨S4096x256, .f32⟩
  | .hbm, ⟨27, _⟩ => ⟨S4096x256, .f32⟩
  | .hbm, ⟨28, _⟩ => ⟨S4096x1024, .f32⟩
  | .hbm, ⟨29, _⟩ => ⟨S_, .f32⟩
  | .hbm, ⟨30, _⟩ => ⟨S4096, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S1x1024, .f32⟩
  | .hbm, ⟨42, _⟩ => ⟨S4096x1024, .f32⟩
  | .hbm, ⟨43, _⟩ => ⟨S4096x1024, .f32⟩
  | .hbm, ⟨44, _⟩ => ⟨S4096x768, .f32⟩
  | .hbm, ⟨45, _⟩ => ⟨S4096x12x64, .f32⟩
  | .hbm, ⟨46, _⟩ => ⟨S4096x12x64, .f32⟩
  | .hbm, ⟨47, _⟩ => ⟨S_, .f32⟩
  | .hbm, ⟨48, _⟩ => ⟨S4096x12, .f32⟩
  | .hbm, ⟨49, _⟩ => ⟨S4096x12x1, .f32⟩
  | .hbm, ⟨50, _⟩ => ⟨S_, .f32⟩
  | .hbm, ⟨51, _⟩ => ⟨S4096x12x1, .f32⟩
  | .hbm, ⟨52, _⟩ => ⟨S4096x12x1, .f32⟩
  | .hbm, ⟨53, _⟩ => ⟨S_, .f32⟩
  | .hbm, ⟨54, _⟩ => ⟨S4096x12x1, .f32⟩
  | .hbm, ⟨55, _⟩ => ⟨S4096x12x1, .f32⟩
  | .hbm, ⟨56, _⟩ => ⟨S4096x12x1, .f32⟩
  | .hbm, ⟨57, _⟩ => ⟨S4096x12x64, .f32⟩
  | .hbm, ⟨58, _⟩ => ⟨S4096x12x64, .f32⟩
  | .hbm, ⟨59, _⟩ => ⟨S1x1x64, .f32⟩
  | .hbm, ⟨60, _⟩ => ⟨S4096x12x64, .f32⟩
  | .hbm, ⟨61, _⟩ => ⟨S4096x12x64, .f32⟩
  | .hbm, ⟨62, _⟩ => ⟨S4096x6x128, .f32⟩
  | .hbm, ⟨63, _⟩ => ⟨S6x4096x128, .f32⟩
  | .hbm, ⟨64, _⟩ => ⟨S4096x1024, .f32⟩
  | .hbm, ⟨65, _⟩ => ⟨S_, .f32⟩
  | .hbm, ⟨66, _⟩ => ⟨S4096, .f32⟩
  | .hbm, ⟨67, _⟩ => ⟨S4096x1, .f32⟩
  | .hbm, ⟨68, _⟩ => ⟨S_, .f32⟩
  | .hbm, ⟨69, _⟩ => ⟨S4096x1, .f32⟩
  | .hbm, ⟨70, _⟩ => ⟨S4096x1, .f32⟩
  | .hbm, ⟨71, _⟩ => ⟨S_, .f32⟩
  | .hbm, ⟨72, _⟩ => ⟨S4096x1, .f32⟩
  | .hbm, ⟨73, _⟩ => ⟨S4096x1, .f32⟩
  | .hbm, ⟨74, _⟩ => ⟨S4096x1, .f32⟩
  | .hbm, ⟨75, _⟩ => ⟨S4096x1024, .f32⟩
  | .hbm, ⟨76, _⟩ => ⟨S4096x1024, .f32⟩
  | .hbm, ⟨77, _⟩ => ⟨S1x1024, .f32⟩
  | .hbm, ⟨78, _⟩ => ⟨S4096x1024, .f32⟩
  | .hbm, ⟨79, _⟩ => ⟨S4096x1024, .f32⟩
  | .hbm, ⟨80, _⟩ => ⟨S4096x768, .f32⟩
  | .hbm, ⟨81, _⟩ => ⟨S4096x12x64, .f32⟩
  | .hbm, ⟨82, _⟩ => ⟨S4096x12x64, .f32⟩
  | .hbm, ⟨83, _⟩ => ⟨S_, .f32⟩
  | .hbm, ⟨84, _⟩ => ⟨S4096x12, .f32⟩
  | .hbm, ⟨85, _⟩ => ⟨S4096x12x1, .f32⟩
  | .hbm, ⟨86, _⟩ => ⟨S_, .f32⟩
  | .hbm, ⟨87, _⟩ => ⟨S4096x12x1, .f32⟩
  | .hbm, ⟨88, _⟩ => ⟨S4096x12x1, .f32⟩
  | .hbm, ⟨89, _⟩ => ⟨S_, .f32⟩
  | .hbm, ⟨90, _⟩ => ⟨S4096x12x1, .f32⟩
  | .hbm, ⟨91, _⟩ => ⟨S4096x12x1, .f32⟩
  | .hbm, ⟨92, _⟩ => ⟨S4096x12x1, .f32⟩
  | .hbm, ⟨93, _⟩ => ⟨S4096x12x64, .f32⟩
  | .hbm, ⟨94, _⟩ => ⟨S4096x12x64, .f32⟩
  | .hbm, ⟨95, _⟩ => ⟨S1x1x64, .f32⟩
  | .hbm, ⟨96, _⟩ => ⟨S4096x12x64, .f32⟩
  | .hbm, ⟨97, _⟩ => ⟨S4096x12x64, .f32⟩
  | .hbm, ⟨98, _⟩ => ⟨S4096x6x128, .f32⟩
  | .hbm, ⟨99, _⟩ => ⟨S6x4096x128, .f32⟩
  | .hbm, ⟨100, _⟩ => ⟨S4096x1024, .f32⟩
  | .hbm, ⟨101, _⟩ => ⟨S_, .f32⟩
  | .hbm, ⟨102, _⟩ => ⟨S4096, .f32⟩
  | .hbm, ⟨103, _⟩ => ⟨S4096x1, .f32⟩
  | .hbm, ⟨104, _⟩ => ⟨S_, .f32⟩
  | .hbm, ⟨105, _⟩ => ⟨S4096x1, .f32⟩
  | .hbm, ⟨106, _⟩ => ⟨S4096x1, .f32⟩
  | .hbm, ⟨107, _⟩ => ⟨S_, .f32⟩
  | .hbm, ⟨108, _⟩ => ⟨S4096x1, .f32⟩
  | .hbm, ⟨109, _⟩ => ⟨S4096x1, .f32⟩
  | .hbm, ⟨110, _⟩ => ⟨S4096x1, .f32⟩
  | .hbm, ⟨111, _⟩ => ⟨S4096x1024, .f32⟩
  | .hbm, ⟨112, _⟩ => ⟨S4096x1024, .f32⟩
  | .hbm, ⟨113, _⟩ => ⟨S1x1024, .f32⟩
  | .hbm, ⟨114, _⟩ => ⟨S4096x1024, .f32⟩
  | .hbm, ⟨115, _⟩ => ⟨S4096x1024, .f32⟩
  | .hbm, ⟨116, _⟩ => ⟨S4096x768, .f32⟩
  | .hbm, ⟨117, _⟩ => ⟨S4096x6x128, .f32⟩
  | .hbm, ⟨118, _⟩ => ⟨S6x4096x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_5 : Ref sig .tc := ⟨.hbm, 47, rfl⟩
abbrev main_v33 : Ref sig .tc := ⟨.hbm, 48, rfl⟩
abbrev main_v34 : Ref sig .tc := ⟨.hbm, 49, rfl⟩
abbrev main_cst_6 : Ref sig .tc := ⟨.hbm, 50, rfl⟩
abbrev main_v35 : Ref sig .tc := ⟨.hbm, 51, rfl⟩
abbrev main_v36 : Ref sig .tc := ⟨.hbm, 52, rfl⟩
abbrev main_cst_7 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_8 : Ref sig .tc := ⟨.hbm, 65, rfl⟩
abbrev main_v48 : Ref sig .tc := ⟨.hbm, 66, rfl⟩
abbrev main_v49 : Ref sig .tc := ⟨.hbm, 67, rfl⟩
abbrev main_cst_9 : Ref sig .tc := ⟨.hbm, 68, rfl⟩
abbrev main_v50 : Ref sig .tc := ⟨.hbm, 69, rfl⟩
abbrev main_v51 : Ref sig .tc := ⟨.hbm, 70, rfl⟩
abbrev main_cst_10 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_11 : Ref sig .tc := ⟨.hbm, 83, rfl⟩
abbrev main_v63 : Ref sig .tc := ⟨.hbm, 84, rfl⟩
abbrev main_v64 : Ref sig .tc := ⟨.hbm, 85, rfl⟩
abbrev main_cst_12 : Ref sig .tc := ⟨.hbm, 86, rfl⟩
abbrev main_v65 : Ref sig .tc := ⟨.hbm, 87, rfl⟩
abbrev main_v66 : Ref sig .tc := ⟨.hbm, 88, rfl⟩
abbrev main_cst_13 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_cst_14 : Ref sig .tc := ⟨.hbm, 101, rfl⟩
abbrev main_v78 : Ref sig .tc := ⟨.hbm, 102, rfl⟩
abbrev main_v79 : Ref sig .tc := ⟨.hbm, 103, rfl⟩
abbrev main_cst_15 : Ref sig .tc := ⟨.hbm, 104, rfl⟩
abbrev main_v80 : Ref sig .tc := ⟨.hbm, 105, rfl⟩
abbrev main_v81 : Ref sig .tc := ⟨.hbm, 106, rfl⟩
abbrev main_cst_16 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩

abbrev nD : Nat := 1
abbrev τ : Topo := Topo.v7x

variable {F : FTy → Type} [FloatOps F]
-- ==== Proof.Reals.lean ====
/- Extended reals that are real numbers: which operations keep them so. -/
module

public import Idealize.ShloMosaic.Lib.Pipeline.ValueKit
public import Idealize.ShloMosaic.Lib.IdealHost

@[expose] public section

noncomputable section

open Idealize.ShloMosaic

namespace Cert.Reals

/-- An extended real that is a real number. -/
def IsR (x : EReal) : Prop := ∃ r : ℝ, x = (r : EReal)

theorem isR_coe (r : ℝ) : IsR (r : EReal) := ⟨r, rfl⟩
theorem isR_zero : IsR (0 : EReal) := ⟨0, rfl⟩
theorem isR_one : IsR (1 : EReal) := ⟨1, rfl⟩

theorem IsR.add {x y : EReal} (hx : IsR x) (hy : IsR y) : IsR (x + y) := by
  obtain ⟨a, rfl⟩ := hx; obtain ⟨b, rfl⟩ := hy; exact ⟨a + b, by push_cast; rfl⟩
theorem IsR.sub {x y : EReal} (hx : IsR x) (hy : IsR y) : IsR (x - y) := by
  obtain ⟨a, rfl⟩ := hx; obtain ⟨b, rfl⟩ := hy; exact ⟨a - b, by push_cast; rfl⟩
theorem IsR.mul {x y : EReal} (hx : IsR x) (hy : IsR y) : IsR (x * y) := by
  obtain ⟨a, rfl⟩ := hx; obtain ⟨b, rfl⟩ := hy; exact ⟨a * b, by push_cast; rfl⟩
theorem IsR.neg {x : EReal} (hx : IsR x) : IsR (-x) := by
  obtain ⟨a, rfl⟩ := hx; exact ⟨-a, by push_cast; rfl⟩

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsR.sum {ι : Type} {s : Finset ι} {f : ι → EReal} (h : ∀ i ∈ s, IsR (f i)) : IsR (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

theorem IsR.logistic {x : EReal} (hx : IsR x) : IsR (Ideal.logistic x) := by
  obtain ⟨a, rfl⟩ := hx; exact ⟨_, Ideal.logistic_coe a⟩

/-- A value that its own difference is zero is a real number. -/
theorem isR_of_sub_self {x : EReal} (h : x - x = 0) : IsR x := by
  induction x with
  | bot => exact absurd h (by simp)
  | top => exact absurd h (by simp)
  | coe r => exact ⟨r, rfl⟩

/-- The same, of the comparison's bit. -/
theorem real_of_eq {x : EReal} (h : BitVec.ofBool (decide (x - x = 0)) = 1#1) : IsR x := by
  apply isR_of_sub_self
  by_contra hx
  rw [decide_eq_false hx] at h
  exact absurd h (by decide)

theorem ofBits_half : Ideal.ofBits .f32 0x3F000000#32 = (((1 : ℝ) / 2 : ℝ) : EReal) := by
  simp [Ideal.ofBits, Ideal.ieee]; rw [← EReal.coe_mul]; norm_num

theorem ofBits_1024 : Ideal.ofBits .f32 0x44800000#32 = ((1024 : ℝ) : EReal) := by
  simp [Ideal.ofBits, Ideal.ieee]; rw [← EReal.coe_mul]; norm_num

theorem ofBits_eps : ∃ e : ℝ, 0 < e ∧ Ideal.ofBits .f32 0x358637BD#32 = (e : EReal) := by
  refine ⟨_, ?_, by simp [Ideal.ofBits, Ideal.ieee]; rfl⟩
  positivity

/-- The reciprocal root of a mean square and a positive constant is a real number. -/
theorem isR_rsqrt_mean {n : Nat} (x : Fin n → EReal) (hx : ∀ k, IsR (x k)) :
    IsR (Ideal.rsqrt (Ideal.div (∑ k, x k * x k) (Ideal.ofBits .f32 0x44800000#32) + Ideal.ofBits .f32 0x358637BD#32)) := by
  obtain ⟨e, he, hb⟩ := ofBits_eps
  choose r hr using hx
  have h : (∑ k, x k * x k) = ((∑ k, r k * r k : ℝ) : EReal) := by
    rw [coe_sum]; exact Finset.sum_congr rfl fun k _ => by rw [hr k]; push_cast; rfl
  rw [h, ofBits_1024, hb, Ideal.div_coe (by norm_num)]
  have hp : 0 < (∑ k, r k * r k) * (1 / 1024) + e :=
    add_pos_of_nonneg_of_pos (mul_nonneg (Finset.sum_nonneg fun k _ => mul_self_nonneg _) (by norm_num)) he
  rw [← EReal.coe_mul, ← EReal.coe_add, Ideal.rsqrt_coe, if_neg (not_lt.mpr hp.le), if_neg hp.ne']
  exact ⟨_, rfl⟩

theorem mul_self_nonneg' (x : EReal) : 0 ≤ x * x := by
  rcases le_total 0 x with h | h
  · exact mul_nonneg h h
  · rw [← neg_mul_neg]
    exact mul_nonneg (EReal.neg_nonneg.mpr h) (EReal.neg_nonneg.mpr h)

/-- An entry of a row over the root of its mean square and a positive constant is a real number: a row with an infinity
    is divided by an infinity. -/
theorem isR_normed {n : Nat} (x : Fin n → EReal) (k : Fin n) :
    IsR (x k * Ideal.rsqrt (Ideal.div (∑ k, x k * x k) (Ideal.ofBits .f32 0x44800000#32) + Ideal.ofBits .f32 0x358637BD#32)) := by
  by_cases hx : ∀ k, IsR (x k)
  · exact (hx k).mul (isR_rsqrt_mean x hx)
  · obtain ⟨j, hj⟩ := not_forall.mp hx
    have ht : x j * x j = ⊤ := by
      cases h : x j with
      | bot => rfl
      | top => rfl
      | coe r => exact absurd ⟨r, h⟩ hj
    have hs : (∑ k, x k * x k) = ⊤ := top_le_iff.mp (ht ▸ Finset.single_le_sum (f := fun k => x k * x k) (fun k _ => mul_self_nonneg' (x k)) (Finset.mem_univ j))
    obtain ⟨e, he, hb⟩ := ofBits_eps
    rw [hs, ofBits_1024, hb, Ideal.div_coe (by norm_num), EReal.top_mul_coe_of_pos (by norm_num), EReal.top_add_coe, Ideal.rsqrt_top, mul_zero]
    exact isR_zero

/-- The gradient of `a · sigmoid a`, in the kernel's form and in the chain rule's. -/
theorem silu_grad {a y : EReal} (hy : IsR y) :
    y * (Ideal.logistic a * (1 + a * (1 - Ideal.logistic a))) = y * Ideal.logistic a + a * y * (Ideal.logistic a * (1 - Ideal.logistic a)) := by
  have hone : (1 : EReal) - 1 = 0 := by
    have h : (1 : EReal) = ((1 : ℝ) : EReal) := rfl
    rw [h, ← EReal.coe_sub, sub_self, EReal.coe_zero]
  by_cases ha : IsR a
  swap
  · cases h : a with
    | bot => rw [Ideal.logistic_bot]; simp only [zero_mul, mul_zero, add_zero]
    | top => rw [Ideal.logistic_top, hone]; simp only [mul_zero, add_zero, mul_one]
    | coe r => exact absurd ⟨r, h⟩ ha
  obtain ⟨s, hs⟩ := ha.logistic
  obtain ⟨a, rfl⟩ := ha; obtain ⟨y, rfl⟩ := hy
  rw [hs]
  have : (1 : EReal) = ((1 : ℝ) : EReal) := rfl
  rw [this]
  norm_cast
  ring

end Cert.Reals
-- ==== Proof.FfnBwdPoint.lean ====
module

public import proofs.«01_k».proof.Proof.Gen.Kernel2Ideal.Value
public import proofs.«01_k».proof.Proof.Gen.Reference2Ideal.Read
public import Idealize.ShloMosaic.Lib.Pipeline.ValueKit
public import proofs.«01_k».proof.Proof.Reals

@[expose] public section

set_option maxRecDepth 16384

noncomputable section

open Idealize.ShloMosaic Idealize.ShloMosaic.TcCoe Idealize.SL.Sem
open Idealize.ShloMosaic.Pipeline (Dat)

namespace Cert.Kernel2Ideal.FfnBwd

open Cert.Kernel2Ideal Cert.Kernel2Ideal.Gen
open Cert.Reference2Ideal.Read

theorem dy_val (w : FVec Ideal S1x704x1024 .bf16) (d : FVec Ideal S512x1024 .f32) (r : Fin 512) (f : Fin 704) :
    k0_pay1 (F := Ideal) (k0_pay17 w) (k0_pay22 d) (ix2 r f) = ∑ k : Fin 1024, (Ideal.ofBits .f32 0x3F000000#32 * d (ix2 r k)) * w (ix3 0 f k) := by
  pointwise [k0_pay1, k0_pay17, k0_pay22]

theorem ref_dy (W : FVec Ideal S2816x1024 .f32) (D : FVec Ideal S4096x1024 .f32) (c : Fin 4) (t : Fin 4096) (f : Fin 704) :
    val_main_v29 (F := Ideal) W D (ix3 c t f) = ∑ k : Fin 1024, (Ideal.ofBits .f32 0x3F000000#32 * D (ix2 t k)) * W (ix2 ⟨c.val * 704 + f.val, by omega⟩ k) := by
  pointwise [val_main_v29, val_main_v28, val_main_v25, val_main_v24, val_main_cst_3, val_main_cst_2, val_main_v20]

theorem ref_a (X : FVec Ideal S4096x1024 .f32) (G : FVec Ideal S1024 .f32) (W : FVec Ideal S1024x2816 .f32) (c : Fin 4) (t : Fin 4096) (f : Fin 704) :
    val_main_v15 (F := Ideal) X G W (ix3 c t f) = ∑ k : Fin 1024, val_main_v12 (F := Ideal) X G (ix2 t k) * W (ix2 k ⟨c.val * 704 + f.val, by omega⟩) := by
  pointwise [val_main_v15, val_main_v14, val_main_v13]

theorem ref_b (X : FVec Ideal S4096x1024 .f32) (G : FVec Ideal S1024 .f32) (W : FVec Ideal S1024x2816 .f32) (c : Fin 4) (t : Fin 4096) (f : Fin 704) :
    val_main_v17 (F := Ideal) X G W (ix3 c t f) = ∑ k : Fin 1024, val_main_v12 (F := Ideal) X G (ix2 t k) * W (ix2 k ⟨c.val * 704 + f.val, by omega⟩) := by
  pointwise [val_main_v17, val_main_v16, val_main_v13]

theorem ref_h (X : FVec Ideal S4096x1024 .f32) (G : FVec Ideal S1024 .f32) (t : Fin 4096) (k : Fin 1024) :
    val_main_v12 (F := Ideal) X G (ix2 t k) = X (ix2 t k) * Ideal.rsqrt (Ideal.div (∑ j : Fin 1024, X (ix2 t j) * X (ix2 t j)) (Ideal.ofBits .f32 0x44800000#32) + Ideal.ofBits .f32 0x358637BD#32) * G (ix1 k) := by
  pointwise [val_main_v12, val_main_v11, val_main_v10, val_main_v9, val_main_v8, val_main_v7, val_main_v6, val_main_v5, val_main_cst_1, val_main_v4, val_main_v3, val_main_cst_0, val_main_v2, val_main_v1, val_main_cst, val_main_v0]

theorem tile_h (x : FVec Ideal S512x1024 .f32) (g : FVec Ideal S1x1024 .f32) (X : FVec Ideal S4096x1024 .f32) (G : FVec Ideal S1024 .f32) (t : Fin 4096) (r : Fin 512)
    (hx : ∀ k : Fin 1024, x (ix2 r k) = X (ix2 t k)) (hg : ∀ k : Fin 1024, g (ix2 0 k) = G (ix1 k)) (k : Fin 1024) :
    k0_pay14 (F := Ideal) x g (ix2 r k) = val_main_v12 (F := Ideal) X G (ix2 t k) := by
  rw [ref_h]
  pointwise [k0_pay14]
  simp only [hx, hg]

/-! ## The reference's gradients at a point -/

section Ref

variable (X : FVec Ideal S4096x1024 .f32) (G : FVec Ideal S1024 .f32) (Wg Wu : FVec Ideal S1024x2816 .f32) (Wd : FVec Ideal S2816x1024 .f32) (D : FVec Ideal S4096x1024 .f32)

theorem ref_sig (c : Fin 4) (t : Fin 4096) (f : Fin 704) :
    val_main_v18_2 (F := Ideal) X G Wg (ix3 c t f) = Ideal.logistic (val_main_v15 (F := Ideal) X G Wg (ix3 c t f)) := by
  pointwise [val_main_v18_2, val_main_call0_v4, val_main_call0_cst_0, val_main_call0_v3, val_main_call0_v2, val_main_call0_cst, val_main_call0_v1, val_main_call0_v0]
  rfl

/-- The gradient at the up projection. -/
theorem ref_db (c : Fin 4) (t : Fin 4096) (f : Fin 704) :
    val_main_v31 (F := Ideal) X G Wg Wd D (ix3 c t f)
      = val_main_v29 (F := Ideal) Wd D (ix3 c t f) * (val_main_v15 (F := Ideal) X G Wg (ix3 c t f) * Ideal.logistic (val_main_v15 (F := Ideal) X G Wg (ix3 c t f))) := by
  rw [← ref_sig, mul_comm]
  rfl

/-- The gradient at the gate projection. -/
theorem ref_da (c : Fin 4) (t : Fin 4096) (f : Fin 704)
    (hy : Reals.IsR (val_main_v29 (F := Ideal) Wd D (ix3 c t f) * val_main_v17 (F := Ideal) X G Wu (ix3 c t f))) :
    val_main_v33 (F := Ideal) X G Wg Wu Wd D (ix3 c t f)
      = val_main_v29 (F := Ideal) Wd D (ix3 c t f) * val_main_v17 (F := Ideal) X G Wu (ix3 c t f)
        * (Ideal.logistic (val_main_v15 (F := Ideal) X G Wg (ix3 c t f)) * (1 + val_main_v15 (F := Ideal) X G Wg (ix3 c t f) * (1 - Ideal.logistic (val_main_v15 (F := Ideal) X G Wg (ix3 c t f))))) := by
  rw [Reals.silu_grad hy, ← ref_sig]
  pointwise [val_main_v33, val_main_call1_v1, val_main_call1_v2, val_main_call1_v0, val_main_v32, val_main_v18_1, val_main_call0_v7, val_main_call0_v6, val_main_call0_cst_1]

theorem ref_dgate (c : Fin 4) (f : Fin 704) (k : Fin 1024) :
    val_main_v45 (F := Ideal) X G Wg Wu Wd D (ix3 c f k) = ∑ t : Fin 4096, val_main_v33 (F := Ideal) X G Wg Wu Wd D (ix3 c t f) * val_main_v12 (F := Ideal) X G (ix2 t k) := by
  pointwise [val_main_v45, val_main_v44, val_main_v42, val_main_v39, val_main_v38, val_main_v13]

theorem ref_dup (c : Fin 4) (f : Fin 704) (k : Fin 1024) :
    val_main_v47 (F := Ideal) X G Wg Wd D (ix3 c f k) = ∑ t : Fin 4096, val_main_v31 (F := Ideal) X G Wg Wd D (ix3 c t f) * val_main_v12 (F := Ideal) X G (ix2 t k) := by
  pointwise [val_main_v47, val_main_v46, val_main_v37, val_main_v35, val_main_v34, val_main_v13]

theorem ref_ddown (c : Fin 4) (f : Fin 704) (k : Fin 1024) :
    val_main_v48 (F := Ideal) X G Wg Wu D (ix3 c f k) = ∑ t : Fin 4096, (val_main_v15 (F := Ideal) X G Wg (ix3 c t f) * Ideal.logistic (val_main_v15 (F := Ideal) X G Wg (ix3 c t f)) * val_main_v17 (F := Ideal) X G Wu (ix3 c t f)) * (Ideal.ofBits .f32 0x3F000000#32 * D (ix2 t k)) := by
  simp only [← ref_sig]
  pointwise [val_main_v48, val_main_v30, val_main_v27, val_main_v26, val_main_v25, val_main_v24, val_main_cst_3, val_main_cst_2, val_main_v19, val_main_v18_0]
  exact Finset.sum_congr rfl fun _ _ => mul_comm _ _

theorem ref_dh (c : Fin 4) (t : Fin 4096) (k : Fin 1024) :
    val_main_v43 (F := Ideal) X G Wg Wu Wd D (ix3 c t k)
      = ∑ f : Fin 704, val_main_v33 (F := Ideal) X G Wg Wu Wd D (ix3 c t f) * Wg (ix2 k ⟨c.val * 704 + f.val, by omega⟩)
        + ∑ f : Fin 704, val_main_v31 (F := Ideal) X G Wg Wd D (ix3 c t f) * Wu (ix2 k ⟨c.val * 704 + f.val, by omega⟩) := by
  rw [add_comm]
  pointwise [val_main_v43, val_main_v41, val_main_v40, val_main_v36, val_main_v16, val_main_v14]

end Ref

end Cert.Kernel2Ideal.FfnBwd
-- ==== Proof.FfnBwdBlocks.lean ====
module

public import proofs.«01_k».proof.Proof.FfnBwdPoint

@[expose] public section

set_option maxRecDepth 16384

noncomputable section

open Idealize.ShloMosaic Idealize.ShloMosaic.TcCoe Idealize.SL.Sem
open Idealize.ShloMosaic.Pipeline (Dat)

namespace Cert.Kernel2Ideal.FfnBwd

open Cert.Kernel2Ideal Cert.Kernel2Ideal.Gen
open Cert.Reference2Ideal.Read

variable (m : (ℓ : Loc nD τ sig) → Buf (Elt Ideal) ℓ)

abbrev aX (c : Dev nD) : FVec Ideal S4096x1024 .f32 := m ((c : Thread nD τ).loc main_arg0)
abbrev aG (c : Dev nD) : FVec Ideal S1024 .f32 := m ((c : Thread nD τ).loc main_arg1)
abbrev aWg (c : Dev nD) : FVec Ideal S1024x2816 .f32 := m ((c : Thread nD τ).loc main_arg2)
abbrev aWu (c : Dev nD) : FVec Ideal S1024x2816 .f32 := m ((c : Thread nD τ).loc main_arg3)
abbrev aWd (c : Dev nD) : FVec Ideal S2816x1024 .f32 := m ((c : Thread nD τ).loc main_arg4)
abbrev aD (c : Dev nD) : FVec Ideal S4096x1024 .f32 := m ((c : Thread nD τ).loc main_arg5)

theorem idx : ∀ t : Fin cfg0.N, win0_0.index t = ![t.val % 8, 0] ∧ win0_1.index t = ![0, 0] ∧ win0_2.index t = ![t.val / 8, 0, 0]
    ∧ win0_3.index t = ![t.val / 8, 0, 0] ∧ win0_4.index t = ![t.val / 8, 0, 0] ∧ win0_5.index t = ![t.val % 8, 0]
    ∧ win0_6.index t = ![t.val / 8, t.val % 8, 0] ∧ win0_7.index t = ![t.val / 8, t.val % 8, 0] ∧ win0_8.index t = ![t.val / 8, t.val % 8, 0]
    ∧ win0_9.index t = ![t.val / 8, 0, 0] ∧ win0_10.index t = ![t.val / 8, 0, 0] ∧ win0_11.index t = ![t.val / 8, 0, 0] :=
  (by decide +kernel : ∀ t : Fin grid0.N, _)

/-- The chip that owns the weight slice of a grid point. -/
def chip (t : Fin cfg0.N) : Fin 4 := ⟨t.val / 8, by have h : t.val < 32 := lt_of_lt_of_eq t.isLt (show cfg0.N = 32 from N_0); omega⟩

/-- The row of the sequence at row `r` of a grid point's tile. -/
def row (t : Fin cfg0.N) (r : Fin 512) : Fin 4096 := ⟨t.val % 8 * 512 + r.val, by omega⟩

theorem v21 (c : Dev nD) (k : Fin 1024) : (V m c main_v21 : FVec Ideal S1x1024 .f32) (ix2 0 k) = aG m c (ix1 k) := by
  entry_read
  pointwise

theorem v24 (c : Dev nD) (p : Fin 4) (k : Fin 1024) (f : Fin 704) :
    (V m c main_v24 : FVec Ideal S4x1024x704 .bf16) (ix3 p k f) = aWg m c (ix2 k ⟨p.val * 704 + f.val, by omega⟩) := by
  entry_read
  pointwise

theorem v27 (c : Dev nD) (p : Fin 4) (k : Fin 1024) (f : Fin 704) :
    (V m c main_v27 : FVec Ideal S4x1024x704 .bf16) (ix3 p k f) = aWu m c (ix2 k ⟨p.val * 704 + f.val, by omega⟩) := by
  entry_read
  pointwise

theorem v29 (c : Dev nD) (p : Fin 4) (f : Fin 704) (k : Fin 1024) :
    (V m c main_v29 : FVec Ideal S4x704x1024 .bf16) (ix3 p f k) = aWd m c (ix2 ⟨p.val * 704 + f.val, by omega⟩ k) := by
  entry_read
  pointwise

theorem v16 (c : Dev nD) (p : Fin 4) (t : Fin 4096) (f : Fin 704) :
    (V m c main_v16 : FVec Ideal S4x4096x704 .bf16) (ix3 p t f) = val_main_v15 (F := Ideal) (aX m c) (aG m c) (aWg m c) (ix3 p t f) := by
  rw [ref_a]
  simp only [ref_h]
  entry_read
  pointwise

theorem v20 (c : Dev nD) (p : Fin 4) (t : Fin 4096) (f : Fin 704) :
    (V m c main_v20 : FVec Ideal S4x4096x704 .bf16) (ix3 p t f) = val_main_v17 (F := Ideal) (aX m c) (aG m c) (aWu m c) (ix3 p t f) := by
  rw [ref_b]
  simp only [ref_h]
  entry_read
  pointwise

theorem x_at (c : Dev nD) (t : Fin cfg0.N) (r : Fin 512) (k : Fin 1024) :
    (iblk m c 0 t : FVec Ideal S512x1024 .f32) (ix2 r k) = aX m c (ix2 (row t r) k) := by
  unfold row
  blk_point [iblk, V, idx t]

theorem g_at (c : Dev nD) (t : Fin cfg0.N) (k : Fin 1024) :
    (iblk m c 1 t : FVec Ideal S1x1024 .f32) (ix2 0 k) = aG m c (ix1 k) := by
  refine Eq.trans (b := (V m c main_v21 : FVec Ideal S1x1024 .f32) (ix2 0 k)) ?_ (v21 m c k)
  blk_ext [iblk, idx t]

theorem wg_at (c : Dev nD) (t : Fin cfg0.N) (k : Fin 1024) (f : Fin 704) :
    (iblk m c 2 t : FVec Ideal S1x1024x704 .bf16) (ix3 0 k f) = aWg m c (ix2 k ⟨(chip t).val * 704 + f.val, by omega⟩) := by
  refine Eq.trans (b := (V m c main_v24 : FVec Ideal S4x1024x704 .bf16) (ix3 (chip t) k f)) ?_ (v24 m c (chip t) k f)
  unfold chip
  blk_ext [iblk, idx t]

theorem wu_at (c : Dev nD) (t : Fin cfg0.N) (k : Fin 1024) (f : Fin 704) :
    (iblk m c 3 t : FVec Ideal S1x1024x704 .bf16) (ix3 0 k f) = aWu m c (ix2 k ⟨(chip t).val * 704 + f.val, by omega⟩) := by
  refine Eq.trans (b := (V m c main_v27 : FVec Ideal S4x1024x704 .bf16) (ix3 (chip t) k f)) ?_ (v27 m c (chip t) k f)
  unfold chip
  blk_ext [iblk, idx t]

theorem wd_at (c : Dev nD) (t : Fin cfg0.N) (f : Fin 704) (k : Fin 1024) :
    (iblk m c 4 t : FVec Ideal S1x704x1024 .bf16) (ix3 0 f k) = aWd m c (ix2 ⟨(chip t).val * 704 + f.val, by omega⟩ k) := by
  refine Eq.trans (b := (V m c main_v29 : FVec Ideal S4x704x1024 .bf16) (ix3 (chip t) f k)) ?_ (v29 m c (chip t) f k)
  unfold chip
  blk_ext [iblk, idx t]

theorem d_at (c : Dev nD) (t : Fin cfg0.N) (r : Fin 512) (k : Fin 1024) :
    (iblk m c 5 t : FVec Ideal S512x1024 .f32) (ix2 r k) = aD m c (ix2 (row t r) k) := by
  unfold row
  blk_point [iblk, V, idx t]

theorem a_at (c : Dev nD) (t : Fin cfg0.N) (r : Fin 512) (f : Fin 704) :
    (iblk m c 6 t : FVec Ideal S1x512x704 .bf16) (ix3 0 r f) = val_main_v15 (F := Ideal) (aX m c) (aG m c) (aWg m c) (ix3 (chip t) (row t r) f) := by
  refine Eq.trans (b := (V m c main_v16 : FVec Ideal S4x4096x704 .bf16) (ix3 (chip t) (row t r) f)) ?_ (v16 m c (chip t) (row t r) f)
  unfold chip row
  blk_ext [iblk, idx t]

theorem b_at (c : Dev nD) (t : Fin cfg0.N) (r : Fin 512) (f : Fin 704) :
    (iblk m c 7 t : FVec Ideal S1x512x704 .bf16) (ix3 0 r f) = val_main_v17 (F := Ideal) (aX m c) (aG m c) (aWu m c) (ix3 (chip t) (row t r) f) := by
  refine Eq.trans (b := (V m c main_v20 : FVec Ideal S4x4096x704 .bf16) (ix3 (chip t) (row t r) f)) ?_ (v20 m c (chip t) (row t r) f)
  unfold chip row
  blk_ext [iblk, idx t]

end Cert.Kernel2Ideal.FfnBwd
-- ==== Proof.FfnBwd.lean ====
module

public import proofs.«01_k».proof.Proof.FfnBwdBlocks

@[expose] public section

set_option maxRecDepth 16384

noncomputable section

open Idealize.ShloMosaic Idealize.ShloMosaic.TcCoe Idealize.SL.Sem
open Idealize.ShloMosaic.Pipeline (Dat)

namespace Cert.Kernel2Ideal.FfnBwd

open Cert.Kernel2Ideal Cert.Kernel2Ideal.Gen
open Cert.Reference2Ideal.Read

variable (m : (ℓ : Loc nD τ sig) → Buf (Elt Ideal) ℓ)

/-- The reference's saved activations and gradients over the kernel's arguments. -/
abbrev rH (c : Dev nD) : FVec Ideal S4096x1024 .f32 := val_main_v12 (F := Ideal) (aX m c) (aG m c)
abbrev rA (c : Dev nD) : FVec Ideal S4x4096x704 .f32 := val_main_v15 (F := Ideal) (aX m c) (aG m c) (aWg m c)
abbrev rB (c : Dev nD) : FVec Ideal S4x4096x704 .f32 := val_main_v17 (F := Ideal) (aX m c) (aG m c) (aWu m c)
abbrev rY (c : Dev nD) : FVec Ideal S4x4096x704 .f32 := val_main_v29 (F := Ideal) (aWd m c) (aD m c)
abbrev rDb (c : Dev nD) : FVec Ideal S4x4096x704 .f32 := val_main_v31 (F := Ideal) (aX m c) (aG m c) (aWg m c) (aWd m c) (aD m c)
abbrev rDa (c : Dev nD) : FVec Ideal S4x4096x704 .f32 := val_main_v33 (F := Ideal) (aX m c) (aG m c) (aWg m c) (aWu m c) (aWd m c) (aD m c)

/-- Where the chain rule's gradient of the gate equals the kernel's form of it: what comes back to the gate is a real number. -/
def RealAt (c : Dev nD) : Prop := ∀ (p : Fin 4) (t : Fin 4096) (f : Fin 704),
  Reals.IsR (rY m c (ix3 p t f) * rB m c (ix3 p t f))

theorem h_tile (c : Dev nD) (t : Fin cfg0.N) (r : Fin 512) (k : Fin 1024) :
    k0_pay14 (F := Ideal) (iblk m c 0 t) (iblk m c 1 t) (ix2 r k) = rH m c (ix2 (row t r) k) :=
  tile_h _ _ _ _ (row t r) r (fun k => x_at m c t r k) (fun k => g_at m c t k) k

theorem wg_tile (c : Dev nD) (t : Fin cfg0.N) (k : Fin 1024) (f : Fin 704) :
    k0_pay15 (F := Ideal) (iblk m c 2 t) (ix2 k f) = aWg m c (ix2 k ⟨(chip t).val * 704 + f.val, by omega⟩) := by
  rw [← wg_at]; pointwise [k0_pay15]

theorem wu_tile (c : Dev nD) (t : Fin cfg0.N) (k : Fin 1024) (f : Fin 704) :
    k0_pay16 (F := Ideal) (iblk m c 3 t) (ix2 k f) = aWu m c (ix2 k ⟨(chip t).val * 704 + f.val, by omega⟩) := by
  rw [← wu_at]; pointwise [k0_pay16]

theorem a_tile (c : Dev nD) (t : Fin cfg0.N) (r : Fin 512) (f : Fin 704) :
    k0_pay18 (F := Ideal) (iblk m c 6 t) (ix2 r f) = rA m c (ix3 (chip t) (row t r) f) := by
  refine Eq.trans ?_ (a_at m c t r f)
  pointwise [k0_pay18]

theorem b_tile (c : Dev nD) (t : Fin cfg0.N) (r : Fin 512) (f : Fin 704) :
    k0_pay19 (F := Ideal) (iblk m c 7 t) (ix2 r f) = rB m c (ix3 (chip t) (row t r) f) := by
  refine Eq.trans ?_ (b_at m c t r f)
  pointwise [k0_pay19]

theorem d_tile (c : Dev nD) (t : Fin cfg0.N) (r : Fin 512) (k : Fin 1024) :
    k0_pay22 (F := Ideal) (iblk m c 5 t) (ix2 r k) = Ideal.ofBits .f32 0x3F000000#32 * aD m c (ix2 (row t r) k) := by
  rw [← d_at]; pointwise [k0_pay22]

theorem y_tile (c : Dev nD) (t : Fin cfg0.N) (r : Fin 512) (f : Fin 704) :
    k0_pay1 (F := Ideal) (k0_pay17 (iblk m c 4 t)) (k0_pay22 (iblk m c 5 t)) (ix2 r f) = rY m c (ix3 (chip t) (row t r) f) := by
  rw [dy_val]
  refine Eq.trans ?_ (ref_dy _ _ _ _ _).symm
  exact Finset.sum_congr rfl fun k _ => by rw [wd_at, d_at]

theorem sig_tile (c : Dev nD) (t : Fin cfg0.N) (r : Fin 512) (f : Fin 704) :
    k0_pay20 (F := Ideal) (iblk m c 6 t) (ix2 r f) = Ideal.logistic (rA m c (ix3 (chip t) (row t r) f)) := by
  rw [← a_tile]; rfl

theorem silu_tile (c : Dev nD) (t : Fin cfg0.N) (r : Fin 512) (f : Fin 704) :
    k0_pay21 (F := Ideal) (iblk m c 6 t) (ix2 r f) = rA m c (ix3 (chip t) (row t r) f) * Ideal.logistic (rA m c (ix3 (chip t) (row t r) f)) := by
  rw [← sig_tile, ← a_tile]; rfl

theorem db_tile (c : Dev nD) (t : Fin cfg0.N) (r : Fin 512) (f : Fin 704) :
    k0_pay3 (F := Ideal) (k0_pay17 (iblk m c 4 t)) (k0_pay21 (iblk m c 6 t)) (k0_pay22 (iblk m c 5 t)) (ix2 r f) = rDb m c (ix3 (chip t) (row t r) f) := by
  refine Eq.trans ?_ (ref_db _ _ _ _ _ _ _ _).symm
  exact congrArg₂ (· * ·) (y_tile m c t r f) (silu_tile m c t r f)

theorem da_tile (c : Dev nD) (hr : RealAt m c) (t : Fin cfg0.N) (r : Fin 512) (f : Fin 704) :
    k0_pay4 (F := Ideal) (k0_pay17 (iblk m c 4 t)) (k0_pay18 (iblk m c 6 t)) (k0_pay19 (iblk m c 7 t)) (k0_pay20 (iblk m c 6 t)) (k0_pay22 (iblk m c 5 t)) (ix2 r f)
      = rDa m c (ix3 (chip t) (row t r) f) := by
  refine Eq.trans ?_ (ref_da _ _ _ _ _ _ _ _ _ (hr _ _ _)).symm
  refine Eq.trans ?_ (congrArg₂ (· * ·) (congrArg₂ (· * ·) (y_tile m c t r f) (b_tile m c t r f))
    (congrArg₂ (fun s a => s * (1 + a * (1 - s))) (sig_tile m c t r f) (a_tile m c t r f)))
  generalize k0_pay17 (F := Ideal) (iblk m c 4 t) = w
  generalize k0_pay18 (F := Ideal) (iblk m c 6 t) = a
  generalize k0_pay19 (F := Ideal) (iblk m c 7 t) = b
  generalize k0_pay20 (F := Ideal) (iblk m c 6 t) = s
  generalize k0_pay22 (F := Ideal) (iblk m c 5 t) = d
  pointwise [k0_pay4]

/-! ## The gradient at the normalised input -/

theorem dh_pay (v17 v19 : FVec Ideal S1024x704 .bf16) (v21 : FVec Ideal S704x1024 .bf16) (v24 v27 v28 v29 : FVec Ideal S512x704 .f32) (v32 : FVec Ideal S512x1024 .f32) (r : Fin 512) (k : Fin 1024) :
    k0_pay7 (F := Ideal) v17 v19 v21 v24 v27 v28 v29 v32 (ix3 0 r k)
      = ∑ f : Fin 704, k0_pay4 (F := Ideal) v21 v24 v27 v28 v32 (ix2 r f) * v17 (ix2 k f) + ∑ f : Fin 704, k0_pay3 (F := Ideal) v21 v29 v32 (ix2 r f) * v19 (ix2 k f) := by
  pointwise [k0_pay7]

theorem dh_tile (c : Dev nD) (hr : RealAt m c) (t : Fin cfg0.N) (y : S1x512x1024.Idx) :
    k0_pay7 (F := Ideal) (k0_pay15 (iblk m c 2 t)) (k0_pay16 (iblk m c 3 t)) (k0_pay17 (iblk m c 4 t)) (k0_pay18 (iblk m c 6 t))
      (k0_pay19 (iblk m c 7 t)) (k0_pay20 (iblk m c 6 t)) (k0_pay21 (iblk m c 6 t)) (k0_pay22 (iblk m c 5 t)) y
      = val_main_v43 (F := Ideal) (aX m c) (aG m c) (aWg m c) (aWu m c) (aWd m c) (aD m c) (((View.whole main_v30_0).slice (win0_8.rect t)).emb y) := by
  idx_vars y
  obtain rfl : y0 = 0 := Subsingleton.elim _ _
  rw [dh_pay]
  simp only [da_tile m c hr, db_tile, wg_tile, wu_tile]
  refine (ref_dh _ _ _ _ _ _ (chip t) (row t y1) y2).symm.trans ?_
  unfold chip row
  blk_ext [idx t]

theorem final8 (c : Dev nD) (hr : RealAt m c) :
    (dats m 0 c).arrAt 8 cfg0.N = val_main_v43 (F := Ideal) (aX m c) (aG m c) (aWg m c) (aWu m c) (aWd m c) (aD m c) := by
  refine (dats m 0 c).arrAt_eq_of_covers 8 _ (by decide +kernel) fun t _ y => ?_
  blk_simp
  rw [after0_8]
  by_cases h0 : t.val % 8 = 0
  · rw [outsAt0_A m c t h0 (by omega)]
    frame_out
    exact dh_tile m c hr t y
  · rw [outsAt0_B m c t h0 (by omega)]
    frame_out
    exact dh_tile m c hr t y

/-! ## The gradient of the gate projection -/

/-- What one grid point adds. -/
def gatePart (c : Dev nD) (t : Fin cfg0.N) : FVec Ideal S1x704x1024 .f32 :=
  k0_pay8 (F := Ideal) (k0_pay14 (iblk m c 0 t) (iblk m c 1 t)) (k0_pay17 (iblk m c 4 t)) (k0_pay18 (iblk m c 6 t)) (k0_pay19 (iblk m c 7 t)) (k0_pay20 (iblk m c 6 t)) (k0_pay22 (iblk m c 5 t))

theorem gate_step (v15 : FVec Ideal S512x1024 .bf16) (v21 : FVec Ideal S704x1024 .bf16) (v24 v27 v28 : FVec Ideal S512x704 .f32) (v32 : FVec Ideal S512x1024 .f32) (p : FVec Ideal S1x704x1024 .f32) (j : S1x704x1024.Idx) :
    k0_pay11 (F := Ideal) v15 v21 v24 v27 v28 v32 p j = p j + k0_pay8 (F := Ideal) v15 v21 v24 v27 v28 v32 j := by
  idx_vars j
  obtain rfl : j0 = 0 := Subsingleton.elim _ _
  pointwise [k0_pay11, k0_pay8]

theorem gate_pay (v15 : FVec Ideal S512x1024 .bf16) (v21 : FVec Ideal S704x1024 .bf16) (v24 v27 v28 : FVec Ideal S512x704 .f32) (v32 : FVec Ideal S512x1024 .f32) (f : Fin 704) (k : Fin 1024) :
    k0_pay8 (F := Ideal) v15 v21 v24 v27 v28 v32 (ix3 0 f k) = ∑ r : Fin 512, k0_pay4 (F := Ideal) v21 v24 v27 v28 v32 (ix2 r f) * v15 (ix2 r k) := by
  pointwise [k0_pay8, k0_pay5]

theorem gate_tile (c : Dev nD) (hr : RealAt m c) (t : Fin cfg0.N) (f : Fin 704) (k : Fin 1024) :
    gatePart m c t (ix3 0 f k) = ∑ r : Fin 512, rDa m c (ix3 (chip t) (row t r) f) * rH m c (ix2 (row t r) k) := by
  unfold gatePart
  rw [gate_pay]
  exact Finset.sum_congr rfl fun r _ => congrArg₂ (· * ·) (da_tile m c hr t r f) (h_tile m c t r k)

theorem gate_sum (c : Dev nD) (hr : RealAt m c) (t : Fin cfg0.N) (hf : t.val % 8 = 7) (y : S1x704x1024.Idx) :
    ∑ s : Fin 8, gatePart m c ⟨8 * (t.val / 8) + s.val, Pipeline.run_point_lt_of_flush t hf s⟩ y
      = val_main_v45 (F := Ideal) (aX m c) (aG m c) (aWg m c) (aWu m c) (aWd m c) (aD m c) ((win0_9.blk t).view.emb y) := by
  idx_vars y
  obtain rfl : y0 = 0 := Subsingleton.elim _ _
  simp only [gate_tile m c hr]
  refine Eq.trans ?_ (Eq.trans (ref_dgate (aX m c) (aG m c) (aWg m c) (aWu m c) (aWd m c) (aD m c) (chip t) y1 y2).symm ?_)
  · refine Fin.sum_mul_add_congr fun s r hl => ?_
    have hc : chip ⟨8 * (t.val / 8) + s.val, Pipeline.run_point_lt_of_flush t hf s⟩ = chip t := Fin.ext (by simp only [chip]; omega)
    have hrow : row ⟨8 * (t.val / 8) + s.val, Pipeline.run_point_lt_of_flush t hf s⟩ r = ⟨s.val * 512 + r.val, hl⟩ := Fin.ext (by simp only [row]; omega)
    rw [hc, hrow]
  · unfold chip
    blk_ext [idx t]

theorem final9 (c : Dev nD) (hr : RealAt m c) :
    (dats m 0 c).arrAt 9 cfg0.N = val_main_v45 (F := Ideal) (aX m c) (aG m c) (aWg m c) (aWu m c) (aWd m c) (aD m c) := by
  refine (dats m 0 c).arrAt_eq_of_covers 9 _ (by decide +kernel) fun t hf y => ?_
  blk_simp
  rw [after0_9, Pipeline.eq_sum_fin_of_reset_step_apply_of_flush (fun n h => (outsAt0 m c n h).2.1) 8 (fun _ => (0 : EReal)) (fun t j => (gatePart m c t j : EReal))
    (fun t h j => by rw [outsAt0_A m c t h (by omega), zero_add]; frame_out; rfl)
    (fun t h j => by rw [outsAt0_B m c t h (by omega)]; frame_out; exact gate_step _ _ _ _ _ _ _ _)
    t ((flush0_9 t).mp hf) _, zero_add]
  exact gate_sum m c hr t ((flush0_9 t).mp hf) y

/-! ## The gradient of the up projection -/

/-- What one grid point adds. -/
def upPart (c : Dev nD) (t : Fin cfg0.N) : FVec Ideal S1x704x1024 .f32 :=
  k0_pay9 (F := Ideal) (k0_pay14 (iblk m c 0 t) (iblk m c 1 t)) (k0_pay17 (iblk m c 4 t)) (k0_pay21 (iblk m c 6 t)) (k0_pay22 (iblk m c 5 t))

theorem up_step (v15 : FVec Ideal S512x1024 .bf16) (v21 : FVec Ideal S704x1024 .bf16) (v29 : FVec Ideal S512x704 .f32) (v32 : FVec Ideal S512x1024 .f32) (p : FVec Ideal S1x704x1024 .f32) (j : S1x704x1024.Idx) :
    k0_pay12 (F := Ideal) v15 v21 v29 v32 p j = p j + k0_pay9 (F := Ideal) v15 v21 v29 v32 j := by
  idx_vars j
  obtain rfl : j0 = 0 := Subsingleton.elim _ _
  pointwise [k0_pay12, k0_pay9]

theorem up_pay (v15 : FVec Ideal S512x1024 .bf16) (v21 : FVec Ideal S704x1024 .bf16) (v29 : FVec Ideal S512x704 .f32) (v32 : FVec Ideal S512x1024 .f32) (f : Fin 704) (k : Fin 1024) :
    k0_pay9 (F := Ideal) v15 v21 v29 v32 (ix3 0 f k) = ∑ r : Fin 512, k0_pay3 (F := Ideal) v21 v29 v32 (ix2 r f) * v15 (ix2 r k) := by
  pointwise [k0_pay9, k0_pay6]

theorem up_tile (c : Dev nD) (t : Fin cfg0.N) (f : Fin 704) (k : Fin 1024) :
    upPart m c t (ix3 0 f k) = ∑ r : Fin 512, rDb m c (ix3 (chip t) (row t r) f) * rH m c (ix2 (row t r) k) := by
  unfold upPart
  rw [up_pay]
  exact Finset.sum_congr rfl fun r _ => congrArg₂ (· * ·) (db_tile m c t r f) (h_tile m c t r k)

theorem up_sum (c : Dev nD) (t : Fin cfg0.N) (hf : t.val % 8 = 7) (y : S1x704x1024.Idx) :
    ∑ s : Fin 8, upPart m c ⟨8 * (t.val / 8) + s.val, Pipeline.run_point_lt_of_flush t hf s⟩ y
      = val_main_v47 (F := Ideal) (aX m c) (aG m c) (aWg m c) (aWd m c) (aD m c) ((win0_10.blk t).view.emb y) := by
  idx_vars y
  obtain rfl : y0 = 0 := Subsingleton.elim _ _
  simp only [up_tile m c]
  refine Eq.trans ?_ (Eq.trans (ref_dup (aX m c) (aG m c) (aWg m c) (aWd m c) (aD m c) (chip t) y1 y2).symm ?_)
  · refine Fin.sum_mul_add_congr fun s r hl => ?_
    have hc : chip ⟨8 * (t.val / 8) + s.val, Pipeline.run_point_lt_of_flush t hf s⟩ = chip t := Fin.ext (by simp only [chip]; omega)
    have hrow : row ⟨8 * (t.val / 8) + s.val, Pipeline.run_point_lt_of_flush t hf s⟩ r = ⟨s.val * 512 + r.val, hl⟩ := Fin.ext (by simp only [row]; omega)
    rw [hc, hrow]
  · unfold chip
    blk_ext [idx t]

theorem final10 (c : Dev nD) :
    (dats m 0 c).arrAt 10 cfg0.N = val_main_v47 (F := Ideal) (aX m c) (aG m c) (aWg m c) (aWd m c) (aD m c) := by
  refine (dats m 0 c).arrAt_eq_of_covers 10 _ (by decide +kernel) fun t hf y => ?_
  blk_simp
  rw [after0_10, Pipeline.eq_sum_fin_of_reset_step_apply_of_flush (fun n h => (outsAt0 m c n h).2.2.1) 8 (fun _ => (0 : EReal)) (fun t j => (upPart m c t j : EReal))
    (fun t h j => by rw [outsAt0_A m c t h (by omega), zero_add]; frame_out; rfl)
    (fun t h j => by rw [outsAt0_B m c t h (by omega)]; frame_out; exact up_step _ _ _ _ _ _)
    t ((flush0_10 t).mp hf) _, zero_add]
  exact up_sum m c t ((flush0_10 t).mp hf) y

/-! ## The gradient of the down projection -/

/-- What one grid point adds. -/
def downPart (c : Dev nD) (t : Fin cfg0.N) : FVec Ideal S1x704x1024 .f32 :=
  k0_pay10 (F := Ideal) (k0_pay19 (iblk m c 7 t)) (k0_pay21 (iblk m c 6 t)) (k0_pay22 (iblk m c 5 t))

theorem down_step (v27 v29 : FVec Ideal S512x704 .f32) (v32 : FVec Ideal S512x1024 .f32) (p : FVec Ideal S1x704x1024 .f32) (j : S1x704x1024.Idx) :
    k0_pay13 (F := Ideal) v27 v29 v32 p j = p j + k0_pay10 (F := Ideal) v27 v29 v32 j := by
  idx_vars j
  obtain rfl : j0 = 0 := Subsingleton.elim _ _
  pointwise [k0_pay13, k0_pay10]

theorem down_pay (v27 v29 : FVec Ideal S512x704 .f32) (v32 : FVec Ideal S512x1024 .f32) (f : Fin 704) (k : Fin 1024) :
    k0_pay10 (F := Ideal) v27 v29 v32 (ix3 0 f k) = ∑ r : Fin 512, (v29 (ix2 r f) * v27 (ix2 r f)) * v32 (ix2 r k) := by
  pointwise [k0_pay10, k0_pay2]

theorem down_tile (c : Dev nD) (t : Fin cfg0.N) (f : Fin 704) (k : Fin 1024) :
    downPart m c t (ix3 0 f k) = ∑ r : Fin 512, (rA m c (ix3 (chip t) (row t r) f) * Ideal.logistic (rA m c (ix3 (chip t) (row t r) f)) * rB m c (ix3 (chip t) (row t r) f)) * (Ideal.ofBits .f32 0x3F000000#32 * aD m c (ix2 (row t r) k)) := by
  unfold downPart
  rw [down_pay]
  exact Finset.sum_congr rfl fun r _ => congrArg₂ (· * ·) (congrArg₂ (· * ·) (silu_tile m c t r f) (b_tile m c t r f)) (d_tile m c t r k)

theorem down_sum (c : Dev nD) (t : Fin cfg0.N) (hf : t.val % 8 = 7) (y : S1x704x1024.Idx) :
    ∑ s : Fin 8, downPart m c ⟨8 * (t.val / 8) + s.val, Pipeline.run_point_lt_of_flush t hf s⟩ y
      = val_main_v48 (F := Ideal) (aX m c) (aG m c) (aWg m c) (aWu m c) (aD m c) ((win0_11.blk t).view.emb y) := by
  idx_vars y
  obtain rfl : y0 = 0 := Subsingleton.elim _ _
  simp only [down_tile m c]
  refine Eq.trans ?_ (Eq.trans (ref_ddown (aX m c) (aG m c) (aWg m c) (aWu m c) (aD m c) (chip t) y1 y2).symm ?_)
  · refine Fin.sum_mul_add_congr fun s r hl => ?_
    have hc : chip ⟨8 * (t.val / 8) + s.val, Pipeline.run_point_lt_of_flush t hf s⟩ = chip t := Fin.ext (by simp only [chip]; omega)
    have hrow : row ⟨8 * (t.val / 8) + s.val, Pipeline.run_point_lt_of_flush t hf s⟩ r = ⟨s.val * 512 + r.val, hl⟩ := Fin.ext (by simp only [row]; omega)
    rw [hc, hrow]
  · unfold chip
    blk_ext [idx t]

theorem final11 (c : Dev nD) :
    (dats m 0 c).arrAt 11 cfg0.N = val_main_v48 (F := Ideal) (aX m c) (aG m c) (aWg m c) (aWu m c) (aD m c) := by
  refine (dats m 0 c).arrAt_eq_of_covers 11 _ (by decide +kernel) fun t hf y => ?_
  blk_simp
  rw [after0_11, Pipeline.eq_sum_fin_of_reset_step_apply_of_flush (fun n h => (outsAt0 m c n h).2.2.2) 8 (fun _ => (0 : EReal)) (fun t j => (downPart m c t j : EReal))
    (fun t h j => by rw [outsAt0_A m c t h (by omega), zero_add]; frame_out; rfl)
    (fun t h j => by rw [outsAt0_B m c t h (by omega)]; frame_out; exact down_step _ _ _ _ _)
    t ((flush0_11 t).mp hf) _, zero_add]
  exact down_sum m c t ((flush0_11 t).mp hf) y

end Cert.Kernel2Ideal.FfnBwd
-- ==== Proof.FfnBwdPair.lean ====
module

public import proofs.«01_k».proof.Defs
public import proofs.«01_k».proof.Proof.FfnBwd
public import proofs.«01_k».proof.Proof.Gen.Pre_finite2
public import proofs.«01_k».proof.Proof.Gen.Reference2Ideal.Run

@[expose] public section

set_option maxRecDepth 16384

noncomputable section

open Idealize.ShloMosaic Idealize.ShloMosaic.TcCoe Idealize.SL.Sem
open Idealize.ShloMosaic.Pipeline (Dat)

namespace Cert.Kernel2Ideal.FfnBwd

open Cert.Kernel2Ideal Cert.Kernel2Ideal.Gen
open Cert.Reference2Ideal.Read

variable (m : (ℓ : Loc nD τ sig) → Buf (Elt Ideal) ℓ)

/-- Under the precondition every entry of the gain, of the up and down projections and of the gradient is a real number. -/
theorem args_real (hp : Pre_Kernel2Ideal_finite2 m) (c : Dev nD) :
    (∀ i, Reals.IsR (aG m c i)) ∧ (∀ i, Reals.IsR (aWu m c i)) ∧ (∀ i, Reals.IsR (aWd m c i)) ∧ (∀ i, Reals.IsR (aD m c i)) := by
  obtain ⟨h0, h1, h2, h3⟩ := hp c
  refine ⟨fun i => ?_, fun i => ?_, fun i => ?_, fun i => ?_⟩
  · have h := congrFun h0 i; revert h; pointwise [Cert.Pre_finite2.fn]; exact Reals.real_of_eq
  · have h := congrFun h1 i; revert h; pointwise [Cert.Pre_finite2.fn]; exact Reals.real_of_eq
  · have h := congrFun h2 i; revert h; pointwise [Cert.Pre_finite2.fn]; exact Reals.real_of_eq
  · have h := congrFun h3 i; revert h; pointwise [Cert.Pre_finite2.fn]; exact Reals.real_of_eq

theorem realAt (hp : Pre_Kernel2Ideal_finite2 m) (c : Dev nD) : RealAt m c := by
  obtain ⟨hG, hWu, hWd, hD⟩ := args_real m hp c
  have hh : ∀ (t : Fin 4096) (k : Fin 1024), Reals.IsR (rH m c (ix2 t k)) := fun t k => by
    have e := ref_h (aX m c) (aG m c) t k
    exact (congrArg Reals.IsR e).mpr <| (Reals.isR_normed (fun j : Fin 1024 => aX m c (ix2 t j)) k).mul (hG _)
  intro p t f
  have eb := ref_b (aX m c) (aG m c) (aWu m c) p t f
  have ey := ref_dy (aWd m c) (aD m c) p t f
  refine Reals.IsR.mul ?_ ?_
  · exact (congrArg Reals.IsR ey).mpr (Reals.IsR.sum fun k _ => (Reals.IsR.mul (by rw [Reals.ofBits_half]; exact ⟨_, rfl⟩) (hD _)).mul (hWd _))
  · exact (congrArg Reals.IsR eb).mpr (Reals.IsR.sum fun k _ => (hh t k).mul (hWu _))

theorem algebraic : algebraic_Kernel2Ideal_Reference2Ideal_pre_finite2 := by
  pair_intro
  · run_from Cert.Kernel2Ideal.Value.run_blocks m g
  · run_from Cert.Reference2Ideal.Value.run m' g'
    · obtain ⟨h0, h1, h2, h3, h4, h5⟩ := hagree c
      rw [val_main_v43_eq, h0, h1, h2, h3, h4, h5]
      exact (final8 m c (realAt m hpre c)).symm
    · obtain ⟨h0, h1, h2, h3, h4, h5⟩ := hagree c
      rw [val_main_v45_eq, h0, h1, h2, h3, h4, h5]
      exact (final9 m c (realAt m hpre c)).symm
    · exact (val_main_v47_eq _ _ _ _ _).trans (final10 m c).symm
    · exact (val_main_v48_eq _ _ _ _ _).trans (final11 m c).symm

end Cert.Kernel2Ideal.FfnBwd
-- ==== Proof.FfnFwd.lean ====
module

public import proofs.«01_k».proof.Proof.Gen.Kernel3Ideal.Value
public import proofs.«01_k».proof.Proof.Gen.Reference3Ideal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel3Ideal.FfnFwd

open Cert.Kernel3Ideal Cert.Kernel3Ideal.Gen
open Cert.Reference3Ideal.Read

/-! ## One entry of the reference and of the kernel's values -/

section Ref

variable (X : FVec Ideal S4096x1024 .f32) (G : FVec Ideal S1024 .f32) (Wg Wu : FVec Ideal S1024x2816 .f32) (Wd : FVec Ideal S2816x1024 .f32)

theorem ref_h (t : Fin 4096) (k : Fin 1024) :
    val_main_v12 (F := Ideal) X G (ix2 t k) = X (ix2 t k) * Ideal.rsqrt (Ideal.div (∑ j : Fin 1024, X (ix2 t j) * X (ix2 t j)) (Ideal.ofBits .f32 0x44800000#32) + Ideal.ofBits .f32 0x358637BD#32) * G (ix1 k) := by
  pointwise [val_main_v12, val_main_v11, val_main_v10, val_main_v9, val_main_v8, val_main_v7, val_main_v6, val_main_v5, val_main_cst_1, val_main_v4, val_main_v3, val_main_cst_0, val_main_v2, val_main_v1, val_main_cst, val_main_v0]

theorem ref_gate (t : Fin 4096) (f : Fin 2816) :
    val_main_v21 (F := Ideal) X G Wg (ix2 t f) = ∑ k : Fin 1024, val_main_v12 (F := Ideal) X G (ix2 t k) * Wg (ix2 k f) := by
  pointwise [val_main_v21]

theorem ref_up (t : Fin 4096) (f : Fin 2816) :
    val_main_v23 (F := Ideal) X G Wu (ix2 t f) = ∑ k : Fin 1024, val_main_v12 (F := Ideal) X G (ix2 t k) * Wu (ix2 k f) := by
  pointwise [val_main_v23]

theorem ref_sig (t : Fin 4096) (f : Fin 2816) :
    val_main_call0_v5 (F := Ideal) X G Wg (ix2 t f) = Ideal.logistic (val_main_v21 (F := Ideal) X G Wg (ix2 t f)) := by
  pointwise [val_main_call0_v5, val_main_call0_v4, val_main_call0_cst_0, val_main_call0_v3, val_main_call0_v2, val_main_call0_cst, val_main_call0_v1, val_main_call0_v0]
  rfl

theorem ref_act (t : Fin 4096) (f : Fin 2816) :
    val_main_v24 (F := Ideal) X G Wg Wu (ix2 t f)
      = val_main_v21 (F := Ideal) X G Wg (ix2 t f) * Ideal.logistic (val_main_v21 (F := Ideal) X G Wg (ix2 t f)) * val_main_v23 (F := Ideal) X G Wu (ix2 t f) := by
  rw [← ref_sig]
  rfl

theorem ref_out (t : Fin 4096) (k : Fin 1024) :
    val_main_v28 (F := Ideal) X G Wg Wu Wd (ix2 t k)
      = X (ix2 t k) + Ideal.ofBits .f32 0x3F000000#32 * ∑ f : Fin 2816, val_main_v24 (F := Ideal) X G Wg Wu (ix2 t f) * Wd (ix2 f k) := by
  pointwise [val_main_v28, val_main_v27, val_main_v26, val_main_cst_2, val_main_v25]

theorem ref_a (c : Fin 4) (t : Fin 4096) (f : Fin 704) :
    val_main_v16 (F := Ideal) X G Wg (ix3 c t f) = ∑ k : Fin 1024, val_main_v12 (F := Ideal) X G (ix2 t k) * Wg (ix2 k ⟨c.val * 704 + f.val, by omega⟩) := by
  pointwise [val_main_v16, val_main_v15, val_main_v14, val_main_v13]

theorem ref_b (c : Fin 4) (t : Fin 4096) (f : Fin 704) :
    val_main_v20 (F := Ideal) X G Wu (ix3 c t f) = ∑ k : Fin 1024, val_main_v12 (F := Ideal) X G (ix2 t k) * Wu (ix2 k ⟨c.val * 704 + f.val, by omega⟩) := by
  pointwise [val_main_v20, val_main_v19, val_main_v18, val_main_v17]

end Ref

section Tile

variable (x : FVec Ideal S1024x1024 .f32) (g : FVec Ideal S1x1024 .f32) (h : FVec Ideal S1024x1024 .bf16) (wg wu : FVec Ideal S1x1024x704 .bf16) (wd : FVec Ideal S1x704x1024 .bf16) (acc : FVec Ideal S1024x1024 .f32)

theorem tile_h (X : FVec Ideal S4096x1024 .f32) (G : FVec Ideal S1024 .f32) (t : Fin 4096) (r : Fin 1024)
    (hx : ∀ k : Fin 1024, x (ix2 r k) = X (ix2 t k)) (hg : ∀ k : Fin 1024, g (ix2 0 k) = G (ix1 k)) (k : Fin 1024) :
    k0_pay3 (F := Ideal) x g (ix2 r k) = val_main_v12 (F := Ideal) X G (ix2 t k) := by
  rw [ref_h]
  pointwise [k0_pay3]
  simp only [hx, hg]

theorem pay_gate (r : Fin 1024) (f : Fin 704) : k0_pay5 (F := Ideal) h wg (ix2 r f) = ∑ k : Fin 1024, h (ix2 r k) * wg (ix3 0 k f) := by
  pointwise [k0_pay5]

theorem pay_up (r : Fin 1024) (f : Fin 704) : k0_pay6 (F := Ideal) h wu (ix2 r f) = ∑ k : Fin 1024, h (ix2 r k) * wu (ix3 0 k f) := by
  pointwise [k0_pay6]

theorem pay_a (r : Fin 1024) (f : Fin 704) : k0_pay7 (F := Ideal) h wg (ix3 0 r f) = k0_pay5 (F := Ideal) h wg (ix2 r f) := by
  pointwise [k0_pay7]

theorem pay_b (r : Fin 1024) (f : Fin 704) : k0_pay8 (F := Ideal) h wu (ix3 0 r f) = k0_pay6 (F := Ideal) h wu (ix2 r f) := by
  pointwise [k0_pay8]

theorem pay_acc (r : Fin 1024) (k : Fin 1024) : k0_pay1 (F := Ideal) (k0_pay9 h wg wu acc wd) (ix2 r k)
    = acc (ix2 r k) + ∑ f : Fin 704, (k0_pay5 (F := Ideal) h wg (ix2 r f) * Ideal.logistic (k0_pay5 (F := Ideal) h wg (ix2 r f)) * k0_pay6 (F := Ideal) h wu (ix2 r f)) * wd (ix3 0 f k) := by
  pointwise [k0_pay1, k0_pay9]

theorem pay_zero (j : S1024x1024.Idx) : k0_pay4 (F := Ideal) j = 0 := by
  idx_vars j
  pointwise [k0_pay4]

theorem pay_out (r k : Fin 1024) : k0_pay2 (F := Ideal) x acc (ix2 r k) = x (ix2 r k) + Ideal.ofBits .f32 0x3F000000#32 * acc (ix2 r k) := by
  pointwise [k0_pay2]

end Tile

/-! ## The blocks -/

variable (m : (ℓ : Loc nD τ sig) → Buf (Elt Ideal) ℓ)

abbrev aX (c : Dev nD) : FVec Ideal S4096x1024 .f32 := m ((c : Thread nD τ).loc main_arg0)
abbrev aG (c : Dev nD) : FVec Ideal S1024 .f32 := m ((c : Thread nD τ).loc main_arg1)
abbrev aWg (c : Dev nD) : FVec Ideal S1024x2816 .f32 := m ((c : Thread nD τ).loc main_arg2)
abbrev aWu (c : Dev nD) : FVec Ideal S1024x2816 .f32 := m ((c : Thread nD τ).loc main_arg3)
abbrev aWd (c : Dev nD) : FVec Ideal S2816x1024 .f32 := m ((c : Thread nD τ).loc main_arg4)

theorem idx : ∀ t : Fin cfg0.N, win0_0.index t = ![t.val / 4, 0] ∧ win0_1.index t = ![0, 0] ∧ win0_2.index t = ![t.val % 4, 0, 0]
    ∧ win0_3.index t = ![t.val % 4, 0, 0] ∧ win0_4.index t = ![t.val % 4, 0, 0] ∧ win0_5.index t = ![t.val / 4, 0]
    ∧ win0_6.index t = ![t.val % 4, t.val / 4, 0] ∧ win0_7.index t = ![t.val % 4, t.val / 4, 0] :=
  (by decide +kernel : ∀ t : Fin grid0.N, _)

theorem lt16 (t : Fin cfg0.N) : t.val < 16 := lt_of_lt_of_eq t.isLt (show cfg0.N = 16 from N_0)

/-- The chip whose weight slices a grid point works with. -/
def chip (t : Fin cfg0.N) : Fin 4 := ⟨t.val % 4, Nat.mod_lt _ (by decide)⟩

/-- The row of the sequence at row `r` of a grid point's tile. -/
def row (t : Fin cfg0.N) (r : Fin 1024) : Fin 4096 := ⟨t.val / 4 * 1024 + r.val, by have := lt16 t; omega⟩

/-- The column of the whole hidden width at column `f` of a chip's slice. -/
def col (c : Fin 4) (f : Fin 704) : Fin 2816 := ⟨c.val * 704 + f.val, by omega⟩

theorem v0_at (c : Dev nD) (k : Fin 1024) : (V m c main_v0 : FVec Ideal S1x1024 .f32) (ix2 0 k) = aG m c (ix1 k) := by
  entry_read
  pointwise

theorem v3_at (c : Dev nD) (p : Fin 4) (k : Fin 1024) (f : Fin 704) :
    (V m c main_v3 : FVec Ideal S4x1024x704 .bf16) (ix3 p k f) = aWg m c (ix2 k (col p f)) := by
  unfold col
  entry_read
  pointwise

theorem v6_at (c : Dev nD) (p : Fin 4) (k : Fin 1024) (f : Fin 704) :
    (V m c main_v6 : FVec Ideal S4x1024x704 .bf16) (ix3 p k f) = aWu m c (ix2 k (col p f)) := by
  unfold col
  entry_read
  pointwise

theorem v8_at (c : Dev nD) (p : Fin 4) (f : Fin 704) (k : Fin 1024) :
    (V m c main_v8 : FVec Ideal S4x704x1024 .bf16) (ix3 p f k) = aWd m c (ix2 (col p f) k) := by
  unfold col
  entry_read
  pointwise

theorem x_at (c : Dev nD) (t : Fin cfg0.N) (r k : Fin 1024) :
    (iblk m c 0 t : FVec Ideal S1024x1024 .f32) (ix2 r k) = aX m c (ix2 (row t r) k) := by
  unfold row
  blk_point [iblk, V, idx t]

theorem g_at (c : Dev nD) (t : Fin cfg0.N) (k : Fin 1024) :
    (iblk m c 1 t : FVec Ideal S1x1024 .f32) (ix2 0 k) = aG m c (ix1 k) := by
  refine Eq.trans (b := (V m c main_v0 : FVec Ideal S1x1024 .f32) (ix2 0 k)) ?_ (v0_at m c k)
  blk_ext [iblk, idx t]

theorem wg_at (c : Dev nD) (t : Fin cfg0.N) (k : Fin 1024) (f : Fin 704) :
    (iblk m c 2 t : FVec Ideal S1x1024x704 .bf16) (ix3 0 k f) = aWg m c (ix2 k (col (chip t) f)) := by
  refine Eq.trans (b := (V m c main_v3 : FVec Ideal S4x1024x704 .bf16) (ix3 (chip t) k f)) ?_ (v3_at m c (chip t) k f)
  unfold chip
  blk_ext [iblk, idx t]

theorem wu_at (c : Dev nD) (t : Fin cfg0.N) (k : Fin 1024) (f : Fin 704) :
    (iblk m c 3 t : FVec Ideal S1x1024x704 .bf16) (ix3 0 k f) = aWu m c (ix2 k (col (chip t) f)) := by
  refine Eq.trans (b := (V m c main_v6 : FVec Ideal S4x1024x704 .bf16) (ix3 (chip t) k f)) ?_ (v6_at m c (chip t) k f)
  unfold chip
  blk_ext [iblk, idx t]

theorem wd_at (c : Dev nD) (t : Fin cfg0.N) (f : Fin 704) (k : Fin 1024) :
    (iblk m c 4 t : FVec Ideal S1x704x1024 .bf16) (ix3 0 f k) = aWd m c (ix2 (col (chip t) f) k) := by
  refine Eq.trans (b := (V m c main_v8 : FVec Ideal S4x704x1024 .bf16) (ix3 (chip t) f k)) ?_ (v8_at m c (chip t) f k)
  unfold chip
  blk_ext [iblk, idx t]

/-! ## The normalised rows, kept between grid points -/

theorem h_first (c : Dev nD) (t : Fin cfg0.N) (r k : Fin 1024) :
    k0_pay3 (F := Ideal) (iblk m c 0 t) (iblk m c 1 t) (ix2 r k) = val_main_v12 (F := Ideal) (aX m c) (aG m c) (ix2 (row t r) k) :=
  tile_h _ _ _ _ (row t r) r (fun k => x_at m c t r k) (fun k => g_at m c t k) k

theorem h_val (c : Dev nD) : ∀ (n : ℕ) (hn : n < cfg0.N) (r k : Fin 1024),
    ((outsAt0 m c n hn).2.2.2.1 : FVec Ideal S1024x1024 .bf16) (ix2 r k) = val_main_v12 (F := Ideal) (aX m c) (aG m c) (ix2 (row ⟨n, hn⟩ r) k)
  | 0, hn, r, k => by
    rw [outsAt0_A m c ⟨0, hn⟩ rfl (by dsimp only; omega)]
    frame_out
    exact h_first m c ⟨0, hn⟩ r k
  | n + 1, hn, r, k => by
    by_cases h0 : (n + 1) % 4 = 0
    · rw [outsAt0_A m c ⟨n + 1, hn⟩ h0 (by dsimp only; omega)]
      frame_out
      exact h_first m c ⟨n + 1, hn⟩ r k
    · have e : row ⟨n + 1, hn⟩ r = row ⟨n, Nat.lt_of_succ_lt hn⟩ r := Fin.ext (by simp only [row]; omega)
      rw [e, ← h_val c n (Nat.lt_of_succ_lt hn) r k]
      by_cases h1 : (n + 1) % 4 = 3
      · rw [outsAt0_C m c ⟨n + 1, hn⟩ h0 h1]
        rfl
      · rw [outsAt0_B m c ⟨n + 1, hn⟩ h0 h1]
        rfl

theorem h_prev (c : Dev nD) (t : Fin cfg0.N) (h0 : ¬t.val % 4 = 0) (r k : Fin 1024) :
    ((outsAt0 m c (t.val - 1) (by omega)).2.2.2.1 : FVec Ideal S1024x1024 .bf16) (ix2 r k) = val_main_v12 (F := Ideal) (aX m c) (aG m c) (ix2 (row t r) k) := by
  have e : row t r = row ⟨t.val - 1, by omega⟩ r := Fin.ext (by simp only [row]; omega)
  rw [e]
  exact h_val m c _ _ r k

/-! ## One grid point -/

section Point

variable (c : Dev nD) (t : Fin cfg0.N) (h : FVec Ideal S1024x1024 .bf16)
  (hh : ∀ r k : Fin 1024, h (ix2 r k) = val_main_v12 (F := Ideal) (aX m c) (aG m c) (ix2 (row t r) k))

include hh

theorem gate_at (r : Fin 1024) (f : Fin 704) :
    k0_pay5 (F := Ideal) h (iblk m c 2 t) (ix2 r f) = val_main_v21 (F := Ideal) (aX m c) (aG m c) (aWg m c) (ix2 (row t r) (col (chip t) f)) := by
  rw [pay_gate, ref_gate]
  exact Finset.sum_congr rfl fun k _ => congrArg₂ (· * ·) (hh r k) (wg_at m c t k f)

theorem up_at (r : Fin 1024) (f : Fin 704) :
    k0_pay6 (F := Ideal) h (iblk m c 3 t) (ix2 r f) = val_main_v23 (F := Ideal) (aX m c) (aG m c) (aWu m c) (ix2 (row t r) (col (chip t) f)) := by
  rw [pay_up, ref_up]
  exact Finset.sum_congr rfl fun k _ => congrArg₂ (· * ·) (hh r k) (wu_at m c t k f)

theorem a_tile (y : S1x1024x704.Idx) :
    k0_pay7 (F := Ideal) h (iblk m c 2 t) y = val_main_v16 (F := Ideal) (aX m c) (aG m c) (aWg m c) (((View.whole main_v9_1).slice (win0_6.rect t)).emb y) := by
  idx_vars y
  obtain rfl : y0 = 0 := Subsingleton.elim _ _
  refine Eq.trans (b := val_main_v16 (F := Ideal) (aX m c) (aG m c) (aWg m c) (ix3 (chip t) (row t y1) y2)) ?_ ?_
  · rw [pay_a, gate_at m c t h hh, ref_gate, ref_a]
    rfl
  · unfold chip row
    blk_ext [idx t]

theorem b_tile (y : S1x1024x704.Idx) :
    k0_pay8 (F := Ideal) h (iblk m c 3 t) y = val_main_v20 (F := Ideal) (aX m c) (aG m c) (aWu m c) (((View.whole main_v9_2).slice (win0_7.rect t)).emb y) := by
  idx_vars y
  obtain rfl : y0 = 0 := Subsingleton.elim _ _
  refine Eq.trans (b := val_main_v20 (F := Ideal) (aX m c) (aG m c) (aWu m c) (ix3 (chip t) (row t y1) y2)) ?_ ?_
  · rw [pay_b, up_at m c t h hh, ref_up, ref_b]
    rfl
  · unfold chip row
    blk_ext [idx t]

end Point

/-- What one chip's slice adds to the output of the down projection, at row `r` and column `k` of the tile. -/
def term (c : Dev nD) (t : Fin cfg0.N) (r k : Fin 1024) : EReal :=
  ∑ f : Fin 704, val_main_v24 (F := Ideal) (aX m c) (aG m c) (aWg m c) (aWu m c) (ix2 (row t r) (col (chip t) f)) * aWd m c (ix2 (col (chip t) f) k)

def part (c : Dev nD) (t : Fin cfg0.N) (j : S1024x1024.Idx) : EReal := term m c t (j 0) (j 1)

theorem acc_step (c : Dev nD) (t : Fin cfg0.N) (h : FVec Ideal S1024x1024 .bf16)
    (hh : ∀ r k : Fin 1024, h (ix2 r k) = val_main_v12 (F := Ideal) (aX m c) (aG m c) (ix2 (row t r) k)) (acc : FVec Ideal S1024x1024 .f32) (j : S1024x1024.Idx) :
    k0_pay1 (F := Ideal) (k0_pay9 h (iblk m c 2 t) (iblk m c 3 t) acc (iblk m c 4 t)) j = acc j + part m c t j := by
  idx_vars j
  rw [pay_acc]
  show _ = acc (ix2 j0 j1) + term m c t j0 j1
  unfold term
  refine congrArg _ (Finset.sum_congr rfl fun f _ => ?_)
  rw [ref_act, gate_at m c t h hh, up_at m c t h hh]
  exact congrArg _ (wd_at m c t f j1)

theorem acc_val (c : Dev nD) (t : Fin cfg0.N) (hr : t.val % 4 = 3) (j : S1024x1024.Idx) :
    ((outsAt0 m c t.val t.isLt).2.2.2.2 : FVec Ideal S1024x1024 .f32) j = ∑ s : Fin 4, part m c ⟨4 * (t.val / 4) + s.val, Pipeline.run_point_lt_of_flush t hr s⟩ j := by
  rw [Pipeline.eq_sum_fin_of_reset_step_apply_of_flush (fun n h => (outsAt0 m c n h).2.2.2.2) 4 (fun _ => (0 : EReal)) (fun t j => part m c t j)
    (fun t h j => by
      rw [outsAt0_A m c t h (by omega)]
      frame_out
      exact (acc_step m c t _ (h_first m c t) _ j).trans (congrArg (· + part m c t j) (pay_zero j)))
    (fun t h j => by
      by_cases h1 : t.val % 4 = 3
      · rw [outsAt0_C m c t h h1]
        frame_out
        rw [read_unread_whole, read_unread_whole]
        exact acc_step m c t _ (h_prev m c t h) _ j
      · rw [outsAt0_B m c t h h1]
        frame_out
        rw [read_unread_whole, read_unread_whole]
        exact acc_step m c t _ (h_prev m c t h) _ j)
    t hr j, zero_add]

theorem acc_last (c : Dev nD) (t : Fin cfg0.N) (hr : t.val % 4 = 3) (r k : Fin 1024) :
    ((outsAt0 m c t.val t.isLt).2.2.2.2 : FVec Ideal S1024x1024 .f32) (ix2 r k)
      = ∑ f : Fin 2816, val_main_v24 (F := Ideal) (aX m c) (aG m c) (aWg m c) (aWu m c) (ix2 (row t r) f) * aWd m c (ix2 f k) := by
  rw [acc_val m c t hr]
  refine Fin.sum_mul_add_congr fun s f hl => ?_
  have hrow : row ⟨4 * (t.val / 4) + s.val, Pipeline.run_point_lt_of_flush t hr s⟩ r = row t r := Fin.ext (by simp only [row]; omega)
  have hcol : col (chip ⟨4 * (t.val / 4) + s.val, Pipeline.run_point_lt_of_flush t hr s⟩) f = ⟨s.val * 704 + f.val, hl⟩ := Fin.ext (by simp only [col, chip]; omega)
  show val_main_v24 (F := Ideal) _ _ _ _ (ix2 (row _ r) _) * aWd m c (ix2 _ k) = _
  rw [hrow, hcol]

/-! ## The results -/

theorem final5 (c : Dev nD) :
    (dats m 0 c).arrAt 5 cfg0.N = val_main_v28 (F := Ideal) (aX m c) (aG m c) (aWg m c) (aWu m c) (aWd m c) := by
  refine (dats m 0 c).arrAt_eq_of_covers 5 _ (by decide +kernel) fun t hf y => ?_
  have hr := (flush0_5 t).mp hf
  blk_simp
  rw [after0_5]
  have hacc := fun r k => acc_last m c t hr r k
  rw [outsAt0_C m c t (by omega) hr] at hacc ⊢
  idx_vars y
  frame_out
  frame_out at hacc
  refine Eq.trans (b := val_main_v28 (F := Ideal) (aX m c) (aG m c) (aWg m c) (aWu m c) (aWd m c) (ix2 (row t y0) y1)) ?_ ?_
  · rw [pay_out, ref_out, hacc]
    exact congrArg (· + _) (x_at m c t y0 y1)
  · unfold row
    blk_ext [idx t]

theorem final6 (c : Dev nD) :
    (dats m 0 c).arrAt 6 cfg0.N = val_main_v16 (F := Ideal) (aX m c) (aG m c) (aWg m c) := by
  refine (dats m 0 c).arrAt_eq_of_covers 6 _ (by decide +kernel) fun t _ y => ?_
  blk_simp
  rw [after0_6]
  by_cases h0 : t.val % 4 = 0
  · rw [outsAt0_A m c t h0 (by omega)]
    frame_out
    exact a_tile m c t _ (h_first m c t) y
  · by_cases h1 : t.val % 4 = 3
    · rw [outsAt0_C m c t h0 h1]
      frame_out
      rw [read_unread_whole]
      exact a_tile m c t _ (h_prev m c t h0) y
    · rw [outsAt0_B m c t h0 h1]
      frame_out
      rw [read_unread_whole]
      exact a_tile m c t _ (h_prev m c t h0) y

theorem final7 (c : Dev nD) :
    (dats m 0 c).arrAt 7 cfg0.N = val_main_v20 (F := Ideal) (aX m c) (aG m c) (aWu m c) := by
  refine (dats m 0 c).arrAt_eq_of_covers 7 _ (by decide +kernel) fun t _ y => ?_
  blk_simp
  rw [after0_7]
  by_cases h0 : t.val % 4 = 0
  · rw [outsAt0_A m c t h0 (by omega)]
    frame_out
    exact b_tile m c t _ (h_first m c t) y
  · by_cases h1 : t.val % 4 = 3
    · rw [outsAt0_C m c t h0 h1]
      frame_out
      rw [read_unread_whole]
      exact b_tile m c t _ (h_prev m c t h0) y
    · rw [outsAt0_B m c t h0 h1]
      frame_out
      rw [read_unread_whole]
      exact b_tile m c t _ (h_prev m c t h0) y

end Cert.Kernel3Ideal.FfnFwd
-- ==== Proof.FfnFwdPair.lean ====
module

public import proofs.«01_k».proof.Defs
public import proofs.«01_k».proof.Proof.FfnFwd
public import proofs.«01_k».proof.Proof.Gen.Reference3Ideal.Run

@[expose] public section

set_option maxRecDepth 16384

noncomputable section

open Idealize.ShloMosaic Idealize.ShloMosaic.TcCoe Idealize.SL.Sem
open Idealize.ShloMosaic.Pipeline (Dat)

namespace Cert.Kernel3Ideal.FfnFwd

open Cert.Kernel3Ideal Cert.Kernel3Ideal.Gen
open Cert.Reference3Ideal.Read

/-- Kernel and reference agree: the feed-forward block with its residual, and the two projections it saves. -/
theorem algebraic : algebraic_Kernel3Ideal_Reference3Ideal := by
  pair_intro
  · run_from Cert.Kernel3Ideal.Value.run_blocks m g
  · run_from Cert.Reference3Ideal.Value.run m' g'
    · exact (val_main_v28_eq _ _ _ _ _).trans (final5 m c).symm
    · exact (val_main_v16_eq _ _ _).trans (final6 m c).symm
    · exact (val_main_v20_eq _ _ _).trans (final7 m c).symm

end Cert.Kernel3Ideal.FfnFwd
-- ==== Proof.NormBwd.lean ====
module

public import proofs.«01_k».proof.Proof.Gen.Kernel4Ideal.Value
public import proofs.«01_k».proof.Proof.Gen.Reference4Ideal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel4Ideal.NormBwd

open Cert.Kernel4Ideal Cert.Kernel4Ideal.Gen
open Cert.Reference4Ideal.Read

/-! ## One row -/

section Row

variable (x : FVec Ideal S512x1024 .f32) (g : FVec Ideal S1x1024 .f32) (d0 d1 d2 d3 : FVec Ideal S1x512x1024 .bf16) (e : FVec Ideal S512x1024 .f32)
variable (X : FVec Ideal S4096x1024 .f32) (G : FVec Ideal S1024 .f32) (D : FVec Ideal S4x4096x1024 .f32) (R : FVec Ideal S4096x1024 .f32)
variable (t : Fin 4096) (r : Fin 512)

theorem ref_sum (k : Fin 1024) : val_main_v16 (F := Ideal) D (ix2 t k) = D (ix3 0 t k) + D (ix3 1 t k) + D (ix3 2 t k) + D (ix3 3 t k) := by
  pointwise [val_main_v16, val_main_cst_3]
  rw [Fin.sum_univ_four]

theorem tile_sum (h0 : ∀ k, d0 (ix3 0 r k) = D (ix3 0 t k)) (h1 : ∀ k, d1 (ix3 0 r k) = D (ix3 1 t k)) (h2 : ∀ k, d2 (ix3 0 r k) = D (ix3 2 t k)) (h3 : ∀ k, d3 (ix3 0 r k) = D (ix3 3 t k)) (k : Fin 1024) :
    k0_pay3 (F := Ideal) d0 d1 d2 d3 (ix2 r k) = val_main_v16 (F := Ideal) D (ix2 t k) := by
  rw [ref_sum, ← h0, ← h1, ← h2, ← h3]
  pointwise [k0_pay3]

/-- The reciprocal root of the mean square, of the reference. -/
theorem ref_root : val_main_v7 (F := Ideal) X (ix2 t 0) = Ideal.rsqrt (Ideal.div (∑ j : Fin 1024, X (ix2 t j) * X (ix2 t j)) (Ideal.ofBits .f32 0x44800000#32) + Ideal.ofBits .f32 0x358637BD#32) := by
  pointwise [val_main_v7, val_main_v6, val_main_v5, val_main_cst_1, val_main_v4, val_main_v3, val_main_cst_0, val_main_v2, val_main_v1, val_main_cst, val_main_v0]

theorem ref_mean : val_main_v6 (F := Ideal) X (ix2 t 0) = Ideal.div (∑ j : Fin 1024, X (ix2 t j) * X (ix2 t j)) (Ideal.ofBits .f32 0x44800000#32) + Ideal.ofBits .f32 0x358637BD#32 := by
  pointwise [val_main_v6, val_main_v5, val_main_cst_1, val_main_v4, val_main_v3, val_main_cst_0, val_main_v2, val_main_v1, val_main_cst, val_main_v0]

theorem tile_mean (hx : ∀ k, x (ix2 r k) = X (ix2 t k)) : k0_pay4 (F := Ideal) x (ix2 r 0) = val_main_v6 (F := Ideal) X (ix2 t 0) := by
  rw [ref_mean]
  pointwise [k0_pay4]
  simp only [hx]

theorem tile_root (hx : ∀ k, x (ix2 r k) = X (ix2 t k)) : k0_pay5 (F := Ideal) x (ix2 r 0) = val_main_v7 (F := Ideal) X (ix2 t 0) :=
  congrArg Ideal.rsqrt (tile_mean x X t r hx)

theorem tile_root' (hx : ∀ k, x (ix2 r k) = X (ix2 t k)) : k0_pay6 (F := Ideal) x (ix2 r 0) = val_main_v10 (F := Ideal) X (ix2 t 0) := by
  refine Eq.trans (b := Ideal.ofBits .f32 0xBF000000#32 * Ideal.div (k0_pay5 (F := Ideal) x (ix2 r 0)) (k0_pay4 (F := Ideal) x (ix2 r 0))) (by pointwise [k0_pay6]) ?_
  rw [tile_root x X t r hx, tile_mean x X t r hx]
  pointwise [val_main_v10, val_main_v9, val_main_cst_2, val_main_v8]

theorem ref_dx (k : Fin 1024) : val_main_v37 (F := Ideal) X G D R (ix2 t k)
    = R (ix2 t k) + (val_main_v16 (F := Ideal) D (ix2 t k) * G (ix1 k) * val_main_v7 (F := Ideal) X (ix2 t 0)
      + X (ix2 t k) * (Ideal.div ((∑ j : Fin 1024, X (ix2 t j) * (val_main_v16 (F := Ideal) D (ix2 t j) * G (ix1 j))) * val_main_v10 (F := Ideal) X (ix2 t 0)) (Ideal.ofBits .f32 0x44800000#32))
      + (Ideal.div ((∑ j : Fin 1024, X (ix2 t j) * (val_main_v16 (F := Ideal) D (ix2 t j) * G (ix1 j))) * val_main_v10 (F := Ideal) X (ix2 t 0)) (Ideal.ofBits .f32 0x44800000#32)) * X (ix2 t k)) := by
  pointwise [val_main_v37, val_main_v36, val_main_v35, val_main_v34, val_main_v33, val_main_v32, val_main_v31, val_main_cst_8, val_main_v30, val_main_v29, val_main_cst_7, val_main_v28, val_main_v27,
    val_main_v26, val_main_v25, val_main_v24, val_main_cst_6, val_main_v23, val_main_v21, val_main_v20, val_main_v13]
  simp only [Fin.sum_univ_one]

theorem pay_dx (v25 v28 : FVec Ideal S512x1 .f32) (v35 v36 : FVec Ideal S512x1024 .f32) (k : Fin 1024) : k0_pay1 (F := Ideal) x v25 v28 v35 v36 e (ix2 r k)
    = e (ix2 r k) + (v35 (ix2 r k) * v25 (ix2 r 0)
      + x (ix2 r k) * (Ideal.div ((∑ j : Fin 1024, v36 (ix2 r j)) * v28 (ix2 r 0)) (Ideal.ofBits .f32 0x44800000#32))
      + (Ideal.div ((∑ j : Fin 1024, v36 (ix2 r j)) * v28 (ix2 r 0)) (Ideal.ofBits .f32 0x44800000#32)) * x (ix2 r k)) := by
  pointwise [k0_pay1]
  simp only [Fin.sum_univ_one]

theorem pay_g (k : Fin 1024) : k0_pay8 (F := Ideal) d0 d1 d2 d3 g (ix2 r k) = k0_pay3 (F := Ideal) d0 d1 d2 d3 (ix2 r k) * g (ix2 0 k) := by
  pointwise [k0_pay8]

theorem tile_dx (hx : ∀ k, x (ix2 r k) = X (ix2 t k)) (hg : ∀ k, g (ix2 0 k) = G (ix1 k)) (he : ∀ k, e (ix2 r k) = R (ix2 t k))
    (hd : ∀ k, k0_pay3 (F := Ideal) d0 d1 d2 d3 (ix2 r k) = val_main_v16 (F := Ideal) D (ix2 t k)) (k : Fin 1024) :
    k0_pay1 (F := Ideal) x (k0_pay5 x) (k0_pay6 x) (k0_pay8 d0 d1 d2 d3 g) (k0_pay9 d0 d1 d2 d3 x g) e (ix2 r k) = val_main_v37 (F := Ideal) X G D R (ix2 t k) := by
  have h9 : ∀ j, k0_pay9 (F := Ideal) d0 d1 d2 d3 x g (ix2 r j) = X (ix2 t j) * (val_main_v16 (F := Ideal) D (ix2 t j) * G (ix1 j)) := fun j => by
    rw [← hd, ← hg, ← hx, ← pay_g]; pointwise [k0_pay9]
  rw [pay_dx, ref_dx, tile_root x X t r hx, tile_root' x X t r hx, pay_g, hd, hg, he, hx]
  simp only [h9]

/-- What one grid point adds to the gradient of the scale. -/
theorem pay_dg (k : Fin 1024) : k0_pay7 (F := Ideal) d0 d1 d2 d3 x (ix2 0 k)
    = ∑ r : Fin 512, x (ix2 r k) * k0_pay5 (F := Ideal) x (ix2 r 0) * k0_pay3 (F := Ideal) d0 d1 d2 d3 (ix2 r k) := by
  pointwise [k0_pay7]

theorem ref_dg (k : Fin 1024) : val_main_v38 (F := Ideal) X D (ix2 0 k)
    = ∑ t : Fin 4096, X (ix2 t k) * val_main_v7 (F := Ideal) X (ix2 t 0) * val_main_v16 (F := Ideal) D (ix2 t k) := by
  pointwise [val_main_v38, val_main_v22, val_main_cst_5, val_main_v19, val_main_v18, val_main_cst_4, val_main_v17, val_main_v12, val_main_v11]
  simp only [Fin.sum_univ_one]

theorem dg_step (v33 p : FVec Ideal S1x1024 .f32) (j : S1x1024.Idx) : k0_pay2 (F := Ideal) v33 p j = p j + v33 j := by
  idx_vars j
  obtain rfl : j0 = 0 := Subsingleton.elim _ _
  pointwise [k0_pay2]

end Row

/-! ## The blocks -/

variable (m : (ℓ : Loc nD τ sig) → Buf (Elt Ideal) ℓ)

abbrev aX (c : Dev nD) : FVec Ideal S4096x1024 .f32 := m ((c : Thread nD τ).loc main_arg0)
abbrev aG (c : Dev nD) : FVec Ideal S1024 .f32 := m ((c : Thread nD τ).loc main_arg1)
abbrev aD (c : Dev nD) : FVec Ideal S4x4096x1024 .f32 := m ((c : Thread nD τ).loc main_arg2)
abbrev aR (c : Dev nD) : FVec Ideal S4096x1024 .f32 := m ((c : Thread nD τ).loc main_arg3)

theorem idx : ∀ t : Fin cfg0.N, win0_0.index t = ![t.val, 0] ∧ win0_1.index t = ![0, 0] ∧ win0_2.index t = ![0, t.val, 0]
    ∧ win0_3.index t = ![t.val, 0] ∧ win0_4.index t = ![t.val, 0] ∧ win0_5.index t = ![0, 0] :=
  (by decide +kernel : ∀ t : Fin grid0.N, _)

theorem lt8 (t : Fin cfg0.N) : t.val < 8 := lt_of_lt_of_eq t.isLt (show cfg0.N = 8 from N_0)

/-- The row of the sequence at row `r` of a grid point's tile. -/
def row (t : Fin cfg0.N) (r : Fin 512) : Fin 4096 := ⟨t.val * 512 + r.val, by have := lt8 t; omega⟩

theorem x_at (c : Dev nD) (t : Fin cfg0.N) (r : Fin 512) (k : Fin 1024) :
    (iblk m c 0 t : FVec Ideal S512x1024 .f32) (ix2 r k) = aX m c (ix2 (row t r) k) := by
  unfold row
  blk_point [iblk, V, idx t]

theorem r_at (c : Dev nD) (t : Fin cfg0.N) (r : Fin 512) (k : Fin 1024) :
    (iblk m c 3 t : FVec Ideal S512x1024 .f32) (ix2 r k) = aR m c (ix2 (row t r) k) := by
  unfold row
  blk_point [iblk, V, idx t]

theorem v0_at (c : Dev nD) (k : Fin 1024) : (V m c main_v0 : FVec Ideal S1x1024 .f32) (ix2 0 k) = aG m c (ix1 k) := by
  entry_read
  pointwise

theorem v1_at (c : Dev nD) (p : Fin 4) (t : Fin 4096) (k : Fin 1024) : (V m c main_v1 : FVec Ideal S4x4096x1024 .bf16) (ix3 p t k) = aD m c (ix3 p t k) := by
  entry_read
  pointwise

theorem g_at (c : Dev nD) (t : Fin cfg0.N) (k : Fin 1024) :
    (iblk m c 1 t : FVec Ideal S1x1024 .f32) (ix2 0 k) = aG m c (ix1 k) := by
  refine Eq.trans (b := (V m c main_v0 : FVec Ideal S1x1024 .f32) (ix2 0 k)) ?_ (v0_at m c k)
  blk_ext [iblk, idx t]

theorem d_at (c : Dev nD) (t : Fin cfg0.N) (p : Fin 4) (r : Fin 512) (k : Fin 1024) :
    (iblk m c 2 t : FVec Ideal S4x512x1024 .bf16) (ix3 p r k) = aD m c (ix3 p (row t r) k) := by
  refine Eq.trans (b := (V m c main_v1 : FVec Ideal S4x4096x1024 .bf16) (ix3 p (row t r) k)) ?_ (v1_at m c p (row t r) k)
  unfold row
  blk_ext [iblk, idx t]

/-- The block of the partial gradients, read chip by chip. -/
abbrev ld0 (v : Vec Ideal S4x512x1024 .bf16) : Vec Ideal S1x512x1024 .bf16 := View.ld v (Rect.unit (s := S4x512x1024) ![0, 0, 0] ![1, 512, 1024] inb_S4x512x1024_S1x512x1024_0_0_0)
abbrev ld1 (v : Vec Ideal S4x512x1024 .bf16) : Vec Ideal S1x512x1024 .bf16 := View.ld v (Rect.unit (s := S4x512x1024) ![1, 0, 0] ![1, 512, 1024] inb_S4x512x1024_S1x512x1024_1_0_0)
abbrev ld2 (v : Vec Ideal S4x512x1024 .bf16) : Vec Ideal S1x512x1024 .bf16 := View.ld v (Rect.unit (s := S4x512x1024) ![2, 0, 0] ![1, 512, 1024] inb_S4x512x1024_S1x512x1024_2_0_0)
abbrev ld3 (v : Vec Ideal S4x512x1024 .bf16) : Vec Ideal S1x512x1024 .bf16 := View.ld v (Rect.unit (s := S4x512x1024) ![3, 0, 0] ![1, 512, 1024] inb_S4x512x1024_S1x512x1024_3_0_0)

theorem ld0_at (v : Vec Ideal S4x512x1024 .bf16) (r : Fin 512) (k : Fin 1024) : (ld0 v : FVec Ideal S1x512x1024 .bf16) (ix3 0 r k) = (v : FVec Ideal S4x512x1024 .bf16) (ix3 0 r k) :=
  View.ld_unit_apply_of v _ _ _ _ _ fun a => by fin_cases a <;> simp [ix3]

theorem ld1_at (v : Vec Ideal S4x512x1024 .bf16) (r : Fin 512) (k : Fin 1024) : (ld1 v : FVec Ideal S1x512x1024 .bf16) (ix3 0 r k) = (v : FVec Ideal S4x512x1024 .bf16) (ix3 1 r k) :=
  View.ld_unit_apply_of v _ _ _ _ _ fun a => by fin_cases a <;> simp [ix3]

theorem ld2_at (v : Vec Ideal S4x512x1024 .bf16) (r : Fin 512) (k : Fin 1024) : (ld2 v : FVec Ideal S1x512x1024 .bf16) (ix3 0 r k) = (v : FVec Ideal S4x512x1024 .bf16) (ix3 2 r k) :=
  View.ld_unit_apply_of v _ _ _ _ _ fun a => by fin_cases a <;> simp [ix3]

theorem ld3_at (v : Vec Ideal S4x512x1024 .bf16) (r : Fin 512) (k : Fin 1024) : (ld3 v : FVec Ideal S1x512x1024 .bf16) (ix3 0 r k) = (v : FVec Ideal S4x512x1024 .bf16) (ix3 3 r k) :=
  View.ld_unit_apply_of v _ _ _ _ _ fun a => by fin_cases a <;> simp [ix3]

abbrev q0 (c : Dev nD) (t : Fin cfg0.N) : FVec Ideal S1x512x1024 .bf16 := ld0 (iblk m c 2 t)
abbrev q1 (c : Dev nD) (t : Fin cfg0.N) : FVec Ideal S1x512x1024 .bf16 := ld1 (iblk m c 2 t)
abbrev q2 (c : Dev nD) (t : Fin cfg0.N) : FVec Ideal S1x512x1024 .bf16 := ld2 (iblk m c 2 t)
abbrev q3 (c : Dev nD) (t : Fin cfg0.N) : FVec Ideal S1x512x1024 .bf16 := ld3 (iblk m c 2 t)

theorem s_at (c : Dev nD) (t : Fin cfg0.N) (r : Fin 512) (k : Fin 1024) :
    k0_pay3 (F := Ideal) (q0 m c t) (q1 m c t) (q2 m c t) (q3 m c t) (ix2 r k) = val_main_v16 (F := Ideal) (aD m c) (ix2 (row t r) k) :=
  tile_sum _ _ _ _ (aD m c) (row t r) r (fun k => (ld0_at _ r k).trans (d_at m c t 0 r k)) (fun k => (ld1_at _ r k).trans (d_at m c t 1 r k))
    (fun k => (ld2_at _ r k).trans (d_at m c t 2 r k)) (fun k => (ld3_at _ r k).trans (d_at m c t 3 r k)) k

theorem dx_tile (c : Dev nD) (t : Fin cfg0.N) (y : S512x1024.Idx) :
    k0_pay1 (F := Ideal) (iblk m c 0 t) (k0_pay5 (iblk m c 0 t)) (k0_pay6 (iblk m c 0 t)) (k0_pay8 (q0 m c t) (q1 m c t) (q2 m c t) (q3 m c t) (iblk m c 1 t))
      (k0_pay9 (q0 m c t) (q1 m c t) (q2 m c t) (q3 m c t) (iblk m c 0 t) (iblk m c 1 t)) (iblk m c 3 t) y
      = val_main_v37 (F := Ideal) (aX m c) (aG m c) (aD m c) (aR m c) (((View.whole main_v2_0).slice (win0_4.rect t)).emb y) := by
  idx_vars y
  refine (tile_dx _ _ _ _ _ _ _ _ _ _ _ (row t y0) y0 (fun k => x_at m c t y0 k) (fun k => g_at m c t k) (fun k => r_at m c t y0 k) (fun k => s_at m c t y0 k) y1).trans ?_
  unfold row
  blk_ext [idx t]

theorem final4 (c : Dev nD) :
    (dats m 0 c).arrAt 4 cfg0.N = val_main_v37 (F := Ideal) (aX m c) (aG m c) (aD m c) (aR m c) := by
  refine (dats m 0 c).arrAt_eq_of_covers 4 _ (by decide +kernel) fun t _ y => ?_
  blk_simp
  rw [after0_4]
  by_cases h0 : t.val % 8 = 0
  · rw [outsAt0_A m c t h0 (by have := lt8 t; omega)]
    frame_out
    exact dx_tile m c t y
  · rw [outsAt0_B m c t h0 (by omega)]
    frame_out
    exact dx_tile m c t y

/-- What one grid point adds to the gradient of the scale. -/
def part (c : Dev nD) (t : Fin cfg0.N) : FVec Ideal S1x1024 .f32 := k0_pay7 (F := Ideal) (q0 m c t) (q1 m c t) (q2 m c t) (q3 m c t) (iblk m c 0 t)

theorem part_at (c : Dev nD) (t : Fin cfg0.N) (k : Fin 1024) : part m c t (ix2 0 k)
    = ∑ r : Fin 512, aX m c (ix2 (row t r) k) * val_main_v7 (F := Ideal) (aX m c) (ix2 (row t r) 0) * val_main_v16 (F := Ideal) (aD m c) (ix2 (row t r) k) := by
  unfold part
  rw [pay_dg]
  exact Finset.sum_congr rfl fun r _ => congrArg₂ (· * ·) (congrArg₂ (· * ·) (x_at m c t r k) (tile_root _ _ (row t r) r fun k => x_at m c t r k)) (s_at m c t r k)

theorem dg_sum (c : Dev nD) (t : Fin cfg0.N) (hf : t.val % 8 = 7) (y : S1x1024.Idx) :
    ∑ s : Fin 8, part m c ⟨8 * (t.val / 8) + s.val, Pipeline.run_point_lt_of_flush t hf s⟩ y
      = val_main_v38 (F := Ideal) (aX m c) (aD m c) ((win0_5.blk t).view.emb y) := by
  idx_vars y
  obtain rfl : y0 = 0 := Subsingleton.elim _ _
  simp only [part_at m c]
  refine Eq.trans ?_ (Eq.trans (ref_dg (aX m c) (aD m c) y1).symm ?_)
  · refine Fin.sum_mul_add_congr fun s r hl => ?_
    have hrow : row ⟨8 * (t.val / 8) + s.val, Pipeline.run_point_lt_of_flush t hf s⟩ r = ⟨s.val * 512 + r.val, hl⟩ := Fin.ext (by simp only [row]; have := lt8 t; omega)
    rw [hrow]
  · blk_ext [idx t]

theorem final5 (c : Dev nD) :
    (dats m 0 c).arrAt 5 cfg0.N = val_main_v38 (F := Ideal) (aX m c) (aD m c) := by
  refine (dats m 0 c).arrAt_eq_of_covers 5 _ (by decide +kernel) fun t hf y => ?_
  blk_simp
  rw [after0_5, Pipeline.eq_sum_fin_of_reset_step_apply_of_flush (fun n h => (outsAt0 m c n h).2) 8 (fun _ => (0 : EReal)) (fun t j => (part m c t j : EReal))
    (fun t h j => by rw [outsAt0_A m c t h (by have := lt8 t; omega), zero_add]; frame_out; rfl)
    (fun t h j => by rw [outsAt0_B m c t h (by omega)]; frame_out; exact dg_step _ _ _)
    t ((flush0_5 t).mp hf) _, zero_add]
  exact dg_sum m c t ((flush0_5 t).mp hf) y

end Cert.Kernel4Ideal.NormBwd
-- ==== Proof.NormBwdPair.lean ====
module

public import proofs.«01_k».proof.Defs
public import proofs.«01_k».proof.Proof.NormBwd
public import proofs.«01_k».proof.Proof.Gen.Reference4Ideal.Run

@[expose] public section

set_option maxRecDepth 16384

noncomputable section

open Idealize.ShloMosaic Idealize.ShloMosaic.TcCoe Idealize.SL.Sem
open Idealize.ShloMosaic.Pipeline (Dat)

namespace Cert.Kernel4Ideal.NormBwd

open Cert.Kernel4Ideal Cert.Kernel4Ideal.Gen
open Cert.Reference4Ideal.Read

/-- Kernel and reference agree: the gradients of the root mean square norm. -/
theorem algebraic : algebraic_Kernel4Ideal_Reference4Ideal := by
  pair_intro
  · run_from Cert.Kernel4Ideal.Value.run_blocks m g
  · run_from Cert.Reference4Ideal.Value.run m' g'
    · obtain ⟨h0, h1, h2, h3⟩ := hagree c
      rw [val_main_v37_eq, h0, h1, h2, h3]
      exact (final4 m c).symm
    · exact (val_main_v38_eq _ _).trans (final5 m c).symm

end Cert.Kernel4Ideal.NormBwd
-- ==== Proof.RwProj.lean ====
module

public import proofs.«01_k».proof.Proof.Gen.Kernel5Ideal.Value
public import proofs.«01_k».proof.Proof.Gen.Reference5Ideal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel5Ideal.RwProj

open Cert.Kernel5Ideal Cert.Kernel5Ideal.Gen
open Cert.Reference5Ideal.Read

/-! ## One row -/

section Row

variable (h s : FVec Ideal S256x1024 .f32) (x : FVec Ideal S1x1024 .f32) (w : FVec Ideal S1024x1024 .f32) (ct e : FVec Ideal S256x1024 .f32)
variable (H S : FVec Ideal S4096x1024 .f32) (X : FVec Ideal S1024 .f32) (W : FVec Ideal S1024x1024 .f32) (C E : FVec Ideal S4096x1024 .f32)

/-- The gradient at the mixed input. -/
theorem tile_dx (t : Fin 4096) (r : Fin 256) (hw : ∀ j k, w (ix2 j k) = W (ix2 j k)) (hc : ∀ k, ct (ix2 r k) = C (ix2 t k)) (k : Fin 1024) :
    k0_pay5 (F := Ideal) w ct (ix2 r k) = val_main_v8 (F := Ideal) W C (ix2 t k) := by
  pointwise [k0_pay5, val_main_v8]
  simp only [hw, hc]

theorem tile_dhs (t : Fin 4096) (r : Fin 256) (hx : ∀ k, x (ix2 0 k) = X (ix1 k)) (hw : ∀ j k, w (ix2 j k) = W (ix2 j k)) (hc : ∀ k, ct (ix2 r k) = C (ix2 t k))
    (he : ∀ k, e (ix2 r k) = E (ix2 t k)) (k : Fin 1024) :
    k0_pay10 (F := Ideal) x w ct e (ix2 r k) = val_main_v18 (F := Ideal) X W C E (ix2 t k) := by
  refine Eq.trans (b := k0_pay5 (F := Ideal) w ct (ix2 r k) * x (ix2 0 k) + e (ix2 r k)) (by pointwise [k0_pay10, k0_pay8, k0_pay3]) ?_
  rw [tile_dx w ct W C t r hw hc, hx, he]
  pointwise [val_main_v18, val_main_v13, val_main_v12, val_main_v1]

theorem tile_dh (t : Fin 4096) (r : Fin 256) (hx : ∀ k, x (ix2 0 k) = X (ix1 k)) (hw : ∀ j k, w (ix2 j k) = W (ix2 j k)) (hc : ∀ k, ct (ix2 r k) = C (ix2 t k))
    (he : ∀ k, e (ix2 r k) = E (ix2 t k)) (k : Fin 1024) :
    k0_pay9 (F := Ideal) x w ct e (ix2 r k) = val_main_v17 (F := Ideal) X W C E (ix2 t k) := by
  refine Eq.trans (b := k0_pay5 (F := Ideal) w ct (ix2 r k) + -(k0_pay5 (F := Ideal) w ct (ix2 r k) * x (ix2 0 k)) + e (ix2 r k)) (by pointwise [k0_pay9, k0_pay8, k0_pay3]; rw [zero_sub]) ?_
  rw [tile_dx w ct W C t r hw hc, hx, he]
  pointwise [val_main_v17, val_main_v16, val_main_v15, val_main_v13, val_main_v12, val_main_v1]

/-- What one grid point adds to the gradient of the mixing weights. -/
theorem pay_dmix (k : Fin 1024) : k0_pay7 (F := Ideal) h s w ct (ix2 0 k) = ∑ r : Fin 256, (s (ix2 r k) - h (ix2 r k)) * k0_pay5 (F := Ideal) w ct (ix2 r k) := by
  pointwise [k0_pay7, k0_pay4]

theorem ref_dmix (k : Fin 1024) : val_main_v19 (F := Ideal) H S W C (ix2 0 k) = ∑ t : Fin 4096, (S (ix2 t k) - H (ix2 t k)) * val_main_v8 (F := Ideal) W C (ix2 t k) := by
  pointwise [val_main_v19, val_main_v14, val_main_cst_0, val_main_v11, val_main_v10, val_main_cst, val_main_v9, val_main_v0]
  simp only [Fin.sum_univ_one]

/-- What one grid point adds to the gradient of the projection. -/
theorem pay_dw (j k : Fin 1024) : k0_pay6 (F := Ideal) h s x ct (ix2 j k) = ∑ r : Fin 256, (h (ix2 r j) + (s (ix2 r j) - h (ix2 r j)) * x (ix2 0 j)) * ct (ix2 r k) := by
  pointwise [k0_pay6, k0_pay4, k0_pay3]

theorem ref_dw (j k : Fin 1024) : val_main_v7 (F := Ideal) H S X C (ix2 j k) = ∑ t : Fin 4096, (H (ix2 t j) + (S (ix2 t j) - H (ix2 t j)) * X (ix1 j)) * C (ix2 t k) := by
  pointwise [val_main_v7, val_main_v6, val_main_v4, val_main_v3, val_main_v2, val_main_v1, val_main_v0]
  exact Finset.sum_congr rfl fun _ _ => mul_comm _ _

theorem dmix_step (v p : FVec Ideal S1x1024 .f32) (j : S1x1024.Idx) : k0_pay1 (F := Ideal) v p j = p j + v j := by
  idx_vars j
  obtain rfl : j0 = 0 := Subsingleton.elim _ _
  pointwise [k0_pay1]

theorem dw_step (v p : FVec Ideal S1024x1024 .f32) (j : S1024x1024.Idx) : k0_pay2 (F := Ideal) v p j = p j + v j := by
  idx_vars j
  pointwise [k0_pay2]

end Row

/-! ## The blocks -/

variable (m : (ℓ : Loc nD τ sig) → Buf (Elt Ideal) ℓ)

abbrev aH (c : Dev nD) : FVec Ideal S4096x1024 .f32 := m ((c : Thread nD τ).loc main_arg0)
abbrev aS (c : Dev nD) : FVec Ideal S4096x1024 .f32 := m ((c : Thread nD τ).loc main_arg1)
abbrev aX (c : Dev nD) : FVec Ideal S1024 .f32 := m ((c : Thread nD τ).loc main_arg2)
abbrev aW (c : Dev nD) : FVec Ideal S1024x1024 .f32 := m ((c : Thread nD τ).loc main_arg3)
abbrev aC (c : Dev nD) : FVec Ideal S4096x1024 .f32 := m ((c : Thread nD τ).loc main_arg4)
abbrev aDh (c : Dev nD) : FVec Ideal S4096x1024 .f32 := m ((c : Thread nD τ).loc main_arg5)
abbrev aDs (c : Dev nD) : FVec Ideal S4096x1024 .f32 := m ((c : Thread nD τ).loc main_arg6)

theorem idx : ∀ t : Fin cfg0.N, win0_0.index t = ![t.val, 0] ∧ win0_1.index t = ![t.val, 0] ∧ win0_2.index t = ![0, 0] ∧ win0_3.index t = ![0, 0]
    ∧ win0_4.index t = ![t.val, 0] ∧ win0_5.index t = ![t.val, 0] ∧ win0_6.index t = ![t.val, 0] ∧ win0_7.index t = ![t.val, 0] ∧ win0_8.index t = ![t.val, 0]
    ∧ win0_9.index t = ![0, 0] ∧ win0_10.index t = ![0, 0] :=
  (by decide +kernel : ∀ t : Fin grid0.N, _)

theorem lt16 (t : Fin cfg0.N) : t.val < 16 := lt_of_lt_of_eq t.isLt (show cfg0.N = 16 from N_0)

/-- The row of the sequence at row `r` of a grid point's tile. -/
def row (t : Fin cfg0.N) (r : Fin 256) : Fin 4096 := ⟨t.val * 256 + r.val, by have := lt16 t; omega⟩

theorem h_at (c : Dev nD) (t : Fin cfg0.N) (r : Fin 256) (k : Fin 1024) : (iblk m c 0 t : FVec Ideal S256x1024 .f32) (ix2 r k) = aH m c (ix2 (row t r) k) := by
  unfold row
  blk_point [iblk, V, idx t]

theorem s_at (c : Dev nD) (t : Fin cfg0.N) (r : Fin 256) (k : Fin 1024) : (iblk m c 1 t : FVec Ideal S256x1024 .f32) (ix2 r k) = aS m c (ix2 (row t r) k) := by
  unfold row
  blk_point [iblk, V, idx t]

theorem v0_at (c : Dev nD) (k : Fin 1024) : (V m c main_v0 : FVec Ideal S1x1024 .f32) (ix2 0 k) = aX m c (ix1 k) := by
  entry_read
  pointwise

theorem x_at (c : Dev nD) (t : Fin cfg0.N) (k : Fin 1024) : (iblk m c 2 t : FVec Ideal S1x1024 .f32) (ix2 0 k) = aX m c (ix1 k) := by
  refine Eq.trans (b := (V m c main_v0 : FVec Ideal S1x1024 .f32) (ix2 0 k)) ?_ (v0_at m c k)
  blk_ext [iblk, idx t]

theorem w_at (c : Dev nD) (t : Fin cfg0.N) (j k : Fin 1024) : (iblk m c 3 t : FVec Ideal S1024x1024 .f32) (ix2 j k) = aW m c (ix2 j k) := by
  blk_point [iblk, V, idx t]

theorem c_at (c : Dev nD) (t : Fin cfg0.N) (r : Fin 256) (k : Fin 1024) : (iblk m c 4 t : FVec Ideal S256x1024 .f32) (ix2 r k) = aC m c (ix2 (row t r) k) := by
  unfold row
  blk_point [iblk, V, idx t]

theorem dh_at (c : Dev nD) (t : Fin cfg0.N) (r : Fin 256) (k : Fin 1024) : (iblk m c 5 t : FVec Ideal S256x1024 .f32) (ix2 r k) = aDh m c (ix2 (row t r) k) := by
  unfold row
  blk_point [iblk, V, idx t]

theorem ds_at (c : Dev nD) (t : Fin cfg0.N) (r : Fin 256) (k : Fin 1024) : (iblk m c 6 t : FVec Ideal S256x1024 .f32) (ix2 r k) = aDs m c (ix2 (row t r) k) := by
  unfold row
  blk_point [iblk, V, idx t]

theorem dh_tile (c : Dev nD) (t : Fin cfg0.N) (y : S256x1024.Idx) :
    k0_pay9 (F := Ideal) (iblk m c 2 t) (iblk m c 3 t) (iblk m c 4 t) (iblk m c 5 t) y
      = val_main_v17 (F := Ideal) (aX m c) (aW m c) (aC m c) (aDh m c) (((View.whole main_v1_0).slice (win0_7.rect t)).emb y) := by
  idx_vars y
  refine (tile_dh _ _ _ _ _ _ _ _ (row t y0) y0 (fun k => x_at m c t k) (fun j k => w_at m c t j k) (fun k => c_at m c t y0 k) (fun k => dh_at m c t y0 k) y1).trans ?_
  unfold row
  blk_ext [idx t]

theorem dhs_tile (c : Dev nD) (t : Fin cfg0.N) (y : S256x1024.Idx) :
    k0_pay10 (F := Ideal) (iblk m c 2 t) (iblk m c 3 t) (iblk m c 4 t) (iblk m c 6 t) y
      = val_main_v18 (F := Ideal) (aX m c) (aW m c) (aC m c) (aDs m c) (((View.whole main_v1_1).slice (win0_8.rect t)).emb y) := by
  idx_vars y
  refine (tile_dhs _ _ _ _ _ _ _ _ (row t y0) y0 (fun k => x_at m c t k) (fun j k => w_at m c t j k) (fun k => c_at m c t y0 k) (fun k => ds_at m c t y0 k) y1).trans ?_
  unfold row
  blk_ext [idx t]

theorem final7 (c : Dev nD) : (dats m 0 c).arrAt 7 cfg0.N = val_main_v17 (F := Ideal) (aX m c) (aW m c) (aC m c) (aDh m c) := by
  refine (dats m 0 c).arrAt_eq_of_covers 7 _ (by decide +kernel) fun t _ y => ?_
  blk_simp
  rw [after0_7]
  by_cases h0 : t.val % 16 = 0
  · have h1 : ¬1 ≤ t.val := by have := lt16 t; omega
    rw [outsAt0_A m c t h0 h1 h0 h1]
    frame_out
    exact dh_tile m c t y
  · rw [outsAt0_B m c t h0 (by omega) h0 (by omega)]
    frame_out
    exact dh_tile m c t y

theorem final8 (c : Dev nD) : (dats m 0 c).arrAt 8 cfg0.N = val_main_v18 (F := Ideal) (aX m c) (aW m c) (aC m c) (aDs m c) := by
  refine (dats m 0 c).arrAt_eq_of_covers 8 _ (by decide +kernel) fun t _ y => ?_
  blk_simp
  rw [after0_8]
  by_cases h0 : t.val % 16 = 0
  · have h1 : ¬1 ≤ t.val := by have := lt16 t; omega
    rw [outsAt0_A m c t h0 h1 h0 h1]
    frame_out
    exact dhs_tile m c t y
  · rw [outsAt0_B m c t h0 (by omega) h0 (by omega)]
    frame_out
    exact dhs_tile m c t y

/-- What one grid point adds to the gradient of the mixing weights, of the blocks. -/
def mixPart (c : Dev nD) (t : Fin cfg0.N) : FVec Ideal S1x1024 .f32 := k0_pay7 (F := Ideal) (iblk m c 0 t) (iblk m c 1 t) (iblk m c 3 t) (iblk m c 4 t)

/-- What one grid point adds to the gradient of the projection, of the blocks. -/
def wPart (c : Dev nD) (t : Fin cfg0.N) : FVec Ideal S1024x1024 .f32 := k0_pay6 (F := Ideal) (iblk m c 0 t) (iblk m c 1 t) (iblk m c 2 t) (iblk m c 4 t)

theorem mixPart_at (c : Dev nD) (t : Fin cfg0.N) (k : Fin 1024) : mixPart m c t (ix2 0 k)
    = ∑ r : Fin 256, (aS m c (ix2 (row t r) k) - aH m c (ix2 (row t r) k)) * val_main_v8 (F := Ideal) (aW m c) (aC m c) (ix2 (row t r) k) := by
  unfold mixPart
  rw [pay_dmix]
  exact Finset.sum_congr rfl fun r _ => congrArg₂ (· * ·) (congrArg₂ (· - ·) (s_at m c t r k) (h_at m c t r k))
    (tile_dx _ _ _ _ (row t r) r (fun j k => w_at m c t j k) (fun k => c_at m c t r k) k)

theorem wPart_at (c : Dev nD) (t : Fin cfg0.N) (j k : Fin 1024) : wPart m c t (ix2 j k)
    = ∑ r : Fin 256, (aH m c (ix2 (row t r) j) + (aS m c (ix2 (row t r) j) - aH m c (ix2 (row t r) j)) * aX m c (ix1 j)) * aC m c (ix2 (row t r) k) := by
  unfold wPart
  rw [pay_dw]
  exact Finset.sum_congr rfl fun r _ => congrArg₂ (· * ·) (congrArg₂ (· + ·) (h_at m c t r j) (congrArg₂ (· * ·) (congrArg₂ (· - ·) (s_at m c t r j) (h_at m c t r j))
    (x_at m c t j))) (c_at m c t r k)

theorem row_run (t : Fin cfg0.N) (hf : t.val % 16 = 15) (s : Fin 16) (r : Fin 256) (hl : s.val * 256 + r.val < 4096) :
    row ⟨16 * (t.val / 16) + s.val, Pipeline.run_point_lt_of_flush t hf s⟩ r = ⟨s.val * 256 + r.val, hl⟩ :=
  Fin.ext (by simp only [row]; have := lt16 t; omega)

theorem mix_sum (c : Dev nD) (t : Fin cfg0.N) (hf : t.val % 16 = 15) (y : S1x1024.Idx) :
    ∑ s : Fin 16, mixPart m c ⟨16 * (t.val / 16) + s.val, Pipeline.run_point_lt_of_flush t hf s⟩ y
      = val_main_v19 (F := Ideal) (aH m c) (aS m c) (aW m c) (aC m c) ((win0_9.blk t).view.emb y) := by
  idx_vars y
  obtain rfl : y0 = 0 := Subsingleton.elim _ _
  simp only [mixPart_at m c]
  refine Eq.trans ?_ (Eq.trans (ref_dmix (aH m c) (aS m c) (aW m c) (aC m c) y1).symm ?_)
  · refine Fin.sum_mul_add_congr fun s r hl => ?_
    rw [row_run t hf s r hl]
  · blk_ext [idx t]

theorem w_sum (c : Dev nD) (t : Fin cfg0.N) (hf : t.val % 16 = 15) (y : S1024x1024.Idx) :
    ∑ s : Fin 16, wPart m c ⟨16 * (t.val / 16) + s.val, Pipeline.run_point_lt_of_flush t hf s⟩ y
      = val_main_v7 (F := Ideal) (aH m c) (aS m c) (aX m c) (aC m c) ((win0_10.blk t).view.emb y) := by
  idx_vars y
  simp only [wPart_at m c]
  refine Eq.trans ?_ (Eq.trans (ref_dw (aH m c) (aS m c) (aX m c) (aC m c) y0 y1).symm ?_)
  · refine Fin.sum_mul_add_congr fun s r hl => ?_
    rw [row_run t hf s r hl]
  · blk_ext [idx t]

theorem final9 (c : Dev nD) : (dats m 0 c).arrAt 9 cfg0.N = val_main_v19 (F := Ideal) (aH m c) (aS m c) (aW m c) (aC m c) := by
  refine (dats m 0 c).arrAt_eq_of_covers 9 _ (by decide +kernel) fun t hf y => ?_
  blk_simp
  rw [after0_9, Pipeline.eq_sum_fin_of_reset_step_apply_of_flush (fun n h => (outsAt0 m c n h).2.2.1) 16 (fun _ => (0 : EReal)) (fun t j => (mixPart m c t j : EReal))
    (fun t h j => by have h1 : ¬1 ≤ t.val := by have := lt16 t; omega
                     rw [outsAt0_A m c t h h1 h h1, zero_add]; frame_out; rfl)
    (fun t h j => by rw [outsAt0_B m c t h (by omega) h (by omega)]; frame_out; exact dmix_step _ _ _)
    t ((flush0_9 t).mp hf) _, zero_add]
  exact mix_sum m c t ((flush0_9 t).mp hf) y

theorem final10 (c : Dev nD) : (dats m 0 c).arrAt 10 cfg0.N = val_main_v7 (F := Ideal) (aH m c) (aS m c) (aX m c) (aC m c) := by
  refine (dats m 0 c).arrAt_eq_of_covers 10 _ (by decide +kernel) fun t hf y => ?_
  blk_simp
  rw [after0_10, Pipeline.eq_sum_fin_of_reset_step_apply_of_flush (fun n h => (outsAt0 m c n h).2.2.2) 16 (fun _ => (0 : EReal)) (fun t j => (wPart m c t j : EReal))
    (fun t h j => by have h1 : ¬1 ≤ t.val := by have := lt16 t; omega
                     rw [outsAt0_A m c t h h1 h h1, zero_add]; frame_out; rfl)
    (fun t h j => by rw [outsAt0_B m c t h (by omega) h (by omega)]; frame_out; exact dw_step _ _ _)
    t ((flush0_10 t).mp hf) _, zero_add]
  exact w_sum m c t ((flush0_10 t).mp hf) y

end Cert.Kernel5Ideal.RwProj
-- ==== Proof.RwProjPair.lean ====
module

public import proofs.«01_k».proof.Defs
public import proofs.«01_k».proof.Proof.RwProj
public import proofs.«01_k».proof.Proof.Gen.Reference5Ideal.Run

@[expose] public section

set_option maxRecDepth 16384

noncomputable section

open Idealize.ShloMosaic Idealize.ShloMosaic.TcCoe Idealize.SL.Sem
open Idealize.ShloMosaic.Pipeline (Dat)

namespace Cert.Kernel5Ideal.RwProj

open Cert.Kernel5Ideal Cert.Kernel5Ideal.Gen
open Cert.Reference5Ideal.Read

/-- Kernel and reference agree: the gradients of a projection of the shifted input. -/
theorem algebraic : algebraic_Kernel5Ideal_Reference5Ideal := by
  pair_intro
  · run_from Cert.Kernel5Ideal.Value.run_blocks m g
  · run_from Cert.Reference5Ideal.Value.run m' g'
    · exact (val_main_v17_eq _ _ _ _).trans (final7 m c).symm
    · exact (val_main_v18_eq _ _ _ _).trans (final8 m c).symm
    · exact (val_main_v19_eq _ _ _ _).trans (final9 m c).symm
    · exact (val_main_v7_eq _ _ _ _).trans (final10 m c).symm

end Cert.Kernel5Ideal.RwProj
-- ==== Proof.DilFwd.lean ====
module

public import proofs.«01_k».proof.Proof.Gen.Kernel6Ideal.Value
public import proofs.«01_k».proof.Proof.Gen.Reference6Ideal.Read
public import Idealize.ShloMosaic.Lib.Pipeline.ValueKit
public import proofs.«01_k».proof.Proof.Reals

@[expose] public section

set_option maxRecDepth 16384

noncomputable section

open Idealize.ShloMosaic Idealize.ShloMosaic.TcCoe Idealize.SL.Sem
open Idealize.ShloMosaic.Pipeline (Dat)

namespace Cert.Kernel6Ideal.DilFwd

open Cert.Kernel6Ideal Cert.Kernel6Ideal.Gen
open Cert.Reference6Ideal.Read

/-! ## Heads, lanes and rows -/

/-- The row of the four stacked heads at head `h` and place `a` of the block. -/
def hrow (h : Fin 4) (a : Fin 128) : Fin 512 := ⟨h.val * 128 + a.val, by omega⟩

/-- Lane `d` of head `h`, among the four heads' lanes. -/
def lane (h : Fin 4) (d : Fin 64) : Fin 256 := ⟨h.val * 64 + d.val, by omega⟩

/-- Head `h` of group `g`, among all heads. -/
def head (g : Fin 3) (h : Fin 4) : Fin 12 := ⟨g.val * 4 + h.val, by omega⟩

/-- The head of a lane, as the kernel computes it. -/
theorem head_of_lane (c : Fin 256) : k0_pay21 (ix2 0 c) = BitVec.ofNat 32 (c.val / 64) := by
  revert c
  decide +kernel

theorem head_eq_iff : ∀ (u h : Fin 4), IntOp.cmpi .eq (BitVec.ofNat 32 u.val) (BitVec.ofNat 32 h.val) = if u = h then 1#1 else 0#1 := by decide +kernel

/-- Is a lane one of head `h`'s. -/
theorem select_head {α : Type} (c : Fin 256) (h : Fin 4) (x y : α) :
    Scalar.select (IntOp.cmpi .eq (k0_pay21 (ix2 0 c)) (BitVec.ofNat 32 h.val)) x y = if c.val / 64 = h.val then x else y := by
  have e := head_eq_iff ⟨c.val / 64, by omega⟩ h
  simp only [Fin.ext_iff] at e
  rw [head_of_lane, e]
  split <;> rfl

/-- Over the lanes, a row that is zero off head `h` counts on that head's lanes alone. -/
theorem sum_head (f g : Fin 256 → EReal) (h : Fin 4) :
    ∑ c, (if c.val / 64 = h.val then f c else 0) * g c = ∑ d, f (lane h d) * g (lane h d) := by
  refine (Fintype.sum_of_injective (lane h) (fun d e hde => ?_) _ _ (fun c hc => ?_) fun d => ?_).symm
  · simp only [lane, Fin.ext_iff] at hde ⊢; omega
  · rw [if_neg, zero_mul]
    intro hch
    exact hc ⟨⟨c.val % 64, by omega⟩, by simp only [lane, Fin.ext_iff]; omega⟩
  · rw [if_pos]
    simp only [lane]; omega

/-- The scores of the stacked heads: head `h`'s row meets the keys on that head's lanes alone. -/
theorem scores (K : FVec Ideal S256x256 .bf16) (Q : FVec Ideal S128x256 .f32) (h : Fin 4) (a : Fin 128) (t : Fin 256) :
    k0_pay15 (F := Ideal) K Q (iota .tc S1x256 32 [1] iota_S1x256_d1_w32) 64#32 k0_pay12 k0_pay13 k0_pay14 (ix2 (hrow h a) t)
      = (∑ d : Fin 64, Q (ix2 a (lane h d)) * K (ix2 t (lane h d))) * Ideal.ofBits .f32 0x3E000000#32 := by
  rw [← sum_head (fun c => Q (ix2 a c)) (fun c => K (ix2 t c)) h]
  simp only [← select_head]
  fin_cases h <;> pointwise [k0_pay15, k0_pay12, k0_pay13, k0_pay14, k0_pay21, hrow]
  all_goals
    refine congrArg (· * _) (Finset.sum_congr rfl fun c _ => ?_)
    simp (disch := omega) only [dif_pos, dif_neg]
    pointwise
    all_goals exact congrArg (fun z => Scalar.select _ (Q (ix2 z c) * _) _) (Fin.ext (by dsimp only; omega))

theorem lane_div (h : Fin 4) (d : Fin 64) : (lane h d).val / 64 = h.val := by simp only [lane]; omega

/-- Each lane takes the row of its own head. -/
theorem pick (P : FVec Ideal S512x256 .f32) (h : Fin 4) (a : Fin 128) (d : Fin 64) (P0 P1 : FVec Ideal S128x256 .f32)
    (h0 : ∀ c, P0 (ix2 a c) = P (ix2 (hrow 0 a) c)) (h1 : ∀ c, P1 (ix2 a c) = P (ix2 (hrow 1 a) c)) :
    k0_pay25 (F := Ideal) P k0_pay21 P0 k0_pay23 P1 (ix2 a (lane h d)) = P (ix2 (hrow h a) (lane h d)) := by
  pointwise [k0_pay25, k0_pay23, head_of_lane, lane_div, h0, h1]
  fin_cases h <;> first | rfl | exact congrArg P (congrArg (ix2 · _) (Fin.ext (by simp only [hrow]; omega)))

theorem pick_lse (P : FVec Ideal S512x256 .f32) (P0 P1 : FVec Ideal S128x256 .f32) (h : Fin 4) (a : Fin 128) (d : Fin 64)
    (h0 : ∀ c, P0 (ix2 a c) = P (ix2 (hrow 0 a) c)) (h1 : ∀ c, P1 (ix2 a c) = P (ix2 (hrow 1 a) c)) :
    k0_pay1 (F := Ideal) P k0_pay27 P0 P1 k0_pay30 (ix2 a (lane h d)) = P (ix2 (hrow h a) (lane h d)) :=
  pick P h a d P0 P1 h0 h1

/-! ## The mask -/

theorem rem_row : ∀ r : Fin 512, IntOp.remsi .vector (BitVec.ofNat 32 r.val) 128#32 = BitVec.ofNat 32 (r.val % 128) := by decide +kernel

theorem mask_eq (i : grid0.Coords) (g : Fin 3) (n : Fin 32) (hg : (i 0).val = g.val) (hn : (i 1).val = n.val) (h : Fin 4) (a : Fin 128) (t : Fin 256) :
    k0_pay6 i (ix2 (hrow h a) t) = val_main_v54 (F := Ideal) (ix4 (head g h) n a t) := by
  have e : (hrow h a).val % 128 = a.val := by simp only [hrow]; omega
  pointwise [k0_pay6, rem_row, e, hg, hn, val_main_v54, val_main_v53, val_main_v52, val_main_v51, val_main_v50, val_main_v49, val_main_v48, val_main_v47, val_main_v46, val_main_v45,
    val_main_v44, val_main_v43, val_main_v42, val_main_v41, val_main_v40, val_main_v39, val_main_v38, val_main_v37, val_main_v36, val_main_v35, val_main_c_7, val_main_c_8,
    val_main_c_9, val_main_c_10]
  refine congrArg (IntOp.andi _) (congrArg (IntOp.ori · _) ?_)
  clear hg hn e
  pointwise [val_main_v10, val_main_v9, val_main_v8, val_main_v7, val_main_v6, val_main_v5, val_main_v4, val_main_v3, val_main_v2, val_main_v1, val_main_v0, val_main_c, val_main_c_0,
    val_main_c_1, val_main_c_2, head]
  revert g n h
  decide +kernel

/-- The first block of all is the first of its stream. -/
theorem first_zero (H : Fin 12) : val_main_v10 (F := Ideal) (ix4 H 0 0 0) = 1#1 := by
  pointwise [val_main_v10, val_main_v9, val_main_v8, val_main_v7, val_main_v6, val_main_v5, val_main_v4, val_main_v3, val_main_v2, val_main_v1, val_main_v0, val_main_c, val_main_c_0,
    val_main_c_1, val_main_c_2]
  revert H
  decide +kernel

theorem before : ∀ t : Fin 256, t.val < 128 → IntOp.cmpi .sge (IntOp.subi (BitVec.ofNat 32 t.val) 128#32) 0#32 = 0#1 := by decide +kernel

/-- In the first block of a stream the keys of the block before are masked. -/
theorem mask_first (H : Fin 12) (n : Fin 32) (a : Fin 128) (t : Fin 256) (hf : val_main_v10 (F := Ideal) (ix4 H n 0 0) = 1#1) (ht : t.val < 128) :
    val_main_v54 (F := Ideal) (ix4 H n a t) = 0#1 := by
  pointwise [val_main_v54, val_main_v51, val_main_v50, val_main_v49, val_main_v48, val_main_v47, val_main_v46, val_main_v45, val_main_v37, val_main_v36, val_main_v35, val_main_c_7,
    val_main_c_10, hf, before t ht]
  generalize val_main_v53 (F := Ideal) (ix4 H n a t) = b
  revert b
  decide

/-- A query is never masked from itself. -/
theorem mask_diag (H : Fin 12) (n : Fin 32) (a : Fin 128) : val_main_v54 (F := Ideal) (ix4 H n a ⟨a.val + 128, by omega⟩) = 1#1 := by
  pointwise [val_main_v54, val_main_v53, val_main_v52, val_main_v51, val_main_v50, val_main_v49, val_main_v48, val_main_v47, val_main_v46, val_main_v45,
    val_main_v44, val_main_v43, val_main_v42, val_main_v41, val_main_v40, val_main_v39, val_main_v38, val_main_v37, val_main_v36, val_main_v35, val_main_c_7, val_main_c_8,
    val_main_c_9, val_main_c_10]
  generalize val_main_v10 (F := Ideal) (ix4 H n 0 0) = b
  revert a b
  decide +kernel

/-! ## A row's softmax -/

theorem ofBits_bot : Ideal.ofBits .f32 0xFF800000#32 = ⊥ := by
  simp [Ideal.ofBits, Ideal.ieee]

theorem ofBits_eighth : Reals.IsR (Ideal.ofBits .f32 0x3E000000#32) := by
  simp [Ideal.ofBits, Ideal.ieee]
  exact ⟨_, rfl⟩

def top (f : Fin 256 → EReal) : EReal := Finset.fold max ⊥ f Finset.univ
def weight (f : Fin 256 → EReal) (t : Fin 256) : EReal := Ideal.exp (f t - top f)
def den (f : Fin 256 → EReal) : EReal := ∑ t, weight f t

theorem weight_bot {f : Fin 256 → EReal} {t : Fin 256} (h : f t = ⊥) : weight f t = 0 := by
  rw [weight, h, sub_eq_add_neg, EReal.bot_add]
  rfl

theorem exp_nonneg : ∀ x : EReal, 0 ≤ Ideal.exp x
  | ⊥ => le_refl _
  | ⊤ => le_top
  | (r : ℝ) => EReal.coe_nonneg.mpr (Real.exp_pos r).le

/-- A row with one real logit and none infinite upwards has a denominator that is not zero. -/
theorem den_ne_zero {f : Fin 256 → EReal} (t : Fin 256) (h : Reals.IsR (f t)) (hf : ∀ t, f t ≠ ⊤) : den f ≠ 0 := by
  have hle : f t ≤ top f := by
    rw [top, Finset.le_fold_max]
    exact Or.inr ⟨t, Finset.mem_univ t, le_refl _⟩
  have hlt : top f < ⊤ := by
    rw [top, Finset.fold_max_lt]
    exact ⟨bot_lt_top, fun u _ => lt_top_iff_ne_top.mpr (hf u)⟩
  obtain ⟨r, hr⟩ := h
  have hpos : 0 < weight f t := by
    rw [weight]
    generalize top f = y at hle hlt
    rw [hr] at hle ⊢
    induction y with
    | bot => exact absurd hle (by simp)
    | top => exact absurd hlt (lt_irrefl _)
    | coe s => rw [← EReal.coe_sub]; exact EReal.coe_pos.mpr (Real.exp_pos _)
  have := Finset.single_le_sum (f := weight f) (s := Finset.univ) (fun u _ => exp_nonneg _) (Finset.mem_univ t)
  exact (lt_of_lt_of_le hpos this).ne'

theorem div_zero_left {y : EReal} (hy : y ≠ 0) : Ideal.div 0 y = 0 := by
  simp [Ideal.div, hy]

/-! ## One row -/

section Row

variable (i : grid0.Coords) (x0 x1 x2 x3 x4 : FVec Ideal S2x128x128 .f32) (x5 : FVec Ideal S4x128x256 .f32)
variable (Q K V : FVec Ideal S6x4096x128 .f32) (B : FVec Ideal S12x128x256 .f32)

theorem q_lane (h : Fin 4) (a : Fin 128) (d : Fin 64) : k0_pay11 (F := Ideal) (View.ld x0 r0_0) (View.ld x0 r0_1) (ix2 a (lane h d))
    = x0 (ix3 ⟨h.val / 2, by omega⟩ a ⟨h.val % 2 * 64 + d.val, by omega⟩) := by
  fin_cases h <;> pointwise [k0_pay11, lane]
  all_goals
    simp (disch := omega) only [dif_pos, dif_neg]
    try pointwise
    try (refine congrArg x0 ?_; first | rfl | (refine congrArg (ix3 _ _) (Fin.ext ?_); dsimp only; omega))

theorem k_lane (h : Fin 4) (t : Fin 256) (d : Fin 64) : k0_pay9 (F := Ideal) (k0_pay7 (View.ld x2 r0_0)) (k0_pay8 (View.ld x2 r0_1)) (View.ld x1 r0_0) (View.ld x1 r0_1) (ix2 t (lane h d))
    = if ht : t.val < 128 then x2 (ix3 ⟨h.val / 2, by omega⟩ ⟨t.val, ht⟩ ⟨h.val % 2 * 64 + d.val, by omega⟩)
      else x1 (ix3 ⟨h.val / 2, by omega⟩ ⟨t.val - 128, by omega⟩ ⟨h.val % 2 * 64 + d.val, by omega⟩) := by
  fin_cases h <;> pointwise [k0_pay9, k0_pay8, k0_pay7, lane]
  all_goals
    split <;> simp (disch := omega) only [dif_pos, dif_neg] <;> pointwise
    all_goals try first
      | (refine congrArg x1 ?_; first | rfl | (refine congrArg (ix3 _ _) (Fin.ext ?_); dsimp only; omega))
      | (refine congrArg x2 ?_; first | rfl | (refine congrArg (ix3 _ _) (Fin.ext ?_); dsimp only; omega))

theorem heads_at (T : FVec Ideal S6x4096x128 .f32) (g : Fin 3) (h : Fin 4) (n : Fin 32) (a : Fin 128) (d : Fin 64) :
    val_main_v13 (F := Ideal) T (ix4 (head g h) n a d) = T (ix3 ⟨g.val * 2 + h.val / 2, by omega⟩ ⟨n.val * 128 + a.val, by omega⟩ ⟨h.val % 2 * 64 + d.val, by omega⟩) := by
  pointwise [val_main_v13, val_main_v12, val_main_v11, head]
  refine congrArg T (congr (congr (congrArg ix3 (Fin.ext ?_)) (Fin.ext ?_)) (Fin.ext ?_)) <;> dsimp only <;> omega

theorem prev_at (T : FVec Ideal S6x4096x128 .f32) (H : Fin 12) (n : Fin 32) (t : Fin 256) (d : Fin 64) :
    val_main_v19 (F := Ideal) T (ix4 H n t d)
      = if ht : t.val < 128 then Scalar.select (val_main_v10 (F := Ideal) (ix4 H n 0 0)) 0 (if hn : n.val < 1 then 0 else val_main_v13 T (ix4 H ⟨n.val - 1, by omega⟩ ⟨t.val, ht⟩ d))
        else val_main_v13 T (ix4 H n ⟨t.val - 128, by omega⟩ d) := by
  pointwise [val_main_v19, val_main_v18, val_main_v17, val_main_v16, val_main_v15, val_main_v14, val_main_cst, val_main_call0_v2, val_main_call0_v1, val_main_call0_v0, val_main_cst_3]
  simp only [id_eq]
  pointwise

/-- The keys a head meets, its own block's and the block's before, are those of its stream. -/
theorem keys_eq (T : FVec Ideal S6x4096x128 .f32) (g : Fin 3) (n : Fin 32)
    (hc : ∀ j a l, x1 (ix3 j a l) = T (ix3 ⟨g.val * 2 + j.val, by omega⟩ ⟨n.val * 128 + a.val, by omega⟩ l))
    (hp : 1 ≤ n.val → ∀ j a l, x2 (ix3 j a l) = T (ix3 ⟨g.val * 2 + j.val, by omega⟩ ⟨(n.val - 1) * 128 + a.val, by omega⟩ l))
    (h : Fin 4) (t : Fin 256) (d : Fin 64) (hf : t.val < 128 → val_main_v10 (F := Ideal) (ix4 (head g h) n 0 0) = 0#1) :
    k0_pay9 (F := Ideal) (k0_pay7 (View.ld x2 r0_0)) (k0_pay8 (View.ld x2 r0_1)) (View.ld x1 r0_0) (View.ld x1 r0_1) (ix2 t (lane h d))
      = val_main_v19 (F := Ideal) T (ix4 (head g h) n t d) := by
  rw [k_lane, prev_at]
  split
  · next ht =>
    have hn : 1 ≤ n.val := by
      by_contra hlt
      have e : n = 0 := Fin.ext (by simp only [Fin.val_zero]; omega)
      have := hf ht
      rw [e, first_zero] at this
      exact absurd this (by decide)
    rw [hf ht, dif_neg (by omega), hp hn, heads_at]
    rfl
  · rw [hc, heads_at]

theorem soft_top (M : IVec S512x256 1) (S : FVec Ideal S512x256 .f32) (b : FVec Ideal S4x128x256 .f32) (r : Fin 512) {f : Fin 256 → EReal}
    (hf : ∀ t, k0_pay16 (F := Ideal) M S b (ix2 r t) = f t) : k0_pay17 (F := Ideal) M S b (ix2 r 0) = top f := by
  pointwise [k0_pay17]
  rw [ofBits_bot, funext hf, top]

theorem soft_weight (M : IVec S512x256 1) (S : FVec Ideal S512x256 .f32) (b : FVec Ideal S4x128x256 .f32) (r : Fin 512) {f : Fin 256 → EReal}
    (hf : ∀ t, k0_pay16 (F := Ideal) M S b (ix2 r t) = f t) (t : Fin 256) : k0_pay18 (F := Ideal) M S b (ix2 r t) = weight f t := by
  pointwise [k0_pay18]
  rw [hf, soft_top M S b r hf, weight]

theorem soft_den (M : IVec S512x256 1) (S : FVec Ideal S512x256 .f32) (b : FVec Ideal S4x128x256 .f32) (r : Fin 512) {f : Fin 256 → EReal}
    (hf : ∀ t, k0_pay16 (F := Ideal) M S b (ix2 r t) = f t) : k0_pay19 (F := Ideal) M S b (ix2 r 0) = den f := by
  pointwise [k0_pay19]
  exact Finset.sum_congr rfl fun t _ => soft_weight M S b r hf t

theorem soft_out (M : IVec S512x256 1) (S : FVec Ideal S512x256 .f32) (b : FVec Ideal S4x128x256 .f32) (r : Fin 512) (W : FVec Ideal S256x256 .bf16) {f : Fin 256 → EReal}
    (hf : ∀ t, k0_pay16 (F := Ideal) M S b (ix2 r t) = f t) (c : Fin 256) :
    k0_pay20 (F := Ideal) M W S b (ix2 r c) = ∑ t, Ideal.div (weight f t) (den f) * W (ix2 t c) := by
  pointwise [k0_pay20]
  rw [soft_den M S b r hf]
  exact Finset.sum_congr rfl fun t _ => by rw [soft_weight M S b r hf]

/-- The logits of a row of the reference. -/
def logits (H : Fin 12) (n : Fin 32) (a : Fin 128) (t : Fin 256) : EReal := val_main_v58 (F := Ideal) Q K B (ix4 H n a t)

theorem ref_top (H : Fin 12) (n : Fin 32) (a : Fin 128) : val_main_v59 (F := Ideal) Q K B (ix3 H n a) = top (logits Q K B H n a) := by
  pointwise [val_main_v59, val_main_cst_12]
  rw [ofBits_bot]
  rfl

theorem ref_weight (H : Fin 12) (n : Fin 32) (a : Fin 128) (t : Fin 256) : val_main_v63 (F := Ideal) Q K B (ix4 H n a t) = weight (logits Q K B H n a) t := by
  pointwise [val_main_v63, val_main_v62, val_main_v61, val_main_v60]
  rw [ref_top]
  rfl

theorem ref_den (H : Fin 12) (n : Fin 32) (a : Fin 128) : val_main_v64 (F := Ideal) Q K B (ix3 H n a) = den (logits Q K B H n a) := by
  pointwise [val_main_v64, val_main_cst_13]
  exact Finset.sum_congr rfl fun t _ => ref_weight Q K B H n a t

theorem ref_out (H : Fin 12) (n : Fin 32) (a : Fin 128) (d : Fin 64) :
    val_main_v68 (F := Ideal) Q K V B (ix4 H n a d)
      = ∑ t, Ideal.div (weight (logits Q K B H n a) t) (den (logits Q K B H n a)) * val_main_v28 (F := Ideal) V (ix4 H n t d) := by
  pointwise [val_main_v68, val_main_v67, val_main_v66, val_main_v65]
  rw [ref_den]
  exact Finset.sum_congr rfl fun t _ => by rw [ref_weight]

theorem ref_top' (H : Fin 12) (n : Fin 32) (a : Fin 128) : val_main_v60 (F := Ideal) Q K B (ix4 H n a 0) = top (logits Q K B H n a) := by
  pointwise [val_main_v60]
  exact ref_top Q K B H n a

theorem ref_den' (H : Fin 12) (n : Fin 32) (a : Fin 128) : val_main_v65 (F := Ideal) Q K B (ix4 H n a 0) = den (logits Q K B H n a) := by
  pointwise [val_main_v65]
  exact ref_den Q K B H n a

theorem ref_sum (H : Fin 12) (n : Fin 32) (a : Fin 128) :
    val_main_v73 (F := Ideal) Q K B (ix4 H n a 0) = val_main_v60 (F := Ideal) Q K B (ix4 H n a 0) + Ideal.log (val_main_v65 (F := Ideal) Q K B (ix4 H n a 0)) := by
  rw [val_main_v73_apply, val_main_v72_apply]
  generalize val_main_v60 (F := Ideal) Q K B (ix4 H n a 0) = z
  generalize val_main_v65 (F := Ideal) Q K B (ix4 H n a 0) = z
  simp only [Ideal.addf_def, Ideal.hostUnary_log_def]

theorem ref_lse (H : Fin 12) (n : Fin 32) (a : Fin 128) (d : Fin 64) :
    val_main_v74 (F := Ideal) Q K B (ix4 H n a d) = top (logits Q K B H n a) + Ideal.log (den (logits Q K B H n a)) := by
  rw [← ref_top' Q K B H n a, ← ref_den' Q K B H n a, ← ref_sum]
  pointwise [val_main_v74]

theorem lse_row (M D : FVec Ideal S512x1 .f32) (r : Fin 512) (c : Fin 256) : k0_pay26 (F := Ideal) M D (ix2 r c) = M (ix2 r 0) + Ideal.log (D (ix2 r 0)) := by
  pointwise [k0_pay26]

theorem masked : Named.named (F := Ideal) κ "masked" (φ := .f32) 0xF149F2CA#32 = (⊥ : EReal) := IdealRules.named_const.ideal_named_scalar _ _ _ _ rfl

theorem ref_logit (H : Fin 12) (n : Fin 32) (a : Fin 128) (t : Fin 256) :
    logits Q K B H n a t = Scalar.select (val_main_v54 (F := Ideal) (ix4 H n a t))
      ((∑ d, val_main_v31 (F := Ideal) Q (ix4 H n a d) * val_main_v19 (F := Ideal) K (ix4 H n t d)) * Ideal.ofBits .f32 0x3E000000#32 + B (ix3 H a t)) ⊥ := by
  rw [logits, ← ofBits_bot]
  pointwise [val_main_v58, val_main_v57, val_main_v56, val_main_v55, val_main_v34, val_main_v33, val_main_v32, val_main_cst_6, val_main_call2_v1, val_main_call2_v0, val_main_cst_11]
  rfl

variable (g : Fin 3) (n : Fin 32)

/-- The blocks of one grid point are those of the arrays. -/
structure Blocks : Prop where
  g_eq : (i 0).val = g.val
  n_eq : (i 1).val = n.val
  q : ∀ j a l, x0 (ix3 j a l) = Q (ix3 ⟨g.val * 2 + j.val, by omega⟩ ⟨n.val * 128 + a.val, by omega⟩ l)
  k : ∀ j a l, x1 (ix3 j a l) = K (ix3 ⟨g.val * 2 + j.val, by omega⟩ ⟨n.val * 128 + a.val, by omega⟩ l)
  kp : 1 ≤ n.val → ∀ j a l, x2 (ix3 j a l) = K (ix3 ⟨g.val * 2 + j.val, by omega⟩ ⟨(n.val - 1) * 128 + a.val, by omega⟩ l)
  v : ∀ j a l, x3 (ix3 j a l) = V (ix3 ⟨g.val * 2 + j.val, by omega⟩ ⟨n.val * 128 + a.val, by omega⟩ l)
  vp : 1 ≤ n.val → ∀ j a l, x4 (ix3 j a l) = V (ix3 ⟨g.val * 2 + j.val, by omega⟩ ⟨(n.val - 1) * 128 + a.val, by omega⟩ l)
  b : ∀ h a t, x5 (ix3 h a t) = B (ix3 (head g h) a t)

variable {i x0 x1 x2 x3 x4 x5 Q K V B g n}

theorem bit_cases : ∀ b : BitVec 1, b = 0#1 ∨ b = 1#1 := by decide

theorem first_of_unmasked {H : Fin 12} {n : Fin 32} {a : Fin 128} {t : Fin 256} (hm : val_main_v54 (F := Ideal) (ix4 H n a t) = 1#1) (ht : t.val < 128) :
    val_main_v10 (F := Ideal) (ix4 H n 0 0) = 0#1 :=
  (bit_cases _).resolve_right fun hf => by
    rw [mask_first H n a t hf ht] at hm
    exact absurd hm (by decide)

theorem logit_eq (hb : Blocks i x0 x1 x2 x3 x4 x5 Q K V B g n) (h : Fin 4) (a : Fin 128) (t : Fin 256) :
    k0_pay16 (F := Ideal) (k0_pay31 (F := Ideal) i x0 x1 x2 x3 x4 x5) (k0_pay33 (F := Ideal) i x0 x1 x2 x3 x4 x5) (View.ld x5 r0_2) (ix2 (hrow h a) t) = logits Q K B (head g h) n a t := by
  have e : k0_pay16 (F := Ideal) (k0_pay31 (F := Ideal) i x0 x1 x2 x3 x4 x5) (k0_pay33 (F := Ideal) i x0 x1 x2 x3 x4 x5) (View.ld x5 r0_2) (ix2 (hrow h a) t)
      = Scalar.select (k0_pay6 i (ix2 (hrow h a) t)) (k0_pay33 (F := Ideal) i x0 x1 x2 x3 x4 x5 (ix2 (hrow h a) t) + x5 (ix3 h a t)) (⊥ : EReal) := by
    rw [← masked]
    pointwise [k0_pay16, k0_pay31, hrow]
  rw [e, ref_logit, mask_eq i g n hb.g_eq hb.n_eq]
  rcases bit_cases (val_main_v54 (F := Ideal) (ix4 (head g h) n a t)) with hm | hm
  · rw [hm]; rfl
  · rw [k0_pay33, scores, hb.b]
    refine congrArg (fun z => Scalar.select _ (z * _ + _) _) (Finset.sum_congr rfl fun d _ => ?_)
    rw [keys_eq x1 x2 K g n hb.k hb.kp h t d (first_of_unmasked hm), q_lane, hb.q, ← heads_at Q g h n a d]
    rfl

theorem out_eq (hb : Blocks i x0 x1 x2 x3 x4 x5 Q K V B g n) (hQ : ∀ i, Reals.IsR (Q i)) (hK : ∀ i, Reals.IsR (K i)) (hB : ∀ i, Reals.IsR (B i)) (h : Fin 4) (a : Fin 128) (d : Fin 64) :
    k0_pay20 (F := Ideal) (k0_pay31 (F := Ideal) i x0 x1 x2 x3 x4 x5) (k0_pay32 (F := Ideal) i x0 x1 x2 x3 x4 x5) (k0_pay33 (F := Ideal) i x0 x1 x2 x3 x4 x5) (View.ld x5 r0_2) (ix2 (hrow h a) (lane h d))
      = val_main_v68 (F := Ideal) Q K V B (ix4 (head g h) n a d) := by
  rw [soft_out _ _ _ _ _ (logit_eq hb h a), ref_out]
  have hscore : ∀ t, Reals.IsR ((∑ d, val_main_v31 (F := Ideal) Q (ix4 (head g h) n a d) * val_main_v19 (F := Ideal) K (ix4 (head g h) n t d)) * Ideal.ofBits .f32 0x3E000000#32 + B (ix3 (head g h) a t)) := by
    intro t
    have hh : ∀ T : FVec Ideal S6x4096x128 .f32, (∀ i, Reals.IsR (T i)) → ∀ (n : Fin 32) (a : Fin 128) (d : Fin 64), Reals.IsR (val_main_v13 (F := Ideal) T (ix4 (head g h) n a d)) :=
      fun T hT n a d => heads_at T g h n a d ▸ hT _
    have hk : ∀ d, Reals.IsR (val_main_v19 (F := Ideal) K (ix4 (head g h) n t d)) := by
      intro d
      rw [prev_at]
      split
      · rcases bit_cases (val_main_v10 (F := Ideal) (ix4 (head g h) n 0 0)) with hm | hm <;> rw [hm]
        · split
          · exact Reals.isR_zero
          · exact hh K hK _ _ _
        · exact Reals.isR_zero
      · exact hh K hK _ _ _
    exact ((Reals.IsR.sum fun d _ => (hh Q hQ n a d).mul (hk d)).mul ofBits_eighth).add (hB _)
  have hden : den (logits Q K B (head g h) n a) ≠ 0 := by
    refine den_ne_zero ⟨a.val + 128, by omega⟩ ?_ fun t => ?_
    · rw [ref_logit, mask_diag]
      exact hscore _
    · rw [ref_logit]
      rcases bit_cases (val_main_v54 (F := Ideal) (ix4 (head g h) n a t)) with hm | hm <;> rw [hm]
      · exact bot_ne_top
      · obtain ⟨r, hr⟩ := hscore t
        exact hr ▸ EReal.coe_ne_top r
  refine Finset.sum_congr rfl fun t _ => ?_
  rcases bit_cases (val_main_v54 (F := Ideal) (ix4 (head g h) n a t)) with hm | hm
  · rw [weight_bot (by rw [ref_logit, hm]; rfl), div_zero_left hden, zero_mul, zero_mul]
  · exact congrArg (_ * ·) (keys_eq x3 x4 V g n hb.v hb.vp h t d (first_of_unmasked hm))

theorem lse_eq (hb : Blocks i x0 x1 x2 x3 x4 x5 Q K V B g n) (h : Fin 4) (a : Fin 128) (c : Fin 256) (d : Fin 64) :
    k0_pay37 (F := Ideal) i x0 x1 x2 x3 x4 x5 (ix2 (hrow h a) c) = val_main_v74 (F := Ideal) Q K B (ix4 (head g h) n a d) := by
  rw [k0_pay37, lse_row, k0_pay34, k0_pay35, soft_top _ _ _ _ (logit_eq hb h a), soft_den _ _ _ _ (logit_eq hb h a), ref_lse]

/-- The head, among a group's four, of a lane of one of the group's two slabs. -/
def headOf (j : Fin 2) (l : Fin 128) : Fin 4 := ⟨j.val * 2 + l.val / 64, by omega⟩

def laneOf (l : Fin 128) : Fin 64 := ⟨l.val % 64, by omega⟩

theorem ref_o (g : Fin 3) (n : Fin 32) (j : Fin 2) (a l : Fin 128) :
    val_main_v71 (F := Ideal) Q K V B (ix3 ⟨g.val * 2 + j.val, by omega⟩ ⟨n.val * 128 + a.val, by omega⟩ l)
      = val_main_v68 (F := Ideal) Q K V B (ix4 (head g (headOf j l)) n a (laneOf l)) := by
  pointwise [val_main_v71, val_main_v70, val_main_v69]
  refine congrArg (val_main_v68 (F := Ideal) Q K V B) (congr (congr (congr (congrArg ix4 (Fin.ext ?_)) (Fin.ext ?_)) (Fin.ext ?_)) (Fin.ext ?_)) <;>
    simp only [head, headOf, laneOf] <;> omega

theorem ref_slse (g : Fin 3) (n : Fin 32) (j : Fin 2) (a l : Fin 128) :
    val_main_v77 (F := Ideal) Q K B (ix3 ⟨g.val * 2 + j.val, by omega⟩ ⟨n.val * 128 + a.val, by omega⟩ l)
      = val_main_v74 (F := Ideal) Q K B (ix4 (head g (headOf j l)) n a (laneOf l)) := by
  pointwise [val_main_v77, val_main_v76, val_main_v75]
  refine congrArg (val_main_v74 (F := Ideal) Q K B) (congr (congr (congr (congrArg ix4 (Fin.ext ?_)) (Fin.ext ?_)) (Fin.ext ?_)) (Fin.ext ?_)) <;>
    simp only [head, headOf, laneOf] <;> omega

theorem rows0 (M : IVec S512x256 1) (W : FVec Ideal S256x256 .bf16) (S : FVec Ideal S512x256 .f32) (b : FVec Ideal S4x128x256 .f32) (a : Fin 128) (c : Fin 256) :
    k0_pay22 (F := Ideal) M W S b (ix2 a c) = k0_pay20 (F := Ideal) M W S b (ix2 (hrow 0 a) c) := by
  pointwise [k0_pay22]
  exact congrArg (fun z => k0_pay20 (F := Ideal) M W S b (ix2 z c)) (Fin.ext (by simp [hrow]))

theorem rows1 (M : IVec S512x256 1) (W : FVec Ideal S256x256 .bf16) (S : FVec Ideal S512x256 .f32) (b : FVec Ideal S4x128x256 .f32) (a : Fin 128) (c : Fin 256) :
    k0_pay24 (F := Ideal) M W S b (ix2 a c) = k0_pay20 (F := Ideal) M W S b (ix2 (hrow 1 a) c) := by
  pointwise [k0_pay24]
  exact congrArg (fun z => k0_pay20 (F := Ideal) M W S b (ix2 z c)) (Fin.ext (by simp [hrow]))

theorem lse_rows0 (M D : FVec Ideal S512x1 .f32) (a : Fin 128) (c : Fin 256) : k0_pay28 (F := Ideal) M D (ix2 a c) = k0_pay26 (F := Ideal) M D (ix2 (hrow 0 a) c) := by
  pointwise [k0_pay28]
  exact congrArg (fun z => k0_pay26 (F := Ideal) M D (ix2 z c)) (Fin.ext (by simp [hrow]))

theorem lse_rows1 (M D : FVec Ideal S512x1 .f32) (a : Fin 128) (c : Fin 256) : k0_pay29 (F := Ideal) M D (ix2 a c) = k0_pay26 (F := Ideal) M D (ix2 (hrow 1 a) c) := by
  pointwise [k0_pay29]
  exact congrArg (fun z => k0_pay26 (F := Ideal) M D (ix2 z c)) (Fin.ext (by simp [hrow]))

theorem o_lane (hb : Blocks i x0 x1 x2 x3 x4 x5 Q K V B g n) (hQ : ∀ i, Reals.IsR (Q i)) (hK : ∀ i, Reals.IsR (K i)) (hB : ∀ i, Reals.IsR (B i)) (j : Fin 2) (a l : Fin 128) :
    k0_pay36 (F := Ideal) i x0 x1 x2 x3 x4 x5 (ix2 a (lane (headOf j l) (laneOf l)))
      = val_main_v71 (F := Ideal) Q K V B (ix3 ⟨g.val * 2 + j.val, by omega⟩ ⟨n.val * 128 + a.val, by omega⟩ l) := by
  rw [ref_o, ← out_eq hb hQ hK hB]
  exact pick _ _ _ _ _ _ (rows0 _ _ _ _ a) (rows1 _ _ _ _ a)

theorem lse_lane (hb : Blocks i x0 x1 x2 x3 x4 x5 Q K V B g n) (j : Fin 2) (a l : Fin 128) :
    k0_pay1 (F := Ideal) (k0_pay37 (F := Ideal) i x0 x1 x2 x3 x4 x5) (k0_pay38 (F := Ideal) i x0 x1 x2 x3 x4 x5) (k0_pay39 (F := Ideal) i x0 x1 x2 x3 x4 x5) (k0_pay40 (F := Ideal) i x0 x1 x2 x3 x4 x5) (k0_pay41 (F := Ideal) i x0 x1 x2 x3 x4 x5)
        (ix2 a (lane (headOf j l) (laneOf l)))
      = val_main_v77 (F := Ideal) Q K B (ix3 ⟨g.val * 2 + j.val, by omega⟩ ⟨n.val * 128 + a.val, by omega⟩ l) := by
  rw [ref_slse, ← lse_eq hb]
  exact pick_lse _ _ _ _ _ _ (lse_rows0 _ _ a) (lse_rows1 _ _ a)

theorem tile_o (hb : Blocks i x0 x1 x2 x3 x4 x5 Q K V B g n) (hQ : ∀ i, Reals.IsR (Q i)) (hK : ∀ i, Reals.IsR (K i)) (hB : ∀ i, Reals.IsR (B i)) (j : Fin 2) (a l : Fin 128) :
    out0_6 (F := Ideal) i x0 x1 x2 x3 x4 x5 (ix3 j a l) = val_main_v71 (F := Ideal) Q K V B (ix3 ⟨g.val * 2 + j.val, by omega⟩ ⟨n.val * 128 + a.val, by omega⟩ l) := by
  rw [← o_lane hb hQ hK hB, out0_6]
  generalize k0_pay36 (F := Ideal) i x0 x1 x2 x3 x4 x5 = P
  canon_tiles y h
  all_goals
    idx_vars y
    obtain rfl : y0 = 0 := Subsingleton.elim _ _
    obtain rfl : a = y1 := Fin.ext h1
    obtain rfl : l = y2 := Fin.ext h2
    have hj : j.val = _ := h0
    simp only [Fin.val_zero] at hj
    pointwise [k0_pay4, k0_pay2]
    refine congrArg (fun z => P (ix2 a z)) (Fin.ext ?_)
    simp only [lane, headOf, laneOf]
    omega

theorem tile_lse (hb : Blocks i x0 x1 x2 x3 x4 x5 Q K V B g n) (j : Fin 2) (a l : Fin 128) :
    out0_7 (F := Ideal) i x0 x1 x2 x3 x4 x5 (ix3 j a l) = val_main_v77 (F := Ideal) Q K B (ix3 ⟨g.val * 2 + j.val, by omega⟩ ⟨n.val * 128 + a.val, by omega⟩ l) := by
  rw [← lse_lane hb, out0_7]
  generalize k0_pay37 (F := Ideal) i x0 x1 x2 x3 x4 x5 = P
  generalize k0_pay38 (F := Ideal) i x0 x1 x2 x3 x4 x5 = P1
  generalize k0_pay39 (F := Ideal) i x0 x1 x2 x3 x4 x5 = P2
  generalize k0_pay40 (F := Ideal) i x0 x1 x2 x3 x4 x5 = P3
  generalize k0_pay41 (F := Ideal) i x0 x1 x2 x3 x4 x5 = P4
  canon_tiles y h
  all_goals
    idx_vars y
    obtain rfl : y0 = 0 := Subsingleton.elim _ _
    obtain rfl : a = y1 := Fin.ext h1
    obtain rfl : l = y2 := Fin.ext h2
    have hj : j.val = _ := h0
    simp only [Fin.val_zero] at hj
    pointwise [k0_pay5, k0_pay3]
    refine congrArg (fun z => k0_pay1 (F := Ideal) P P1 P2 P3 P4 (ix2 a z)) (Fin.ext ?_)
    simp only [lane, headOf, laneOf]
    omega

end Row

/-! ## The blocks -/

variable (m : (ℓ : Loc nD τ sig) → Buf (Elt Ideal) ℓ)

abbrev aQ (c : Dev nD) : FVec Ideal S6x4096x128 .f32 := m ((c : Thread nD τ).loc main_arg0)
abbrev aK (c : Dev nD) : FVec Ideal S6x4096x128 .f32 := m ((c : Thread nD τ).loc main_arg1)
abbrev aV (c : Dev nD) : FVec Ideal S6x4096x128 .f32 := m ((c : Thread nD τ).loc main_arg2)
abbrev aB (c : Dev nD) : FVec Ideal S12x128x256 .f32 := m ((c : Thread nD τ).loc main_arg3)

theorem idx : ∀ t : Fin cfg0.N, win0_0.index t = ![t.val / 32, t.val % 32, 0] ∧ win0_1.index t = ![t.val / 32, t.val % 32, 0] ∧ win0_2.index t = ![t.val / 32, t.val % 32 - 1, 0]
    ∧ win0_3.index t = ![t.val / 32, t.val % 32, 0] ∧ win0_4.index t = ![t.val / 32, t.val % 32 - 1, 0] ∧ win0_5.index t = ![t.val / 32, 0, 0]
    ∧ win0_6.index t = ![t.val / 32, t.val % 32, 0] ∧ win0_7.index t = ![t.val / 32, t.val % 32, 0] :=
  (by decide +kernel : ∀ t : Fin grid0.N, _)

theorem coords : ∀ t : Fin cfg0.N, (grid0.coords t 0).val = t.val / 32 ∧ (grid0.coords t 1).val = t.val % 32 :=
  (by decide +kernel : ∀ t : Fin grid0.N, _)

theorem lt96 (t : Fin cfg0.N) : t.val < 96 := lt_of_lt_of_eq t.isLt (show cfg0.N = 96 from N_0)

/-- The group and the block of a grid point. -/
def grp (t : Fin cfg0.N) : Fin 3 := ⟨t.val / 32, by have := lt96 t; omega⟩
def blkn (t : Fin cfg0.N) : Fin 32 := ⟨t.val % 32, by omega⟩

theorem blocks_at (c : Dev nD) (t : Fin cfg0.N) :
    Blocks (grid0.coords t) (iblk m c 0 t) (iblk m c 1 t) (iblk m c 2 t) (iblk m c 3 t) (iblk m c 4 t) (iblk m c 5 t) (aQ m c) (aK m c) (aV m c) (aB m c) (grp t) (blkn t) where
  g_eq := (coords t).1
  n_eq := (coords t).2
  q := fun j a l => by
    unfold grp blkn
    blk_point [iblk, V, idx t]
  k := fun j a l => by
    unfold grp blkn
    blk_point [iblk, V, idx t]
  kp := fun _ j a l => by
    unfold grp blkn
    blk_point [iblk, V, idx t]
  v := fun j a l => by
    unfold grp blkn
    blk_point [iblk, V, idx t]
  vp := fun _ j a l => by
    unfold grp blkn
    blk_point [iblk, V, idx t]
  b := fun h a t' => by
    unfold grp head
    blk_point [iblk, V, idx t]

theorem final6 (c : Dev nD) (hQ : ∀ i, Reals.IsR (aQ m c i)) (hK : ∀ i, Reals.IsR (aK m c i)) (hB : ∀ i, Reals.IsR (aB m c i)) :
    (dats m 0 c).arrAt 6 cfg0.N = val_main_v71 (F := Ideal) (aQ m c) (aK m c) (aV m c) (aB m c) := by
  refine (dats m 0 c).arrAt_eq_of_covers 6 _ (by decide +kernel) fun t _ y => ?_
  blk_simp
  rw [after0_6]
  idx_vars y
  refine (tile_o (blocks_at m c t) hQ hK hB y0 y1 y2).trans ?_
  generalize val_main_v71 (F := Ideal) (aQ m c) (aK m c) (aV m c) (aB m c) = R
  unfold grp blkn
  blk_ext [idx t]

theorem final7 (c : Dev nD) : (dats m 0 c).arrAt 7 cfg0.N = val_main_v77 (F := Ideal) (aQ m c) (aK m c) (aB m c) := by
  refine (dats m 0 c).arrAt_eq_of_covers 7 _ (by decide +kernel) fun t _ y => ?_
  blk_simp
  rw [after0_7]
  idx_vars y
  refine (tile_lse (blocks_at m c t) y0 y1 y2).trans ?_
  generalize val_main_v77 (F := Ideal) (aQ m c) (aK m c) (aB m c) = R
  unfold grp blkn
  blk_ext [idx t]

end Cert.Kernel6Ideal.DilFwd
-- ==== Proof.DilFwdPair.lean ====
module

public import proofs.«01_k».proof.Defs
public import proofs.«01_k».proof.Proof.DilFwd
public import proofs.«01_k».proof.Proof.Gen.Reference6Ideal.Run
public import proofs.«01_k».proof.Proof.Gen.Pre_finite6

@[expose] public section

set_option maxRecDepth 16384

noncomputable section

open Idealize.ShloMosaic Idealize.ShloMosaic.TcCoe Idealize.SL.Sem
open Idealize.ShloMosaic.Pipeline (Dat)

namespace Cert.Kernel6Ideal.DilFwd

open Cert.Kernel6Ideal Cert.Kernel6Ideal.Gen
open Cert.Reference6Ideal.Read

variable (m : (ℓ : Loc nD τ sig) → Buf (Elt Ideal) ℓ)

/-- Under the precondition every entry of the queries, the keys and the bias is a real number. -/
theorem args_real (hp : Pre_Kernel6Ideal_finite6 m) (c : Dev nD) :
    (∀ i, Reals.IsR (aQ m c i)) ∧ (∀ i, Reals.IsR (aK m c i)) ∧ (∀ i, Reals.IsR (aB m c i)) := by
  obtain ⟨h0, h1, h2⟩ := hp c
  refine ⟨fun i => ?_, fun i => ?_, fun i => ?_⟩
  · have h := congrFun h0 i; revert h; pointwise [Cert.Pre_finite6.fn]; exact Reals.real_of_eq
  · have h := congrFun h1 i; revert h; pointwise [Cert.Pre_finite6.fn]; exact Reals.real_of_eq
  · have h := congrFun h2 i; revert h; pointwise [Cert.Pre_finite6.fn]; exact Reals.real_of_eq

/-- The constant the kernel adds to a masked logit is named, and its name's value is minus infinity. -/
theorem preserves : preserves_Kernel6_Kernel6Ideal :=
  IdealRules.named_const.statement Cert.Kernel6Ideal.κ "masked" .f32 0xF149F2CA#32 ⊥ rfl

/-- Kernel and reference agree: attention over each stream's blocks, and the logarithm of its denominator. -/
theorem algebraic : algebraic_Kernel6Ideal_Reference6Ideal_pre_finite6 := by
  pair_intro
  · run_from Cert.Kernel6Ideal.Value.run_blocks m g
  · refine (θ_run Cert.Reference6Ideal.defs _ _).mono (fun _ h c => ⟨(h c).1.trans ?_, (h c).2.1.trans ?_, (h c).2.2⟩) (Cert.Reference6Ideal.Value.run m' g')
    · obtain ⟨h0, h1, h2, h3⟩ := hagree c
      obtain ⟨hQ, hK, hB⟩ := args_real m hpre c
      rw [val_main_v71_eq, h0, h1, h2, h3]
      exact (final6 m c hQ hK hB).symm
    · obtain ⟨h0, h1, h2, h3⟩ := hagree c
      rw [val_main_v77_eq, h0, h1, h3]
      exact (final7 m c).symm

end Cert.Kernel6Ideal.DilFwd
-- ==== Proof.AttnOutPoint.lean ====
module

public import proofs.«01_k».proof.Proof.Gen.Kernel7Ideal.Value
public import proofs.«01_k».proof.Proof.Gen.Reference7Ideal.Read
public import Idealize.ShloMosaic.Lib.Pipeline.ValueKit
public import proofs.«01_k».proof.Proof.Reals

@[expose] public section

set_option maxRecDepth 16384

noncomputable section

open Idealize.ShloMosaic Idealize.ShloMosaic.TcCoe Idealize.SL.Sem
open Idealize.ShloMosaic.Pipeline (Dat)

namespace Cert.Kernel7Ideal.AttnOut

open Cert.Kernel7Ideal Cert.Kernel7Ideal.Gen
open Cert.Reference7Ideal.Read

/-! ## One element: three logarithms of denominators and three outputs -/

/-- The greatest of the three, as the kernel takes it. -/
def big (l : Fin 3 → EReal) : EReal := max (max (l 0) (l 1)) (l 2)

theorem fold_big (l : Fin 3 → EReal) : Finset.fold max ⊥ l Finset.univ = big l := by
  refine le_antisymm ?_ ?_
  · rw [Finset.fold_max_le]
    refine ⟨bot_le, fun g _ => ?_⟩
    fin_cases g
    · exact le_trans (le_max_left _ _) (le_max_left _ _)
    · exact le_trans (le_max_right _ _) (le_max_left _ _)
    · exact le_max_right _ _
  · refine max_le (max_le ?_ ?_) ?_ <;> rw [Finset.le_fold_max]
    · exact Or.inr ⟨0, Finset.mem_univ _, le_refl _⟩
    · exact Or.inr ⟨1, Finset.mem_univ _, le_refl _⟩
    · exact Or.inr ⟨2, Finset.mem_univ _, le_refl _⟩

def ex (l : Fin 3 → EReal) (g : Fin 3) : EReal := Ideal.exp (l g - big l)
def tot (l : Fin 3 → EReal) : EReal := ex l 0 + ex l 1 + ex l 2

theorem isR_max {x y : EReal} (hx : Reals.IsR x) (hy : Reals.IsR y) : Reals.IsR (max x y) := by
  rcases max_choice x y with h | h <;> rw [h] <;> assumption

theorem ex_real {l : Fin 3 → EReal} (h : ∀ g, Reals.IsR (l g)) : ∃ e : Fin 3 → ℝ, (∀ g, 0 < e g) ∧ ∀ g, ex l g = (e g : EReal) := by
  have hd : ∀ g, ∃ d : ℝ, l g - big l = (d : EReal) := fun g => by
    obtain ⟨d, hd⟩ := (h g).sub (isR_max (isR_max (h 0) (h 1)) (h 2))
    exact ⟨d, by rw [big, hd]⟩
  choose d hd using hd
  exact ⟨fun g => Real.exp (d g), fun g => Real.exp_pos _, fun g => by rw [ex, hd]; rfl⟩

/-- The sum of the weighted outputs before the division. -/
def num (l o : Fin 3 → EReal) : EReal := ex l 0 * o 0 + ex l 1 * o 1 + ex l 2 * o 2

/-- The gradient of one of the three logarithms, the greatest held fixed, as the kernel computes it. -/
def kgrad (l o : Fin 3 → EReal) (c : EReal) (g : Fin 3) : EReal :=
  (Ideal.div c (tot l) * o g + (0 - c * Ideal.div 1 (tot l * tot l) * num l o)) * ex l g

/-- The gradient of the greatest, as the kernel computes it. -/
def kbig (l o : Fin 3 → EReal) (c : EReal) : EReal := 0 - kgrad l o c 2 + (0 - kgrad l o c 1) + (0 - kgrad l o c 0)

/-- The gradient of one of the three logarithms, as the reference computes it. -/
def rgrad (l o : Fin 3 → EReal) (c : EReal) (g : Fin 3) : EReal :=
  (Ideal.div (c * o g) (tot l) + -∑ u, c * o u * Ideal.div 1 (tot l * tot l) * ex l u) * ex l g

section
variable {l o : Fin 3 → EReal} {c : EReal} (hl : ∀ g, Reals.IsR (l g)) (ho : ∀ g, Reals.IsR (o g)) (hc : Reals.IsR c)
include hl ho hc

theorem kgrad_eq (g : Fin 3) : kgrad l o c g = rgrad l o c g := by
  obtain ⟨e, he, hex⟩ := ex_real hl
  choose o' ho using ho
  obtain ⟨c', rfl⟩ := hc
  have h0 := he 0
  have h1 := he 1
  have h2 := he 2
  have hs : e 0 + e 1 + e 2 ≠ 0 := by positivity
  have hss : (e 0 + e 1 + e 2) * (e 0 + e 1 + e 2) ≠ 0 := mul_ne_zero hs hs
  rw [kgrad, rgrad, Fin.sum_univ_three]
  simp only [tot, num, hex, ho, ← EReal.coe_add, ← EReal.coe_mul, Ideal.div_coe hs, Ideal.div_coe hss]
  rw [← EReal.coe_one, ← EReal.coe_zero]
  simp only [← EReal.coe_add, ← EReal.coe_mul, ← EReal.coe_sub, ← EReal.coe_neg]
  rw [EReal.coe_eq_coe_iff]
  field_simp
  ring

theorem kbig_eq : kbig l o c = 0 := by
  obtain ⟨e, he, hex⟩ := ex_real hl
  choose o' ho using ho
  obtain ⟨c', rfl⟩ := hc
  have h0 := he 0
  have h1 := he 1
  have h2 := he 2
  have hs : e 0 + e 1 + e 2 ≠ 0 := by positivity
  have hss : (e 0 + e 1 + e 2) * (e 0 + e 1 + e 2) ≠ 0 := mul_ne_zero hs hs
  simp only [kbig, kgrad, tot, num, hex, ho, ← EReal.coe_add, ← EReal.coe_mul, Ideal.div_coe hs, Ideal.div_coe hss]
  rw [← EReal.coe_one, ← EReal.coe_zero]
  simp only [← EReal.coe_add, ← EReal.coe_mul, ← EReal.coe_sub, ← EReal.coe_neg]
  rw [EReal.coe_eq_coe_iff]
  field_simp
  ring

omit ho in
theorem weight_eq (g : Fin 3) : ex l g * Ideal.div c (tot l) = Ideal.div (ex l g) (tot l) * c := by
  obtain ⟨e, he, hex⟩ := ex_real hl
  obtain ⟨c', rfl⟩ := hc
  have h0 := he 0
  have h1 := he 1
  have h2 := he 2
  have hs : e 0 + e 1 + e 2 ≠ 0 := by positivity
  simp only [tot, hex, ← EReal.coe_add, Ideal.div_coe hs, ← EReal.coe_mul]
  rw [EReal.coe_eq_coe_iff]
  ring

omit hc in
theorem mix_eq : Ideal.div (num l o) (tot l) = ∑ g, Ideal.div (ex l g) (tot l) * o g := by
  obtain ⟨e, he, hex⟩ := ex_real hl
  choose o' ho using ho
  have h0 := he 0
  have h1 := he 1
  have h2 := he 2
  have hs : e 0 + e 1 + e 2 ≠ 0 := by positivity
  rw [Fin.sum_univ_three]
  simp only [tot, num, hex, ho, ← EReal.coe_add, ← EReal.coe_mul, Ideal.div_coe hs]
  rw [EReal.coe_eq_coe_iff]
  ring
end

/-! ## The kernel's values and the reference's at one element -/

section Row

variable (X1 : FVec Ideal S256x256 .f32) (XO XL : FVec Ideal S6x256x128 .f32) (XW : FVec Ideal S512x1024 .f32) (XD : FVec Ideal S256x1024 .f32)
variable (OA : FVec Ideal S4096x256 .f32) (O L : FVec Ideal S6x4096x128 .f32) (W : FVec Ideal S512x1024 .f32) (D : FVec Ideal S4096x1024 .f32)

/-- A group's lane among the slabs of a tile. -/
def at3 (X : FVec Ideal S6x256x128 .f32) (r c : Fin 256) (g : Fin 3) : EReal := X (ix3 ⟨g.val * 2 + c.val / 128, by omega⟩ r ⟨c.val % 128, by omega⟩)

theorem at3_split (r c : Fin 256) (g : Fin 3) (a b : Fin 6) (ha : a.val = g.val * 2) (hb : b.val = g.val * 2 + 1) :
    (if h : c.val < 128 then XL (ix3 a r ⟨c.val, h⟩) else XL (ix3 b r ⟨c.val - 128, by omega⟩)) = at3 XL r c g := by
  unfold at3
  split
  · exact congrArg XL (congrArg₂ (fun a b => ix3 a r b) (Fin.ext (by simp only; omega)) (Fin.ext (by simp only; omega)))
  · exact congrArg XL (congrArg₂ (fun a b => ix3 a r b) (Fin.ext (by simp only; omega)) (Fin.ext (by simp only; omega)))

theorem grp0 (r c : Fin 256) : k0_pay6 (F := Ideal) XL (ix2 r c) = at3 XL r c 0 := by
  refine Eq.trans ?_ (at3_split XL r c 0 0 1 rfl rfl)
  pointwise [k0_pay6]

theorem grp1 (r c : Fin 256) : k0_pay7 (F := Ideal) XL (ix2 r c) = at3 XL r c 1 := by
  refine Eq.trans ?_ (at3_split XL r c 1 2 3 rfl rfl)
  pointwise [k0_pay7]

theorem grp2 (r c : Fin 256) : k0_pay8 (F := Ideal) XL (ix2 r c) = at3 XL r c 2 := by
  refine Eq.trans ?_ (at3_split XL r c 2 4 5 rfl rfl)
  pointwise [k0_pay8]

/-- The exponentials of the three groups, their sum, the weighted sum of the outputs, and one over the sum's square, as the kernel computes them of a tile. -/
abbrev e0 : FVec Ideal S256x256 .f32 := k0_pay16 (k0_pay6 XL) (k0_pay8 XL) (k0_pay9 XL)
abbrev e1 : FVec Ideal S256x256 .f32 := k0_pay17 (k0_pay7 XL) (k0_pay8 XL) (k0_pay9 XL)
abbrev e2 : FVec Ideal S256x256 .f32 := k0_pay18 (k0_pay8 XL) (k0_pay9 XL)
abbrev sm : FVec Ideal S256x256 .f32 := k0_pay19 (k0_pay6 XL) (k0_pay7 XL) (k0_pay8 XL) (k0_pay9 XL)
abbrev nm : FVec Ideal S256x256 .f32 := k0_pay20 (k0_pay3 XO) (k0_pay4 XO) (k0_pay5 XO) (k0_pay6 XL) (k0_pay7 XL) (k0_pay8 XL) (k0_pay9 XL)
abbrev iv : FVec Ideal S256x256 .f32 := k0_pay21 (k0_pay6 XL) (k0_pay7 XL) (k0_pay8 XL) (k0_pay9 XL)

theorem e0_at (r c : Fin 256) : e0 XL (ix2 r c) = ex (at3 XL r c) 0 := by
  pointwise [k0_pay16, k0_pay13, k0_pay9]
  rw [grp0, grp1, grp2]; rfl

theorem e1_at (r c : Fin 256) : e1 XL (ix2 r c) = ex (at3 XL r c) 1 := by
  pointwise [k0_pay17, k0_pay13, k0_pay9]
  rw [grp0, grp1, grp2]; rfl

theorem e2_at (r c : Fin 256) : e2 XL (ix2 r c) = ex (at3 XL r c) 2 := by
  pointwise [k0_pay18, k0_pay13, k0_pay9]
  rw [grp0, grp1, grp2]; rfl

theorem sm_at (r c : Fin 256) : sm XL (ix2 r c) = tot (at3 XL r c) := by
  refine Eq.trans (b := e0 XL (ix2 r c) + e1 XL (ix2 r c) + e2 XL (ix2 r c)) ?_ (by rw [e0_at, e1_at, e2_at]; rfl)
  pointwise [k0_pay19]

theorem nm_at (r c : Fin 256) : nm XO XL (ix2 r c) = num (at3 XL r c) (at3 XO r c) := by
  refine Eq.trans (b := e0 XL (ix2 r c) * k0_pay6 XO (ix2 r c) + e1 XL (ix2 r c) * k0_pay7 XO (ix2 r c) + e2 XL (ix2 r c) * k0_pay8 XO (ix2 r c)) ?_
    (by rw [e0_at, e1_at, e2_at, grp0, grp1, grp2]; rfl)
  pointwise [k0_pay20]
  rfl

theorem iv_at (r c : Fin 256) : iv XL (ix2 r c) = Ideal.div 1 (tot (at3 XL r c) * tot (at3 XL r c)) := by
  rw [← sm_at]
  pointwise [k0_pay21]

section
variable (C : FVec Ideal S256x256 .f32)

theorem k_do0 (r c : Fin 256) : k0_pay31 (F := Ideal) (e0 XL) (sm XL) C (ix2 r c) = ex (at3 XL r c) 0 * Ideal.div (C (ix2 r c)) (tot (at3 XL r c)) := by
  rw [← e0_at, ← sm_at]
  pointwise [k0_pay31, k0_pay28]

theorem k_do1 (r c : Fin 256) : k0_pay30 (F := Ideal) (e1 XL) (sm XL) C (ix2 r c) = ex (at3 XL r c) 1 * Ideal.div (C (ix2 r c)) (tot (at3 XL r c)) := by
  rw [← e1_at, ← sm_at]
  pointwise [k0_pay30, k0_pay28]

theorem k_do2 (r c : Fin 256) : k0_pay29 (F := Ideal) (e2 XL) (sm XL) C (ix2 r c) = ex (at3 XL r c) 2 * Ideal.div (C (ix2 r c)) (tot (at3 XL r c)) := by
  rw [← e2_at, ← sm_at]
  pointwise [k0_pay29, k0_pay28]

abbrev q0 : FVec Ideal S256x256 .f32 := k0_pay34 (k0_pay3 XO) (e0 XL) (sm XL) (nm XO XL) (iv XL) C
abbrev q1 : FVec Ideal S256x256 .f32 := k0_pay33 (k0_pay4 XO) (e1 XL) (sm XL) (nm XO XL) (iv XL) C
abbrev q2 : FVec Ideal S256x256 .f32 := k0_pay32 (k0_pay5 XO) (e2 XL) (sm XL) (nm XO XL) (iv XL) C

theorem q0_at (r c : Fin 256) : q0 XO XL C (ix2 r c) = kgrad (at3 XL r c) (at3 XO r c) (C (ix2 r c)) 0 := by
  rw [kgrad, ← e0_at, ← sm_at, ← nm_at, sm_at, ← iv_at, ← sm_at, ← grp0]
  pointwise [k0_pay34, k0_pay28, k0_pay27]
  rfl

theorem q1_at (r c : Fin 256) : q1 XO XL C (ix2 r c) = kgrad (at3 XL r c) (at3 XO r c) (C (ix2 r c)) 1 := by
  rw [kgrad, ← e1_at, ← sm_at, ← nm_at, sm_at, ← iv_at, ← sm_at, ← grp1]
  pointwise [k0_pay33, k0_pay28, k0_pay27]
  rfl

theorem q2_at (r c : Fin 256) : q2 XO XL C (ix2 r c) = kgrad (at3 XL r c) (at3 XO r c) (C (ix2 r c)) 2 := by
  rw [kgrad, ← e2_at, ← sm_at, ← nm_at, sm_at, ← iv_at, ← sm_at, ← grp2]
  pointwise [k0_pay32, k0_pay28, k0_pay27]
  rfl

theorem z_at (r c : Fin 256) :
    k0_pay35 (F := Ideal) (k0_pay3 XO) (k0_pay4 XO) (k0_pay5 XO) (e0 XL) (e1 XL) (e2 XL) (sm XL) (nm XO XL) (iv XL) C (ix2 r c)
      = kbig (at3 XL r c) (at3 XO r c) (C (ix2 r c)) := by
  refine Eq.trans (b := 0 - q2 XO XL C (ix2 r c) + (0 - q1 XO XL C (ix2 r c)) + (0 - q0 XO XL C (ix2 r c))) ?_ (by rw [q0_at, q1_at, q2_at]; rfl)
  pointwise [k0_pay35]

end

theorem ref_grp (t : Fin 4096) (c : Fin 256) (g : Fin 3) : val_main_v2 (F := Ideal) L (ix3 g t c) = L (ix3 ⟨g.val * 2 + c.val / 128, by omega⟩ t ⟨c.val % 128, by omega⟩) := by
  pointwise [val_main_v2, val_main_v1, val_main_v0]

theorem pay42_at (u v w : FVec Ideal S256x256 .f32) (j : Fin 6) (r : Fin 256) (l : Fin 128) :
    k0_pay42 (F := Ideal) u v w (ix3 j r l)
      = (if j.val = 0 then 0 else (if j.val / 2 = 0 then w else if j.val / 2 = 1 then v else u) (ix2 r ⟨j.val % 2 * 128 + l.val, by omega⟩)) := by
  pointwise [k0_pay42]
  obtain ⟨j, hj⟩ := j
  interval_cases j <;> simp

theorem pay1_at (P : FVec Ideal S6x256x128 .f32) (w : FVec Ideal S256x256 .f32) (j : Fin 6) (r : Fin 256) (l : Fin 128) :
    k0_pay1 (F := Ideal) P (k0_pay43 w) k0_pay44 (ix3 j r l)
      = P (ix3 j r l) + if j.val = 0 then w (ix2 r ⟨l.val, by omega⟩) else 0 := by
  pointwise [k0_pay1, k0_pay43, k0_pay44]
  obtain ⟨j, hj⟩ := j
  interval_cases j <;> simp

theorem pay41_at (P : FVec Ideal S6x256x128 .f32) (w : FVec Ideal S256x256 .f32) (s : FVec Ideal S1x256x128 .f32) (j : Fin 6) (r : Fin 256) (l : Fin 128) :
    k0_pay41 (F := Ideal) w P s (FloatOps.ofBits .f32 0#32) (ix3 j r l)
      = P (ix3 j r l) + (if j.val = 2 then s (ix3 0 r l) else 0) + (if j.val = 1 then w (ix2 r ⟨128 + l.val, by omega⟩) else 0)
        + if j.val = 0 then w (ix2 r ⟨l.val, by omega⟩) else 0 := by
  pointwise [k0_pay41]
  obtain ⟨j, hj⟩ := j
  interval_cases j <;> simp

theorem slab_do (u v w : FVec Ideal S256x256 .f32) (j : Fin 6) (r : Fin 256) (l : Fin 128) :
    k0_pay1 (F := Ideal) (k0_pay42 u v w) (k0_pay43 w) k0_pay44 (ix3 j r l)
      = (if j.val / 2 = 0 then w else if j.val / 2 = 1 then v else u) (ix2 r ⟨j.val % 2 * 128 + l.val, by omega⟩) := by
  rw [pay1_at, pay42_at]
  by_cases h : j.val = 0
  · obtain rfl : j = 0 := Fin.ext h
    simp
  · rw [if_neg h, if_neg h, add_zero]

section
variable (v9 v14 v19 v42 v49 v57 v64 v66 v68 v70 v72 v77 v81 v91 : FVec Ideal S256x256 .f32)

theorem pay39_at (j : Fin 6) (r : Fin 256) (l : Fin 128) :
    k0_pay39 (F := Ideal) v9 v14 v19 v49 v57 v64 v66 v68 v70 v72 v77 v81 v91 (ix3 j r l)
      = if j.val < 3 then 0 else if j.val = 3 then k0_pay37 (F := Ideal) v9 v14 v19 v49 v57 v66 v68 v70 v72 v77 v81 v91 (ix2 r ⟨128 + l.val, by omega⟩)
        else k0_pay32 (F := Ideal) v19 v70 v72 v77 v81 v91 (ix2 r ⟨j.val % 2 * 128 + l.val, by omega⟩)
          + k0_pay35 (F := Ideal) v9 v14 v19 v66 v68 v70 v72 v77 v81 v91 (ix2 r ⟨j.val % 2 * 128 + l.val, by omega⟩) * v64 (ix2 r ⟨j.val % 2 * 128 + l.val, by omega⟩) := by
  pointwise [k0_pay39]
  obtain ⟨j, hj⟩ := j
  interval_cases j <;> simp

theorem pay40_at (r : Fin 256) (l : Fin 128) : k0_pay40 (F := Ideal) v9 v14 v19 v49 v57 v66 v68 v70 v72 v77 v81 v91 (ix3 0 r l)
    = k0_pay37 (F := Ideal) v9 v14 v19 v49 v57 v66 v68 v70 v72 v77 v81 v91 (ix2 r ⟨l.val, by omega⟩) := by
  pointwise [k0_pay40]

variable {v9 v14 v19 v42 v49 v57 v64 v66 v68 v70 v72 v77 v81 v91}
variable {r : Fin 256} (hz : ∀ c, k0_pay35 (F := Ideal) v9 v14 v19 v66 v68 v70 v72 v77 v81 v91 (ix2 r c) = 0)
include hz

theorem pay37_at (c : Fin 256) : k0_pay37 (F := Ideal) v9 v14 v19 v49 v57 v66 v68 v70 v72 v77 v81 v91 (ix2 r c) = k0_pay33 (F := Ideal) v14 v68 v72 v77 v81 v91 (ix2 r c) := by
  refine Eq.trans (b := k0_pay33 (F := Ideal) v14 v68 v72 v77 v81 v91 (ix2 r c)
    + k0_pay35 (F := Ideal) v9 v14 v19 v66 v68 v70 v72 v77 v81 v91 (ix2 r c) * v57 (ix2 r c) * v49 (ix2 r c)) ?_ (by rw [hz c, zero_mul, zero_mul, add_zero])
  pointwise [k0_pay37, k0_pay36]

theorem pay38_at (c : Fin 256) : k0_pay38 (F := Ideal) v9 v14 v19 v42 v57 v66 v68 v70 v72 v77 v81 v91 (ix2 r c) = k0_pay34 (F := Ideal) v9 v66 v72 v77 v81 v91 (ix2 r c) := by
  refine Eq.trans (b := k0_pay34 (F := Ideal) v9 v66 v72 v77 v81 v91 (ix2 r c)
    + k0_pay35 (F := Ideal) v9 v14 v19 v66 v68 v70 v72 v77 v81 v91 (ix2 r c) * v57 (ix2 r c) * v42 (ix2 r c)) ?_ (by rw [hz c, zero_mul, zero_mul, add_zero])
  pointwise [k0_pay38, k0_pay36]

theorem slab_dlse (j : Fin 6) (l : Fin 128) :
    k0_pay41 (F := Ideal) (k0_pay38 v9 v14 v19 v42 v57 v66 v68 v70 v72 v77 v81 v91) (k0_pay39 v9 v14 v19 v49 v57 v64 v66 v68 v70 v72 v77 v81 v91)
        (k0_pay40 v9 v14 v19 v49 v57 v66 v68 v70 v72 v77 v81 v91) (FloatOps.ofBits .f32 0#32) (ix3 j r l)
      = (if j.val / 2 = 0 then k0_pay34 (F := Ideal) v9 v66 v72 v77 v81 v91 else if j.val / 2 = 1 then k0_pay33 (F := Ideal) v14 v68 v72 v77 v81 v91
          else k0_pay32 (F := Ideal) v19 v70 v72 v77 v81 v91) (ix2 r ⟨j.val % 2 * 128 + l.val, by omega⟩) := by
  rw [pay41_at, pay39_at, pay40_at]
  simp only [pay37_at hz, pay38_at hz, hz, zero_mul, add_zero]
  obtain ⟨j, hj⟩ := j
  interval_cases j <;> simp
end

/-! ## The reference's values at one element -/

/-- The three groups of a row and lane, of the whole arrays. -/
def rl (X : FVec Ideal S6x4096x128 .f32) (t : Fin 4096) (c : Fin 256) (g : Fin 3) : EReal := val_main_v2 (F := Ideal) X (ix3 g t c)

theorem ofBits_bot : Ideal.ofBits .f32 0xFF800000#32 = ⊥ := by
  simp [Ideal.ofBits, Ideal.ieee]

theorem ref_max (t : Fin 4096) (c : Fin 256) : val_main_v3 (F := Ideal) L (ix2 t c) = big (rl L t c) := by
  refine Eq.trans ?_ (fold_big (rl L t c))
  unfold rl
  generalize hX : val_main_v2 (F := Ideal) L = X
  rw [← ofBits_bot]
  unfold val_main_v3
  rw [hX]
  pointwise [val_main_cst]

theorem ref_max' (t : Fin 4096) (c : Fin 256) : val_main_v10 (F := Ideal) L (ix2 t c) = big (rl L t c) := by
  rw [val_main_v10_apply, ref_max]
  generalize big (rl L t c) = z
  pointwise [val_main_v9, val_main_cst_1]
  rw [ofBits_bot, max_eq_right bot_le]

theorem ref_max3 (g : Fin 3) (t : Fin 4096) (c : Fin 256) : val_main_v21 (F := Ideal) L (ix3 g t c) = big (rl L t c) := by
  rw [← ref_max']
  unfold val_main_v21 val_main_v20
  generalize val_main_v10 (F := Ideal) L = X
  pointwise

theorem ref_ex (t : Fin 4096) (c : Fin 256) (g : Fin 3) : val_main_v23 (F := Ideal) L (ix3 g t c) = ex (rl L t c) g := by
  rw [val_main_v23_apply, val_main_v22_apply, ref_max3, ex]
  rfl

theorem ref_tot (t : Fin 4096) (c : Fin 256) : val_main_v24 (F := Ideal) L (ix2 t c) = tot (rl L t c) := by
  refine Eq.trans (b := ∑ x, val_main_v23 (F := Ideal) L (ix3 x t c)) ?_ (by rw [Fin.sum_univ_three, ref_ex, ref_ex, ref_ex]; rfl)
  pointwise [val_main_v24, val_main_cst_7]

theorem ref_do (j : Fin 6) (t : Fin 4096) (l : Fin 128) (g : Fin 3) (c : Fin 256) (hg : g.val = j.val / 2) (hc : c.val = j.val % 2 * 128 + l.val) :
    val_main_v50 (F := Ideal) L W D (ix3 j t l) = Ideal.div (ex (rl L t c) g) (tot (rl L t c)) * val_main_v44 (F := Ideal) W D (ix2 t c) := by
  have h1 : j.val / 2 < 3 := by omega
  have h2 : j.val % 2 * 128 + l.val < 256 := by omega
  obtain rfl : g = ⟨j.val / 2, h1⟩ := Fin.ext hg
  obtain rfl : c = ⟨j.val % 2 * 128 + l.val, h2⟩ := Fin.ext hc
  rw [← ref_ex, ← ref_tot]
  pointwise [val_main_v50, val_main_v49, val_main_v48, val_main_v46, val_main_v45, val_main_v27, val_main_v26, val_main_v25]

theorem ref_54 (t : Fin 4096) (c : Fin 256) : val_main_v54 (F := Ideal) O L W D (ix2 t c)
    = ∑ u, val_main_v44 (F := Ideal) W D (ix2 t c) * rl O t c u * Ideal.div 1 (tot (rl L t c) * tot (rl L t c)) * ex (rl L t c) u := by
  simp only [← ref_ex, ← ref_tot]
  pointwise [val_main_v54, val_main_v53, val_main_v52, val_main_v51, val_main_v47, val_main_v45, val_main_v30, val_main_v29, val_main_v28, val_main_v25, val_main_cst_8, val_main_cst_10]
  rfl

theorem ref_62 (g : Fin 3) (t : Fin 4096) (c : Fin 256) : val_main_v62 (F := Ideal) O L W D (ix3 g t c)
    = rgrad (rl L t c) (rl O t c) (val_main_v44 (F := Ideal) W D (ix2 t c)) g := by
  rw [rgrad, ← ref_ex, ← ref_tot, ref_tot, ← ref_54, ← ref_tot]
  pointwise [val_main_v62, val_main_v61, val_main_v60, val_main_v59, val_main_cst_11, val_main_v58, val_main_v57, val_main_v56, val_main_v55, val_main_v47, val_main_v45, val_main_v25]
  simp only [Finset.univ_unique, Finset.sum_singleton]
  rfl

theorem ref_dlse (j : Fin 6) (t : Fin 4096) (l : Fin 128) (g : Fin 3) (c : Fin 256) (hg : g.val = j.val / 2) (hc : c.val = j.val % 2 * 128 + l.val) :
    val_main_v65 (F := Ideal) O L W D (ix3 j t l) = rgrad (rl L t c) (rl O t c) (val_main_v44 (F := Ideal) W D (ix2 t c)) g := by
  have h1 : j.val / 2 < 3 := by omega
  have h2 : j.val % 2 * 128 + l.val < 256 := by omega
  obtain rfl : g = ⟨j.val / 2, h1⟩ := Fin.ext hg
  obtain rfl : c = ⟨j.val % 2 * 128 + l.val, h2⟩ := Fin.ext hc
  rw [← ref_62]
  pointwise [val_main_v65, val_main_v64, val_main_v63]

theorem ref_doa (t : Fin 4096) (c : Fin 256) : val_main_v43 (F := Ideal) W D (ix2 t c) = ∑ x, D (ix2 t x) * W (ix2 ⟨c.val, by omega⟩ x) := by
  pointwise [val_main_v43, val_main_v42, val_main_v39]

theorem ref_cb (t : Fin 4096) (c : Fin 256) : val_main_v44 (F := Ideal) W D (ix2 t c) = ∑ x, D (ix2 t x) * W (ix2 ⟨256 + c.val, by omega⟩ x) := by
  pointwise [val_main_v44, val_main_v42, val_main_v39]

theorem k_doa (r c : Fin 256) : k0_pay25 (F := Ideal) XW XD (ix2 r c) = ∑ x, XD (ix2 r x) * XW (ix2 ⟨c.val, by omega⟩ x) := by
  pointwise [k0_pay25, k0_pay23, k0_pay22]

theorem k_cb (r c : Fin 256) : k0_pay26 (F := Ideal) XW XD (ix2 r c) = ∑ x, XD (ix2 r x) * XW (ix2 ⟨256 + c.val, by omega⟩ x) := by
  pointwise [k0_pay26, k0_pay23, k0_pay22]

theorem ref_cat (t : Fin 4096) (j : Fin 512) : val_main_v36 (F := Ideal) OA O L (ix2 t j)
    = if h : j.val < 256 then OA (ix2 t ⟨j.val, h⟩)
      else ∑ g, Ideal.div (ex (rl L t ⟨j.val - 256, by omega⟩) g) (tot (rl L t ⟨j.val - 256, by omega⟩)) * rl O t ⟨j.val - 256, by omega⟩ g := by
  simp only [← ref_ex, ← ref_tot]
  pointwise [val_main_v36, val_main_v35, val_main_v34, val_main_cst_9, val_main_v27, val_main_v26, val_main_v25]
  rfl

theorem ref_dw (j : Fin 512) (k : Fin 1024) : val_main_v41 (F := Ideal) OA O L D (ix2 j k) = ∑ t, val_main_v36 (F := Ideal) OA O L (ix2 t j) * D (ix2 t k) := by
  pointwise [val_main_v41, val_main_v40, val_main_v39]
  exact Finset.sum_congr rfl fun _ _ => mul_comm _ _

/-- The rows of a tile the projection's gradient sums: the first group's output beside the mix of the others. -/
def cat (r : Fin 256) (j : Fin 512) : EReal :=
  if h : j.val < 256 then X1 (ix2 r ⟨j.val, h⟩)
  else Ideal.div (num (at3 XL r ⟨j.val - 256, by omega⟩) (at3 XO r ⟨j.val - 256, by omega⟩)) (tot (at3 XL r ⟨j.val - 256, by omega⟩))

theorem k_dw (j : Fin 512) (k : Fin 1024) :
    k0_pay24 (F := Ideal) X1 XD (k0_pay3 XO) (k0_pay4 XO) (k0_pay5 XO) (k0_pay6 XL) (k0_pay7 XL) (k0_pay8 XL) (k0_pay9 XL) (ix2 j k)
      = ∑ r, cat X1 XO XL r j * XD (ix2 r k) := by
  simp only [cat, ← nm_at, ← sm_at]
  pointwise [k0_pay24, k0_pay22]

theorem dw_step (v p : FVec Ideal S512x1024 .f32) (j : S512x1024.Idx) : k0_pay2 (F := Ideal) v p j = p j + v j := by
  idx_vars j
  pointwise [k0_pay2]

end Row
end Cert.Kernel7Ideal.AttnOut
-- ==== Proof.AttnOut.lean ====
module

public import proofs.«01_k».proof.Proof.Gen.Kernel7Ideal.Value
public import proofs.«01_k».proof.Proof.Gen.Reference7Ideal.Read
public import Idealize.ShloMosaic.Lib.Pipeline.ValueKit
public import proofs.«01_k».proof.Proof.AttnOutPoint

@[expose] public section

set_option maxRecDepth 16384

noncomputable section

open Idealize.ShloMosaic Idealize.ShloMosaic.TcCoe Idealize.SL.Sem
open Idealize.ShloMosaic.Pipeline (Dat)

namespace Cert.Kernel7Ideal.AttnOut

open Cert.Kernel7Ideal Cert.Kernel7Ideal.Gen
open Cert.Reference7Ideal.Read

/-! ## A tile of rows against the whole arrays -/

section Row

variable (X1 : FVec Ideal S256x256 .f32) (XO XL : FVec Ideal S6x256x128 .f32) (XW : FVec Ideal S512x1024 .f32) (XD : FVec Ideal S256x1024 .f32)
variable (OA : FVec Ideal S4096x256 .f32) (O L : FVec Ideal S6x4096x128 .f32) (W : FVec Ideal S512x1024 .f32) (D : FVec Ideal S4096x1024 .f32)
variable (t : Fin 4096) (r : Fin 256)

theorem at3_eq {X : FVec Ideal S6x256x128 .f32} {Y : FVec Ideal S6x4096x128 .f32} {t : Fin 4096} {r : Fin 256}
    (h : ∀ j l, X (ix3 j r l) = Y (ix3 j t l)) (c : Fin 256) : at3 X r c = rl Y t c := by
  funext g
  rw [rl, ref_grp]
  exact h _ _

theorem rl_real {Y : FVec Ideal S6x4096x128 .f32} (h : ∀ i, Reals.IsR (Y i)) (t : Fin 4096) (c : Fin 256) (g : Fin 3) : Reals.IsR (rl Y t c g) := by
  rw [rl, ref_grp]
  exact h _

theorem cb_real {W : FVec Ideal S512x1024 .f32} {D : FVec Ideal S4096x1024 .f32} (hW : ∀ i, Reals.IsR (W i)) (hD : ∀ i, Reals.IsR (D i)) (t : Fin 4096) (c : Fin 256) :
    Reals.IsR (val_main_v44 (F := Ideal) W D (ix2 t c)) := by
  rw [ref_cb]
  exact Reals.IsR.sum fun k _ => (hD _).mul (hW _)

variable (hW : ∀ j k, XW (ix2 j k) = W (ix2 j k)) (hD : ∀ k, XD (ix2 r k) = D (ix2 t k))

include hW hD in
theorem row_doa (c : Fin 256) : k0_pay25 (F := Ideal) XW XD (ix2 r c) = val_main_v43 (F := Ideal) W D (ix2 t c) := by
  rw [k_doa, ref_doa]
  exact Finset.sum_congr rfl fun k _ => congrArg₂ (· * ·) (hD k) (hW _ k)

include hW hD in
theorem row_cb (c : Fin 256) : k0_pay26 (F := Ideal) XW XD (ix2 r c) = val_main_v44 (F := Ideal) W D (ix2 t c) := by
  rw [k_cb, ref_cb]
  exact Finset.sum_congr rfl fun k _ => congrArg₂ (· * ·) (hD k) (hW _ k)

variable (hO : ∀ j l, XO (ix3 j r l) = O (ix3 j t l)) (hL : ∀ j l, XL (ix3 j r l) = L (ix3 j t l))
variable (rO : ∀ i, Reals.IsR (O i)) (rL : ∀ i, Reals.IsR (L i)) (rW : ∀ i, Reals.IsR (W i)) (rD : ∀ i, Reals.IsR (D i))

include hW hD hL rL rW rD in
theorem row_do (j : Fin 6) (l : Fin 128) :
    k0_pay1 (F := Ideal) (k0_pay42 (k0_pay29 (e2 XL) (sm XL) (k0_pay26 XW XD)) (k0_pay30 (e1 XL) (sm XL) (k0_pay26 XW XD)) (k0_pay31 (e0 XL) (sm XL) (k0_pay26 XW XD)))
        (k0_pay43 (k0_pay31 (e0 XL) (sm XL) (k0_pay26 XW XD))) k0_pay44 (ix3 j r l)
      = val_main_v50 (F := Ideal) L W D (ix3 j t l) := by
  rw [slab_do]
  have key (g : Fin 3) (c : Fin 256) (hg : g.val = j.val / 2) (hc : c.val = j.val % 2 * 128 + l.val) :
      ex (at3 XL r c) g * Ideal.div (k0_pay26 (F := Ideal) XW XD (ix2 r c)) (tot (at3 XL r c)) = val_main_v50 (F := Ideal) L W D (ix3 j t l) := by
    rw [ref_do L W D j t l g c hg hc, at3_eq hL, row_cb XW XD W D t r hW hD]
    exact weight_eq (rl_real rL t c) (cb_real rW rD t c) g
  split
  · next h => rw [k_do0]; exact key 0 _ (by simp [h]) rfl
  · split
    · next h => rw [k_do1]; exact key 1 _ (by simp [h]) rfl
    · rw [k_do2]; exact key 2 _ (by simp only [Fin.val_two]; omega) rfl

include hW hD hO hL rO rL rW rD in
theorem row_dlse (v42 v49 v57 v64 : FVec Ideal S256x256 .f32) (j : Fin 6) (l : Fin 128) :
    k0_pay41 (F := Ideal)
        (k0_pay38 (k0_pay3 XO) (k0_pay4 XO) (k0_pay5 XO) v42 v57 (e0 XL) (e1 XL) (e2 XL) (sm XL) (nm XO XL) (iv XL) (k0_pay26 XW XD))
        (k0_pay39 (k0_pay3 XO) (k0_pay4 XO) (k0_pay5 XO) v49 v57 v64 (e0 XL) (e1 XL) (e2 XL) (sm XL) (nm XO XL) (iv XL) (k0_pay26 XW XD))
        (k0_pay40 (k0_pay3 XO) (k0_pay4 XO) (k0_pay5 XO) v49 v57 (e0 XL) (e1 XL) (e2 XL) (sm XL) (nm XO XL) (iv XL) (k0_pay26 XW XD))
        (FloatOps.ofBits .f32 0#32) (ix3 j r l)
      = val_main_v65 (F := Ideal) O L W D (ix3 j t l) := by
  have eq (c : Fin 256) : k0_pay26 (F := Ideal) XW XD (ix2 r c) = val_main_v44 (F := Ideal) W D (ix2 t c) := row_cb XW XD W D t r hW hD c
  rw [slab_dlse (fun c => by
    rw [z_at, at3_eq hO, at3_eq hL, eq]
    exact kbig_eq (rl_real rL t c) (rl_real rO t c) (cb_real rW rD t c))]
  have key (g : Fin 3) (c : Fin 256) (hg : g.val = j.val / 2) (hc : c.val = j.val % 2 * 128 + l.val) :
      kgrad (at3 XL r c) (at3 XO r c) (k0_pay26 (F := Ideal) XW XD (ix2 r c)) g = val_main_v65 (F := Ideal) O L W D (ix3 j t l) := by
    rw [ref_dlse O L W D j t l g c hg hc, at3_eq hO, at3_eq hL, eq]
    exact kgrad_eq (rl_real rL t c) (rl_real rO t c) (cb_real rW rD t c) g
  split
  · next h => exact (q0_at XO XL _ r _).trans (key 0 _ (by simp [h]) rfl)
  · split
    · next h => exact (q1_at XO XL _ r _).trans (key 1 _ (by simp [h]) rfl)
    · exact (q2_at XO XL _ r _).trans (key 2 _ (by simp only [Fin.val_two]; omega) rfl)

include hO hL rO rL in
theorem row_cat (hA : ∀ k, X1 (ix2 r k) = OA (ix2 t k)) (j : Fin 512) : cat X1 XO XL r j = val_main_v36 (F := Ideal) OA O L (ix2 t j) := by
  rw [ref_cat, cat]
  split
  · exact hA _
  · rw [at3_eq hO, at3_eq hL]
    exact mix_eq (rl_real rL t _) (rl_real rO t _)

end Row

/-! ## The blocks -/

variable (m : (ℓ : Loc nD τ sig) → Buf (Elt Ideal) ℓ)

abbrev aA (c : Dev nD) : FVec Ideal S4096x256 .f32 := m ((c : Thread nD τ).loc main_arg1)
abbrev aO (c : Dev nD) : FVec Ideal S6x4096x128 .f32 := m ((c : Thread nD τ).loc main_arg2)
abbrev aL (c : Dev nD) : FVec Ideal S6x4096x128 .f32 := m ((c : Thread nD τ).loc main_arg3)
abbrev aW (c : Dev nD) : FVec Ideal S512x1024 .f32 := m ((c : Thread nD τ).loc main_arg4)
abbrev aD (c : Dev nD) : FVec Ideal S4096x1024 .f32 := m ((c : Thread nD τ).loc main_arg5)

theorem idx : ∀ t : Fin cfg0.N, win0_1.index t = ![t.val, 0] ∧ win0_2.index t = ![0, t.val, 0] ∧ win0_3.index t = ![0, t.val, 0] ∧ win0_4.index t = ![0, 0]
    ∧ win0_5.index t = ![t.val, 0] ∧ win0_6.index t = ![t.val, 0] ∧ win0_7.index t = ![t.val, 0] ∧ win0_8.index t = ![0, t.val, 0] ∧ win0_9.index t = ![0, t.val, 0]
    ∧ win0_10.index t = ![0, 0] :=
  (by decide +kernel : ∀ t : Fin grid0.N, _)

theorem lt16 (t : Fin cfg0.N) : t.val < 16 := lt_of_lt_of_eq t.isLt (show cfg0.N = 16 from N_0)

/-- The row of the sequence at row `r` of a grid point's tile. -/
def row (t : Fin cfg0.N) (r : Fin 256) : Fin 4096 := ⟨t.val * 256 + r.val, by have := lt16 t; omega⟩

theorem a_at (c : Dev nD) (t : Fin cfg0.N) (r k : Fin 256) : (iblk m c 1 t : FVec Ideal S256x256 .f32) (ix2 r k) = aA m c (ix2 (row t r) k) := by
  unfold row
  blk_point [iblk, V, idx t]

theorem o_at (c : Dev nD) (t : Fin cfg0.N) (r : Fin 256) (j : Fin 6) (l : Fin 128) : (iblk m c 2 t : FVec Ideal S6x256x128 .f32) (ix3 j r l) = aO m c (ix3 j (row t r) l) := by
  unfold row
  blk_point [iblk, V, idx t]

theorem l_at (c : Dev nD) (t : Fin cfg0.N) (r : Fin 256) (j : Fin 6) (l : Fin 128) : (iblk m c 3 t : FVec Ideal S6x256x128 .f32) (ix3 j r l) = aL m c (ix3 j (row t r) l) := by
  unfold row
  blk_point [iblk, V, idx t]

theorem w_at (c : Dev nD) (t : Fin cfg0.N) (j : Fin 512) (k : Fin 1024) : (iblk m c 4 t : FVec Ideal S512x1024 .f32) (ix2 j k) = aW m c (ix2 j k) := by
  blk_point [iblk, V, idx t]

theorem d_at (c : Dev nD) (t : Fin cfg0.N) (r : Fin 256) (k : Fin 1024) : (iblk m c 5 t : FVec Ideal S256x1024 .f32) (ix2 r k) = aD m c (ix2 (row t r) k) := by
  unfold row
  blk_point [iblk, V, idx t]

/-- The gradient handed on is the one received, on every tile. -/
theorem final6 (c : Dev nD) : (dats m 0 c).arrAt 6 cfg0.N = aD m c := by
  have tile (t : Fin cfg0.N) (y : S256x1024.Idx) : (iblk m c 5 t : FVec Ideal S256x1024 .f32) y = aD m c (((View.whole main_v0_0).slice (win0_6.rect t)).emb y) := by
    idx_vars y
    refine (d_at m c t y0 y1).trans ?_
    unfold row
    blk_ext [idx t]
  refine (dats m 0 c).arrAt_eq_of_covers 6 _ (by decide +kernel) fun t _ y => ?_
  blk_simp
  rw [after0_6]
  by_cases h0 : t.val % 16 = 0
  · rw [outsAt0_A m c t h0 (by have := lt16 t; omega)]
    frame_out
    exact tile t y
  · rw [outsAt0_B m c t h0 (by omega)]
    frame_out
    exact tile t y

theorem doa_tile (c : Dev nD) (t : Fin cfg0.N) (y : S256x256.Idx) : k0_pay25 (F := Ideal) (iblk m c 4 t) (iblk m c 5 t) y
    = val_main_v43 (F := Ideal) (aW m c) (aD m c) (((View.whole main_v0_1).slice (win0_7.rect t)).emb y) := by
  idx_vars y
  refine (row_doa _ _ _ _ (row t y0) y0 (fun j k => w_at m c t j k) (fun k => d_at m c t y0 k) y1).trans ?_
  unfold row
  generalize val_main_v43 (F := Ideal) (aW m c) (aD m c) = R
  blk_ext [idx t]

theorem final7 (c : Dev nD) : (dats m 0 c).arrAt 7 cfg0.N = val_main_v43 (F := Ideal) (aW m c) (aD m c) := by
  refine (dats m 0 c).arrAt_eq_of_covers 7 _ (by decide +kernel) fun t _ y => ?_
  blk_simp
  rw [after0_7]
  by_cases h0 : t.val % 16 = 0
  · rw [outsAt0_A m c t h0 (by have := lt16 t; omega)]
    frame_out
    exact doa_tile m c t y
  · rw [outsAt0_B m c t h0 (by omega)]
    frame_out
    exact doa_tile m c t y

section Real

variable (c : Dev nD) (rO : ∀ i, Reals.IsR (aO m c i)) (rL : ∀ i, Reals.IsR (aL m c i)) (rW : ∀ i, Reals.IsR (aW m c i)) (rD : ∀ i, Reals.IsR (aD m c i))

include rL rW rD in
theorem do_tile (t : Fin cfg0.N) (y : S6x256x128.Idx) :
    k0_pay1 (F := Ideal) (k0_pay42 (k0_pay29 (e2 (iblk m c 3 t)) (sm (iblk m c 3 t)) (k0_pay26 (iblk m c 4 t) (iblk m c 5 t)))
          (k0_pay30 (e1 (iblk m c 3 t)) (sm (iblk m c 3 t)) (k0_pay26 (iblk m c 4 t) (iblk m c 5 t)))
          (k0_pay31 (e0 (iblk m c 3 t)) (sm (iblk m c 3 t)) (k0_pay26 (iblk m c 4 t) (iblk m c 5 t))))
        (k0_pay43 (k0_pay31 (e0 (iblk m c 3 t)) (sm (iblk m c 3 t)) (k0_pay26 (iblk m c 4 t) (iblk m c 5 t)))) k0_pay44 y
      = val_main_v50 (F := Ideal) (aL m c) (aW m c) (aD m c) (((View.whole main_v0_2).slice (win0_8.rect t)).emb y) := by
  idx_vars y
  refine (row_do _ _ _ _ _ _ (row t y1) y1 (fun j k => w_at m c t j k) (fun k => d_at m c t y1 k) (fun j l => l_at m c t y1 j l) rL rW rD y0 y2).trans ?_
  unfold row
  generalize val_main_v50 (F := Ideal) (aL m c) (aW m c) (aD m c) = R
  blk_ext [idx t]

include rL rW rD in
theorem final8 : (dats m 0 c).arrAt 8 cfg0.N = val_main_v50 (F := Ideal) (aL m c) (aW m c) (aD m c) := by
  refine (dats m 0 c).arrAt_eq_of_covers 8 _ (by decide +kernel) fun t _ y => ?_
  blk_simp
  rw [after0_8]
  by_cases h0 : t.val % 16 = 0
  · rw [outsAt0_A m c t h0 (by have := lt16 t; omega)]
    frame_out
    exact do_tile m c rL rW rD t y
  · rw [outsAt0_B m c t h0 (by omega)]
    frame_out
    exact do_tile m c rL rW rD t y

include rO rL rW rD in
theorem dlse_tile (t : Fin cfg0.N) (v42 v49 v57 v64 : FVec Ideal S256x256 .f32) (y : S6x256x128.Idx) :
    k0_pay41 (F := Ideal)
        (k0_pay38 (k0_pay3 (iblk m c 2 t)) (k0_pay4 (iblk m c 2 t)) (k0_pay5 (iblk m c 2 t)) v42 v57 (e0 (iblk m c 3 t)) (e1 (iblk m c 3 t)) (e2 (iblk m c 3 t))
          (sm (iblk m c 3 t)) (nm (iblk m c 2 t) (iblk m c 3 t)) (iv (iblk m c 3 t)) (k0_pay26 (iblk m c 4 t) (iblk m c 5 t)))
        (k0_pay39 (k0_pay3 (iblk m c 2 t)) (k0_pay4 (iblk m c 2 t)) (k0_pay5 (iblk m c 2 t)) v49 v57 v64 (e0 (iblk m c 3 t)) (e1 (iblk m c 3 t)) (e2 (iblk m c 3 t))
          (sm (iblk m c 3 t)) (nm (iblk m c 2 t) (iblk m c 3 t)) (iv (iblk m c 3 t)) (k0_pay26 (iblk m c 4 t) (iblk m c 5 t)))
        (k0_pay40 (k0_pay3 (iblk m c 2 t)) (k0_pay4 (iblk m c 2 t)) (k0_pay5 (iblk m c 2 t)) v49 v57 (e0 (iblk m c 3 t)) (e1 (iblk m c 3 t)) (e2 (iblk m c 3 t))
          (sm (iblk m c 3 t)) (nm (iblk m c 2 t) (iblk m c 3 t)) (iv (iblk m c 3 t)) (k0_pay26 (iblk m c 4 t) (iblk m c 5 t)))
        (FloatOps.ofBits .f32 0#32) y
      = val_main_v65 (F := Ideal) (aO m c) (aL m c) (aW m c) (aD m c) (((View.whole main_v0_3).slice (win0_9.rect t)).emb y) := by
  idx_vars y
  refine (row_dlse _ _ _ _ _ _ _ _ (row t y1) y1 (fun j k => w_at m c t j k) (fun k => d_at m c t y1 k) (fun j l => o_at m c t y1 j l) (fun j l => l_at m c t y1 j l)
    rO rL rW rD _ _ _ _ y0 y2).trans ?_
  unfold row
  generalize val_main_v65 (F := Ideal) (aO m c) (aL m c) (aW m c) (aD m c) = R
  blk_ext [idx t]

include rO rL rW rD in
theorem final9 : (dats m 0 c).arrAt 9 cfg0.N = val_main_v65 (F := Ideal) (aO m c) (aL m c) (aW m c) (aD m c) := by
  refine (dats m 0 c).arrAt_eq_of_covers 9 _ (by decide +kernel) fun t _ y => ?_
  blk_simp
  rw [after0_9]
  by_cases h0 : t.val % 16 = 0
  · rw [outsAt0_A m c t h0 (by have := lt16 t; omega)]
    frame_out
    exact dlse_tile m c rO rL rW rD t _ _ _ _ y
  · rw [outsAt0_B m c t h0 (by omega)]
    frame_out
    exact dlse_tile m c rO rL rW rD t _ _ _ _ y

/-- What one grid point adds to the gradient of the projection, of the blocks. -/
def wPart (t : Fin cfg0.N) : FVec Ideal S512x1024 .f32 :=
  k0_pay24 (F := Ideal) (iblk m c 1 t) (iblk m c 5 t) (k0_pay3 (iblk m c 2 t)) (k0_pay4 (iblk m c 2 t)) (k0_pay5 (iblk m c 2 t))
    (k0_pay6 (iblk m c 3 t)) (k0_pay7 (iblk m c 3 t)) (k0_pay8 (iblk m c 3 t)) (k0_pay9 (iblk m c 3 t))

include rO rL in
theorem wPart_at (t : Fin cfg0.N) (j : Fin 512) (k : Fin 1024) : wPart m c t (ix2 j k)
    = ∑ r : Fin 256, val_main_v36 (F := Ideal) (aA m c) (aO m c) (aL m c) (ix2 (row t r) j) * aD m c (ix2 (row t r) k) := by
  unfold wPart
  rw [k_dw]
  exact Finset.sum_congr rfl fun r _ => congrArg₂ (· * ·)
    (row_cat _ _ _ _ _ _ (row t r) r (fun j l => o_at m c t r j l) (fun j l => l_at m c t r j l) rO rL (fun k => a_at m c t r k) j) (d_at m c t r k)

theorem row_run (t : Fin cfg0.N) (hf : t.val % 16 = 15) (s : Fin 16) (r : Fin 256) (hl : s.val * 256 + r.val < 4096) :
    row ⟨16 * (t.val / 16) + s.val, Pipeline.run_point_lt_of_flush t hf s⟩ r = ⟨s.val * 256 + r.val, hl⟩ :=
  Fin.ext (by simp only [row]; have := lt16 t; omega)

include rO rL in
theorem w_sum (t : Fin cfg0.N) (hf : t.val % 16 = 15) (y : S512x1024.Idx) :
    ∑ s : Fin 16, wPart m c ⟨16 * (t.val / 16) + s.val, Pipeline.run_point_lt_of_flush t hf s⟩ y
      = val_main_v41 (F := Ideal) (aA m c) (aO m c) (aL m c) (aD m c) ((win0_10.blk t).view.emb y) := by
  idx_vars y
  simp only [wPart_at m c rO rL]
  refine Eq.trans ?_ (Eq.trans (ref_dw (aA m c) (aO m c) (aL m c) (aD m c) y0 y1).symm ?_)
  · refine Fin.sum_mul_add_congr fun s r hl => ?_
    rw [row_run t hf s r hl]
  · generalize val_main_v41 (F := Ideal) (aA m c) (aO m c) (aL m c) (aD m c) = R
    blk_ext [idx t]

include rO rL in
theorem final10 : (dats m 0 c).arrAt 10 cfg0.N = val_main_v41 (F := Ideal) (aA m c) (aO m c) (aL m c) (aD m c) := by
  refine (dats m 0 c).arrAt_eq_of_covers 10 _ (by decide +kernel) fun t hf y => ?_
  blk_simp
  rw [after0_10, Pipeline.eq_sum_fin_of_reset_step_apply_of_flush (fun n h => (outsAt0 m c n h).2.2.2.2) 16 (fun _ => (0 : EReal)) (fun t j => (wPart m c t j : EReal))
    (fun t h j => by rw [outsAt0_A m c t h (by have := lt16 t; omega), zero_add]; frame_out; rfl)
    (fun t h j => by rw [outsAt0_B m c t h (by omega)]; frame_out; exact dw_step _ _ _)
    t ((flush0_10 t).mp hf) _, zero_add]
  exact w_sum m c rO rL t ((flush0_10 t).mp hf) y

end Real

end Cert.Kernel7Ideal.AttnOut
-- ==== Proof.AttnOutPair.lean ====
module

public import proofs.«01_k».proof.Defs
public import proofs.«01_k».proof.Proof.AttnOut
public import proofs.«01_k».proof.Proof.Gen.Reference7Ideal.Run
public import proofs.«01_k».proof.Proof.Gen.Pre_finite7

@[expose] public section

set_option maxRecDepth 16384

noncomputable section

open Idealize.ShloMosaic Idealize.ShloMosaic.TcCoe Idealize.SL.Sem
open Idealize.ShloMosaic.Pipeline (Dat)

namespace Cert.Kernel7Ideal.AttnOut

open Cert.Kernel7Ideal Cert.Kernel7Ideal.Gen
open Cert.Reference7Ideal.Read

variable (m : (ℓ : Loc nD τ sig) → Buf (Elt Ideal) ℓ)

/-- Under the precondition every entry of the outputs, the logarithms, the projection and the gradient is a real number. -/
theorem args_real (hp : Pre_Kernel7Ideal_finite7 m) (c : Dev nD) :
    (∀ i, Reals.IsR (aO m c i)) ∧ (∀ i, Reals.IsR (aL m c i)) ∧ (∀ i, Reals.IsR (aW m c i)) ∧ (∀ i, Reals.IsR (aD m c i)) := by
  obtain ⟨h0, h1, h2, h3⟩ := hp c
  refine ⟨fun i => ?_, fun i => ?_, fun i => ?_, fun i => ?_⟩
  · have h := congrFun h0 i; revert h; pointwise [Cert.Pre_finite7.fn]; exact Reals.real_of_eq
  · have h := congrFun h1 i; revert h; pointwise [Cert.Pre_finite7.fn]; exact Reals.real_of_eq
  · have h := congrFun h2 i; revert h; pointwise [Cert.Pre_finite7.fn]; exact Reals.real_of_eq
  · have h := congrFun h3 i; revert h; pointwise [Cert.Pre_finite7.fn]; exact Reals.real_of_eq

/-- Kernel and reference agree: the gradients of the projection of the mixed attention outputs. -/
theorem algebraic : algebraic_Kernel7Ideal_Reference7Ideal_pre_finite7 := by
  pair_intro
  · run_from Cert.Kernel7Ideal.Value.run_blocks m g
  · refine (θ_run Cert.Reference7Ideal.defs _ _).mono (fun _ h c => ⟨(h c).1.trans ?_, (h c).2.1.trans ?_, (h c).2.2.1.trans ?_, (h c).2.2.2.1.trans ?_, (h c).2.2.2.2.1.trans ?_, (h c).2.2.2.2.2⟩) (Cert.Reference7Ideal.Value.run m' g')
    all_goals obtain ⟨h0, h1, h2, h3, h4, h5⟩ := hagree c
    all_goals obtain ⟨rO, rL, rW, rD⟩ := args_real m hpre c
    · exact h5.trans (final6 m c).symm
    · rw [val_main_v43_eq, h4, h5]
      exact (final7 m c).symm
    · rw [val_main_v50_eq, h3, h4, h5]
      exact (final8 m c rL rW rD).symm
    · rw [val_main_v65_eq, h2, h3, h4, h5]
      exact (final9 m c rO rL rW rD).symm
    · rw [val_main_v41_eq, h1, h2, h3, h5]
      exact (final10 m c rO rL).symm

end Cert.Kernel7Ideal.AttnOut
-- ==== Proof.NormPull.lean ====
module

public import Idealize.ShloMosaic.Lib.Pipeline.ValueKit

@[expose] public section

noncomputable section

open Idealize.ShloMosaic

namespace Cert.NormPull

/-- The norm's pullback at one place of a row: the row's entries `a`, the gradient `b` times the gain, the reciprocal root `u` and its derivative's factor `v`. -/
def pull (a b : Fin 1024 → EReal) (u v : EReal) (k : Fin 1024) : EReal :=
  b k * u + a k * (Ideal.div ((∑ j, a j * b j) * v) (Ideal.ofBits .f32 0x44800000#32)) + (Ideal.div ((∑ j, a j * b j) * v) (Ideal.ofBits .f32 0x44800000#32)) * a k

end Cert.NormPull
-- ==== Proof.AttnV.lean ====
module

public import proofs.«01_k».proof.Proof.Gen.Kernel8Ideal.Value
public import proofs.«01_k».proof.Proof.Gen.Reference8Ideal.Read
public import Idealize.ShloMosaic.Lib.Pipeline.ValueKit
public import proofs.«01_k».proof.Proof.NormPull

@[expose] public section

set_option maxRecDepth 16384

noncomputable section

open Idealize.ShloMosaic Idealize.ShloMosaic.TcCoe Idealize.SL.Sem
open Idealize.ShloMosaic.Pipeline (Dat)

namespace Cert.Kernel8Ideal.AttnV

open Cert.Kernel8Ideal Cert.Kernel8Ideal.Gen
open Cert.Reference8Ideal.Read
open Cert.NormPull

/-! ## One row -/

section Row

variable (x : FVec Ideal S256x1024 .f32) (g : FVec Ideal S1x1024 .f32) (w : FVec Ideal S1024x768 .f32) (d : FVec Ideal S6x256x128 .f32) (e : FVec Ideal S256x1024 .f32)
variable (X : FVec Ideal S4096x1024 .f32) (G : FVec Ideal S1024 .f32) (W : FVec Ideal S1024x768 .f32) (D : FVec Ideal S6x4096x128 .f32) (E : FVec Ideal S4096x1024 .f32)
variable (t : Fin 4096) (r : Fin 256)

/-- One slab of 128 columns among zeros. -/
theorem pick (f : Fin 128 → EReal) (p j : ℕ) : (if h : j < 128 * p + 128 then if h' : j < 128 * p then 0 else f ⟨j - 128 * p, by omega⟩ else 0)
    = if j / 128 = p then f ⟨j % 128, Nat.mod_lt _ (by decide)⟩ else 0 := by
  by_cases h : j < 128 * p + 128
  · rw [dif_pos h]
    by_cases h' : j < 128 * p
    · rw [dif_pos h', if_neg (by omega)]
    · rw [dif_neg h', if_pos (by omega)]
      exact congrArg f (Fin.ext (show j - 128 * p = j % 128 by omega))
  · rw [dif_neg h, if_neg (by omega)]

theorem pick_first (f : Fin 128 → EReal) (j : ℕ) : (if h : j < 128 then f ⟨j, h⟩ else 0) = if j / 128 = 0 then f ⟨j % 128, Nat.mod_lt _ (by decide)⟩ else 0 := by
  by_cases h : j < 128
  · rw [dif_pos h, if_pos (by omega)]
    exact congrArg f (Fin.ext (show j = j % 128 by omega))
  · rw [dif_neg h, if_neg (by omega)]

theorem pick_last (f : Fin 128 → EReal) (j : ℕ) (hj : j < 768) : (if h : j < 640 then 0 else f ⟨j - 640, by omega⟩) = if j / 128 = 5 then f ⟨j % 128, Nat.mod_lt _ (by decide)⟩ else 0 := by
  by_cases h : j < 640
  · rw [dif_pos h, if_neg (by omega)]
  · rw [dif_neg h, if_pos (by omega)]
    exact congrArg f (Fin.ext (show j - 640 = j % 128 by omega))

/-- The gradient of the projection's result: the six slabs side by side. -/
abbrev flat : FVec Ideal S256x768 .f32 := k0_pay15 (F := Ideal) (k0_pay9 d) (k0_pay10 d) (k0_pay11 d) (k0_pay12 d) (k0_pay13 d) (FloatOps.ofBits .f32 0#32) k0_pay14

theorem ref_flat (j : Fin 768) : val_main_v20 (F := Ideal) D (ix2 t j) = D (ix3 ⟨j.val / 128, by omega⟩ t ⟨j.val % 128, by omega⟩) := by
  pointwise [val_main_v20, val_main_v19]

theorem pay13_at (j : Fin 768) : k0_pay13 (F := Ideal) d (ix2 r j) = if j.val / 128 < 4 then 0 else d (ix3 ⟨j.val / 128, by omega⟩ r ⟨j.val % 128, by omega⟩) := by
  refine Eq.trans (b := (if j.val / 128 = 5 then d (ix3 5 r ⟨j.val % 128, by omega⟩) else 0) + (if j.val / 128 = 4 then d (ix3 4 r ⟨j.val % 128, by omega⟩) else 0)) ?_ ?_
  · pointwise [k0_pay13]
    exact congrArg₂ (· + ·) (pick_last (fun l => d (ix3 5 r l)) j.val j.isLt) (pick (fun l => d (ix3 4 r l)) 4 j.val)
  · have hj : j.val / 128 < 6 := by omega
    generalize hl : (⟨j.val % 128, by omega⟩ : Fin 128) = l
    generalize hp : (⟨j.val / 128, hj⟩ : Fin 6) = p
    rw [show j.val / 128 = p.val from congrArg Fin.val hp]
    fin_cases p <;> simp

theorem pay15_at (a b c f : FVec Ideal S256x128 .f32) (q : FVec Ideal S256x768 .f32) (j : Fin 768) :
    k0_pay15 (F := Ideal) a b c f q (FloatOps.ofBits .f32 0#32) k0_pay14 (ix2 r j)
      = q (ix2 r j) + (if j.val / 128 = 3 then f (ix2 r ⟨j.val % 128, by omega⟩) else 0) + (if j.val / 128 = 2 then c (ix2 r ⟨j.val % 128, by omega⟩) else 0)
        + (if j.val / 128 = 1 then b (ix2 r ⟨j.val % 128, by omega⟩) else 0) + (if j.val / 128 = 0 then a (ix2 r ⟨j.val % 128, by omega⟩) else 0) := by
  pointwise [k0_pay15, k0_pay14]
  exact congrArg₂ (· + ·) (congrArg₂ (· + ·) (congrArg₂ (· + ·) (congrArg₂ (· + ·) rfl (pick (fun l => f (ix2 r l)) 3 j.val)) (pick (fun l => c (ix2 r l)) 2 j.val))
    (pick (fun l => b (ix2 r l)) 1 j.val)) (pick_first (fun l => a (ix2 r l)) j.val)

theorem slab0 (l : Fin 128) : k0_pay9 (F := Ideal) d (ix2 r l) = d (ix3 0 r l) := by pointwise [k0_pay9]
theorem slab1 (l : Fin 128) : k0_pay10 (F := Ideal) d (ix2 r l) = d (ix3 1 r l) := by pointwise [k0_pay10]
theorem slab2 (l : Fin 128) : k0_pay11 (F := Ideal) d (ix2 r l) = d (ix3 2 r l) := by pointwise [k0_pay11]
theorem slab3 (l : Fin 128) : k0_pay12 (F := Ideal) d (ix2 r l) = d (ix3 3 r l) := by pointwise [k0_pay12]

theorem tile_flat (hd : ∀ p l, d (ix3 p r l) = D (ix3 p t l)) (j : Fin 768) : flat d (ix2 r j) = val_main_v20 (F := Ideal) D (ix2 t j) := by
  refine Eq.trans (b := d (ix3 ⟨j.val / 128, by omega⟩ r ⟨j.val % 128, by omega⟩)) ?_ ((hd _ _).trans (ref_flat D t j).symm)
  refine (pay15_at r _ _ _ _ _ j).trans ?_
  rw [pay13_at, slab0, slab1, slab2, slab3]
  have hj : j.val / 128 < 6 := by omega
  generalize (⟨j.val % 128, by omega⟩ : Fin 128) = l
  generalize hp : (⟨j.val / 128, hj⟩ : Fin 6) = p
  rw [show j.val / 128 = p.val from congrArg Fin.val hp]
  fin_cases p <;> simp

section
variable (a b c f : FVec Ideal S256x128 .f32) (q : FVec Ideal S256x768 .f32) (z : Ideal .f32) (y : FVec Ideal S256x384 .f32)

theorem pay16_at (k : Fin 1024) : k0_pay16 (F := Ideal) w a b c f q z y (ix2 r k) = ∑ j : Fin 768, k0_pay15 (F := Ideal) a b c f q z y (ix2 r j) * w (ix2 k j) := by
  pointwise [k0_pay16]

theorem pay17_at (h : FVec Ideal S256x1024 .f32) (j : Fin 1024) (k : Fin 768) :
    k0_pay17 (F := Ideal) h a b c f q z y (ix2 j k) = ∑ r : Fin 256, h (ix2 r j) * k0_pay15 (F := Ideal) a b c f q z y (ix2 r k) := by
  pointwise [k0_pay17]

theorem pay18_at (h : FVec Ideal S256x1024 .f32) (k : Fin 1024) :
    k0_pay18 (F := Ideal) w h a b c f q z y (ix2 0 k) = ∑ r : Fin 256, h (ix2 r k) * k0_pay16 (F := Ideal) w a b c f q z y (ix2 r k) := by
  pointwise [k0_pay18]

theorem pay19_at (v2 : FVec Ideal S1x1024 .f32) (u v : FVec Ideal S256x1 .f32) (k : Fin 1024) :
    k0_pay19 (F := Ideal) x v2 w e u v a b c f q z y (ix2 r k)
      = pull (fun j => x (ix2 r j)) (fun j => k0_pay16 (F := Ideal) w a b c f q z y (ix2 r j) * v2 (ix2 0 j)) (u (ix2 r 0)) (v (ix2 r 0)) k + e (ix2 r k) := by
  unfold pull
  pointwise [k0_pay19]
  simp only [Fin.sum_univ_one]

theorem normed_at (k : Fin 1024) : k0_pay7 (F := Ideal) x (ix2 r k) = x (ix2 r k) * k0_pay5 (F := Ideal) x (ix2 r 0) := by
  pointwise [k0_pay7]

theorem scaled_at (k : Fin 1024) : k0_pay8 (F := Ideal) x g (ix2 r k) = x (ix2 r k) * k0_pay5 (F := Ideal) x (ix2 r 0) * g (ix2 0 k) := by
  pointwise [k0_pay8, k0_pay7, k0_pay3]

end

/-- The gradient at the normed input. -/
abbrev dh : FVec Ideal S256x1024 .f32 := k0_pay16 (F := Ideal) w (k0_pay9 d) (k0_pay10 d) (k0_pay11 d) (k0_pay12 d) (k0_pay13 d) (FloatOps.ofBits .f32 0#32) k0_pay14

theorem tile_dh (hw : ∀ j k, w (ix2 j k) = W (ix2 j k)) (hd : ∀ p l, d (ix3 p r l) = D (ix3 p t l)) (k : Fin 1024) :
    dh w d (ix2 r k) = val_main_v23 (F := Ideal) W D (ix2 t k) := by
  refine Eq.trans (b := ∑ j : Fin 768, flat d (ix2 r j) * w (ix2 k j)) (pay16_at w r _ _ _ _ _ _ _ k) ?_
  refine Eq.trans (b := ∑ j : Fin 768, val_main_v20 (F := Ideal) D (ix2 t j) * W (ix2 k j)) (Finset.sum_congr rfl fun j _ => congrArg₂ (· * ·) (tile_flat d D t r hd j) (hw k j)) ?_
  pointwise [val_main_v23]

theorem ref_mean : val_main_v6 (F := Ideal) X (ix2 t 0) = Ideal.div (∑ j : Fin 1024, X (ix2 t j) * X (ix2 t j)) (Ideal.ofBits .f32 0x44800000#32) + Ideal.ofBits .f32 0x358637BD#32 := by
  pointwise [val_main_v6, val_main_v5, val_main_cst_1, val_main_v4, val_main_v3, val_main_cst_0, val_main_v2, val_main_v1, val_main_cst, val_main_v0]

theorem tile_mean (hx : ∀ k, x (ix2 r k) = X (ix2 t k)) : k0_pay4 (F := Ideal) x (ix2 r 0) = val_main_v6 (F := Ideal) X (ix2 t 0) := by
  rw [ref_mean]
  pointwise [k0_pay4]
  simp only [hx]

theorem tile_root (hx : ∀ k, x (ix2 r k) = X (ix2 t k)) : k0_pay5 (F := Ideal) x (ix2 r 0) = val_main_v7 (F := Ideal) X (ix2 t 0) :=
  congrArg Ideal.rsqrt (tile_mean x X t r hx)

theorem tile_root' (hx : ∀ k, x (ix2 r k) = X (ix2 t k)) : k0_pay6 (F := Ideal) x (ix2 r 0) = val_main_v10 (F := Ideal) X (ix2 t 0) := by
  refine Eq.trans (b := Ideal.ofBits .f32 0xBF000000#32 * Ideal.div (k0_pay5 (F := Ideal) x (ix2 r 0)) (k0_pay4 (F := Ideal) x (ix2 r 0))) (by pointwise [k0_pay6]) ?_
  rw [tile_root x X t r hx, tile_mean x X t r hx]
  pointwise [val_main_v10, val_main_v9, val_main_cst_2, val_main_v8]

theorem ref_dx (k : Fin 1024) : val_main_v44 (F := Ideal) X G W D E (ix2 t k)
    = pull (fun j => X (ix2 t j)) (fun j => val_main_v23 (F := Ideal) W D (ix2 t j) * G (ix1 j)) (val_main_v7 (F := Ideal) X (ix2 t 0)) (val_main_v10 (F := Ideal) X (ix2 t 0)) k
      + E (ix2 t k) := by
  unfold pull
  pointwise [val_main_v44, val_main_v43, val_main_v42, val_main_v41, val_main_v40, val_main_v39, val_main_v38, val_main_cst_7, val_main_v37, val_main_v36, val_main_cst_6, val_main_v35, val_main_v34,
    val_main_v33, val_main_v32, val_main_v31, val_main_cst_5, val_main_v30, val_main_v28, val_main_v27, val_main_v13]
  simp only [Fin.sum_univ_one]

theorem gain_at (k : Fin 1024) : k0_pay3 (F := Ideal) g (ix2 0 k) = g (ix2 0 k) := by
  pointwise [k0_pay3]

/-- The tile of the gradient of the input. -/
abbrev dxTile : FVec Ideal S256x1024 .f32 :=
  k0_pay19 (F := Ideal) x (k0_pay3 g) w e (k0_pay5 x) (k0_pay6 x) (k0_pay9 d) (k0_pay10 d) (k0_pay11 d) (k0_pay12 d) (k0_pay13 d) (FloatOps.ofBits .f32 0#32) k0_pay14

theorem tile_dx (hx : ∀ k, x (ix2 r k) = X (ix2 t k)) (hg : ∀ k, g (ix2 0 k) = G (ix1 k)) (hw : ∀ j k, w (ix2 j k) = W (ix2 j k))
    (hd : ∀ p l, d (ix3 p r l) = D (ix3 p t l)) (he : ∀ k, e (ix2 r k) = E (ix2 t k)) (k : Fin 1024) :
    dxTile x g w d e (ix2 r k) = val_main_v44 (F := Ideal) X G W D E (ix2 t k) := by
  refine (pay19_at x w e r _ _ _ _ _ _ _ _ _ _ k).trans ?_
  rw [ref_dx, tile_root x X t r hx, tile_root' x X t r hx, he]
  simp only [hx, gain_at, hg, ← tile_dh w d W D t r hw hd]

/-- What one grid point adds to the gradient of the gain. -/
abbrev dgPart : FVec Ideal S1x1024 .f32 :=
  k0_pay18 (F := Ideal) w (k0_pay7 x) (k0_pay9 d) (k0_pay10 d) (k0_pay11 d) (k0_pay12 d) (k0_pay13 d) (FloatOps.ofBits .f32 0#32) k0_pay14

theorem pay_dg (k : Fin 1024) : dgPart x w d (ix2 0 k) = ∑ r : Fin 256, x (ix2 r k) * k0_pay5 (F := Ideal) x (ix2 r 0) * dh w d (ix2 r k) := by
  refine (pay18_at w _ _ _ _ _ _ _ _ k).trans ?_
  simp only [normed_at]

theorem ref_dg (k : Fin 1024) : val_main_v45 (F := Ideal) X W D (ix2 0 k)
    = ∑ t : Fin 4096, X (ix2 t k) * val_main_v7 (F := Ideal) X (ix2 t 0) * val_main_v23 (F := Ideal) W D (ix2 t k) := by
  pointwise [val_main_v45, val_main_v29, val_main_cst_4, val_main_v26, val_main_v25, val_main_cst_3, val_main_v24, val_main_v12, val_main_v11]
  simp only [Fin.sum_univ_one]

/-- What one grid point adds to the gradient of the projection. -/
abbrev dwPart : FVec Ideal S1024x768 .f32 :=
  k0_pay17 (F := Ideal) (k0_pay8 x g) (k0_pay9 d) (k0_pay10 d) (k0_pay11 d) (k0_pay12 d) (k0_pay13 d) (FloatOps.ofBits .f32 0#32) k0_pay14

theorem pay_dw (j : Fin 1024) (k : Fin 768) : dwPart x g d (ix2 j k) = ∑ r : Fin 256, x (ix2 r j) * k0_pay5 (F := Ideal) x (ix2 r 0) * g (ix2 0 j) * flat d (ix2 r k) := by
  refine (pay17_at _ _ _ _ _ _ _ _ j k).trans ?_
  simp only [scaled_at]

theorem ref_dw (j : Fin 1024) (k : Fin 768) : val_main_v22 (F := Ideal) X G D (ix2 j k)
    = ∑ t : Fin 4096, X (ix2 t j) * val_main_v7 (F := Ideal) X (ix2 t 0) * G (ix1 j) * val_main_v20 (F := Ideal) D (ix2 t k) := by
  pointwise [val_main_v22, val_main_v21, val_main_v15, val_main_v14, val_main_v13, val_main_v12, val_main_v11]
  exact Finset.sum_congr rfl fun _ _ => mul_comm _ _

theorem dg_step (v p : FVec Ideal S1x1024 .f32) (j : S1x1024.Idx) : k0_pay1 (F := Ideal) v p j = p j + v j := by
  idx_vars j
  obtain rfl : j0 = 0 := Subsingleton.elim _ _
  pointwise [k0_pay1]

theorem dw_step (v p : FVec Ideal S1024x768 .f32) (j : S1024x768.Idx) : k0_pay2 (F := Ideal) v p j = p j + v j := by
  idx_vars j
  pointwise [k0_pay2]

end Row

/-! ## The blocks -/

variable (m : (ℓ : Loc nD τ sig) → Buf (Elt Ideal) ℓ)

abbrev aX (c : Dev nD) : FVec Ideal S4096x1024 .f32 := m ((c : Thread nD τ).loc main_arg0)
abbrev aG (c : Dev nD) : FVec Ideal S1024 .f32 := m ((c : Thread nD τ).loc main_arg1)
abbrev aW (c : Dev nD) : FVec Ideal S1024x768 .f32 := m ((c : Thread nD τ).loc main_arg2)
abbrev aD (c : Dev nD) : FVec Ideal S6x4096x128 .f32 := m ((c : Thread nD τ).loc main_arg3)
abbrev aE (c : Dev nD) : FVec Ideal S4096x1024 .f32 := m ((c : Thread nD τ).loc main_arg4)

theorem idx : ∀ t : Fin cfg0.N, win0_0.index t = ![t.val, 0] ∧ win0_1.index t = ![0, 0] ∧ win0_2.index t = ![0, 0] ∧ win0_3.index t = ![0, t.val, 0]
    ∧ win0_4.index t = ![t.val, 0] ∧ win0_5.index t = ![t.val, 0] ∧ win0_6.index t = ![0, 0] ∧ win0_7.index t = ![0, 0] :=
  (by decide +kernel : ∀ t : Fin grid0.N, _)

theorem lt16 (t : Fin cfg0.N) : t.val < 16 := lt_of_lt_of_eq t.isLt (show cfg0.N = 16 from N_0)

/-- The row of the sequence at row `r` of a grid point's tile. -/
def row (t : Fin cfg0.N) (r : Fin 256) : Fin 4096 := ⟨t.val * 256 + r.val, by have := lt16 t; omega⟩

theorem x_at (c : Dev nD) (t : Fin cfg0.N) (r : Fin 256) (k : Fin 1024) : (iblk m c 0 t : FVec Ideal S256x1024 .f32) (ix2 r k) = aX m c (ix2 (row t r) k) := by
  unfold row
  blk_point [iblk, V, idx t]

theorem v0_at (c : Dev nD) (k : Fin 1024) : (V m c main_v0 : FVec Ideal S1x1024 .f32) (ix2 0 k) = aG m c (ix1 k) := by
  entry_read
  pointwise

theorem g_at (c : Dev nD) (t : Fin cfg0.N) (k : Fin 1024) : (iblk m c 1 t : FVec Ideal S1x1024 .f32) (ix2 0 k) = aG m c (ix1 k) := by
  refine Eq.trans (b := (V m c main_v0 : FVec Ideal S1x1024 .f32) (ix2 0 k)) ?_ (v0_at m c k)
  blk_ext [iblk, idx t]

theorem w_at (c : Dev nD) (t : Fin cfg0.N) (j : Fin 1024) (k : Fin 768) : (iblk m c 2 t : FVec Ideal S1024x768 .f32) (ix2 j k) = aW m c (ix2 j k) := by
  blk_point [iblk, V, idx t]

theorem d_at (c : Dev nD) (t : Fin cfg0.N) (p : Fin 6) (r : Fin 256) (l : Fin 128) : (iblk m c 3 t : FVec Ideal S6x256x128 .f32) (ix3 p r l) = aD m c (ix3 p (row t r) l) := by
  unfold row
  blk_point [iblk, V, idx t]

theorem e_at (c : Dev nD) (t : Fin cfg0.N) (r : Fin 256) (k : Fin 1024) : (iblk m c 4 t : FVec Ideal S256x1024 .f32) (ix2 r k) = aE m c (ix2 (row t r) k) := by
  unfold row
  blk_point [iblk, V, idx t]

theorem dx_tile (c : Dev nD) (t : Fin cfg0.N) (y : S256x1024.Idx) :
    dxTile (iblk m c 0 t) (iblk m c 1 t) (iblk m c 2 t) (iblk m c 3 t) (iblk m c 4 t) y
      = val_main_v44 (F := Ideal) (aX m c) (aG m c) (aW m c) (aD m c) (aE m c) (((View.whole main_v1_0).slice (win0_5.rect t)).emb y) := by
  idx_vars y
  refine (tile_dx _ _ _ _ _ _ _ _ _ _ (row t y0) y0 (fun k => x_at m c t y0 k) (fun k => g_at m c t k) (fun j k => w_at m c t j k) (fun p l => d_at m c t p y0 l)
    (fun k => e_at m c t y0 k) y1).trans ?_
  generalize val_main_v44 (F := Ideal) (aX m c) (aG m c) (aW m c) (aD m c) (aE m c) = R
  unfold row
  blk_ext [idx t]

theorem final5 (c : Dev nD) : (dats m 0 c).arrAt 5 cfg0.N = val_main_v44 (F := Ideal) (aX m c) (aG m c) (aW m c) (aD m c) (aE m c) := by
  refine (dats m 0 c).arrAt_eq_of_covers 5 _ (by decide +kernel) fun t _ y => ?_
  blk_simp
  rw [after0_5]
  by_cases h0 : t.val % 16 = 0
  · have h1 : ¬1 ≤ t.val := by have := lt16 t; omega
    rw [outsAt0_A m c t h0 h1 h0 h1]
    frame_out
    exact dx_tile m c t y
  · rw [outsAt0_B m c t h0 (by omega) h0 (by omega)]
    frame_out
    exact dx_tile m c t y

/-- What one grid point adds to the gradient of the gain, of the blocks. -/
def gPart (c : Dev nD) (t : Fin cfg0.N) : FVec Ideal S1x1024 .f32 := dgPart (iblk m c 0 t) (iblk m c 2 t) (iblk m c 3 t)

/-- What one grid point adds to the gradient of the projection, of the blocks. -/
def wPart (c : Dev nD) (t : Fin cfg0.N) : FVec Ideal S1024x768 .f32 := dwPart (iblk m c 0 t) (iblk m c 1 t) (iblk m c 3 t)

theorem gPart_at (c : Dev nD) (t : Fin cfg0.N) (k : Fin 1024) : gPart m c t (ix2 0 k)
    = ∑ r : Fin 256, aX m c (ix2 (row t r) k) * val_main_v7 (F := Ideal) (aX m c) (ix2 (row t r) 0) * val_main_v23 (F := Ideal) (aW m c) (aD m c) (ix2 (row t r) k) :=
  (pay_dg _ _ _ k).trans (Finset.sum_congr rfl fun r _ => congrArg₂ (· * ·) (congrArg₂ (· * ·) (x_at m c t r k) (tile_root _ _ (row t r) r fun k => x_at m c t r k))
    (tile_dh _ _ _ _ (row t r) r (fun j k => w_at m c t j k) (fun p l => d_at m c t p r l) k))

theorem wPart_at (c : Dev nD) (t : Fin cfg0.N) (j : Fin 1024) (k : Fin 768) : wPart m c t (ix2 j k)
    = ∑ r : Fin 256, aX m c (ix2 (row t r) j) * val_main_v7 (F := Ideal) (aX m c) (ix2 (row t r) 0) * aG m c (ix1 j) * val_main_v20 (F := Ideal) (aD m c) (ix2 (row t r) k) :=
  (pay_dw _ _ _ j k).trans (Finset.sum_congr rfl fun r _ => congrArg₂ (· * ·) (congrArg₂ (· * ·) (congrArg₂ (· * ·) (x_at m c t r j)
    (tile_root _ _ (row t r) r fun k => x_at m c t r k)) (g_at m c t j)) (tile_flat _ _ (row t r) r (fun p l => d_at m c t p r l) k))

theorem row_run (t : Fin cfg0.N) (hf : t.val % 16 = 15) (s : Fin 16) (r : Fin 256) (hl : s.val * 256 + r.val < 4096) :
    row ⟨16 * (t.val / 16) + s.val, Pipeline.run_point_lt_of_flush t hf s⟩ r = ⟨s.val * 256 + r.val, hl⟩ :=
  Fin.ext (by simp only [row]; have := lt16 t; omega)

theorem g_sum (c : Dev nD) (t : Fin cfg0.N) (hf : t.val % 16 = 15) (y : S1x1024.Idx) :
    ∑ s : Fin 16, gPart m c ⟨16 * (t.val / 16) + s.val, Pipeline.run_point_lt_of_flush t hf s⟩ y
      = val_main_v45 (F := Ideal) (aX m c) (aW m c) (aD m c) ((win0_6.blk t).view.emb y) := by
  idx_vars y
  obtain rfl : y0 = 0 := Subsingleton.elim _ _
  simp only [gPart_at m c]
  refine Eq.trans ?_ (Eq.trans (ref_dg (aX m c) (aW m c) (aD m c) y1).symm ?_)
  · refine Fin.sum_mul_add_congr fun s r hl => ?_
    rw [row_run t hf s r hl]
  · generalize val_main_v45 (F := Ideal) (aX m c) (aW m c) (aD m c) = R
    blk_ext [idx t]

theorem w_sum (c : Dev nD) (t : Fin cfg0.N) (hf : t.val % 16 = 15) (y : S1024x768.Idx) :
    ∑ s : Fin 16, wPart m c ⟨16 * (t.val / 16) + s.val, Pipeline.run_point_lt_of_flush t hf s⟩ y
      = val_main_v22 (F := Ideal) (aX m c) (aG m c) (aD m c) ((win0_7.blk t).view.emb y) := by
  idx_vars y
  simp only [wPart_at m c]
  refine Eq.trans ?_ (Eq.trans (ref_dw (aX m c) (aG m c) (aD m c) y0 y1).symm ?_)
  · refine Fin.sum_mul_add_congr fun s r hl => ?_
    rw [row_run t hf s r hl]
  · generalize val_main_v22 (F := Ideal) (aX m c) (aG m c) (aD m c) = R
    blk_ext [idx t]

theorem final6 (c : Dev nD) : (dats m 0 c).arrAt 6 cfg0.N = val_main_v45 (F := Ideal) (aX m c) (aW m c) (aD m c) := by
  refine (dats m 0 c).arrAt_eq_of_covers 6 _ (by decide +kernel) fun t hf y => ?_
  blk_simp
  rw [after0_6, Pipeline.eq_sum_fin_of_reset_step_apply_of_flush (fun n h => (outsAt0 m c n h).2.1) 16 (fun _ => (0 : EReal)) (fun t j => (gPart m c t j : EReal))
    (fun t h j => by have h1 : ¬1 ≤ t.val := by have := lt16 t; omega
                     rw [outsAt0_A m c t h h1 h h1, zero_add]; frame_out; rfl)
    (fun t h j => by rw [outsAt0_B m c t h (by omega) h (by omega)]; frame_out; exact dg_step _ _ _)
    t ((flush0_6 t).mp hf) _, zero_add]
  exact g_sum m c t ((flush0_6 t).mp hf) y

theorem final7 (c : Dev nD) : (dats m 0 c).arrAt 7 cfg0.N = val_main_v22 (F := Ideal) (aX m c) (aG m c) (aD m c) := by
  refine (dats m 0 c).arrAt_eq_of_covers 7 _ (by decide +kernel) fun t hf y => ?_
  blk_simp
  rw [after0_7, Pipeline.eq_sum_fin_of_reset_step_apply_of_flush (fun n h => (outsAt0 m c n h).2.2) 16 (fun _ => (0 : EReal)) (fun t j => (wPart m c t j : EReal))
    (fun t h j => by have h1 : ¬1 ≤ t.val := by have := lt16 t; omega
                     rw [outsAt0_A m c t h h1 h h1, zero_add]; frame_out; rfl)
    (fun t h j => by rw [outsAt0_B m c t h (by omega) h (by omega)]; frame_out; exact dw_step _ _ _)
    t ((flush0_7 t).mp hf) _, zero_add]
  exact w_sum m c t ((flush0_7 t).mp hf) y

end Cert.Kernel8Ideal.AttnV
-- ==== Proof.AttnVPair.lean ====
module

public import proofs.«01_k».proof.Defs
public import proofs.«01_k».proof.Proof.AttnV
public import proofs.«01_k».proof.Proof.Gen.Reference8Ideal.Run

@[expose] public section

set_option maxRecDepth 16384

noncomputable section

open Idealize.ShloMosaic Idealize.ShloMosaic.TcCoe Idealize.SL.Sem
open Idealize.ShloMosaic.Pipeline (Dat)

namespace Cert.Kernel8Ideal.AttnV

open Cert.Kernel8Ideal Cert.Kernel8Ideal.Gen
open Cert.Reference8Ideal.Read

/-- Kernel and reference agree: the gradients of the projection to the dilated heads' values. -/
theorem algebraic : algebraic_Kernel8Ideal_Reference8Ideal := by
  pair_intro
  · run_from Cert.Kernel8Ideal.Value.run_blocks m g
  · run_from Cert.Reference8Ideal.Value.run m' g'
    · obtain ⟨h0, h1, h2, h3, h4⟩ := hagree c
      rw [val_main_v44_eq, h0, h1, h2, h3, h4]
      exact (final5 m c).symm
    · exact (val_main_v45_eq _ _ _).trans (final6 m c).symm
    · exact (val_main_v22_eq _ _ _).trans (final7 m c).symm

end Cert.Kernel8Ideal.AttnV
-- ==== Proof.AttnSb.lean ====
module

public import proofs.«01_k».proof.Proof.Gen.Kernel9Ideal.Value
public import proofs.«01_k».proof.Proof.Gen.Reference9Ideal.Read
public import Idealize.ShloMosaic.Lib.Pipeline.ValueKit
public import proofs.«01_k».proof.Proof.NormPull

@[expose] public section

set_option maxRecDepth 16384

noncomputable section

open Idealize.ShloMosaic Idealize.ShloMosaic.TcCoe Idealize.SL.Sem
open Idealize.ShloMosaic.Pipeline (Dat)

namespace Cert.Kernel9Ideal.AttnSb

open Cert.Kernel9Ideal Cert.Kernel9Ideal.Gen
open Cert.Reference9Ideal.Read
open Cert.NormPull

/-! ## One row -/

section Row

variable (x : FVec Ideal S256x1024 .f32) (g : FVec Ideal S1x1024 .f32) (w : FVec Ideal S1024x768 .f32) (a b d : FVec Ideal S256x256 .f32) (e : FVec Ideal S256x1024 .f32)
variable (X : FVec Ideal S4096x1024 .f32) (G : FVec Ideal S1024 .f32) (W : FVec Ideal S1024x768 .f32) (A B D : FVec Ideal S4096x256 .f32) (E : FVec Ideal S4096x1024 .f32)
variable (t : Fin 4096) (r : Fin 256)

/-- The gradient of the projection's result: the three heads' parts side by side, each among zeros, and their sum. -/
theorem tile_flat (ha : ∀ l, a (ix2 r l) = A (ix2 t l)) (hb : ∀ l, b (ix2 r l) = B (ix2 t l)) (hd : ∀ l, d (ix2 r l) = D (ix2 t l)) (j : Fin 768) :
    k0_pay11 (F := Ideal) a b d (ix2 r j) = val_main_v20 (F := Ideal) A B D (ix2 t j) := by
  pointwise [k0_pay11, val_main_v20]
  by_cases h : j.val < 256
  · have h' : j.val < 512 := by omega
    simp only [h, h', dite_true, add_zero, zero_add, ha]
  · by_cases h' : j.val < 512
    · have h'' : j.val - 256 < 256 := by omega
      simp only [h, h', h'', dite_true, dite_false, add_zero, zero_add, hb]
    · have h'' : ¬j.val - 256 < 256 := by omega
      simp only [h, h', h'', dite_false, add_zero, hd]
      exact congrArg D (congrArg (ix2 t) (Fin.ext (show j.val - 512 = j.val - 256 - 256 by omega)))

theorem tile_dh (hw : ∀ j k, w (ix2 j k) = W (ix2 j k)) (ha : ∀ l, a (ix2 r l) = A (ix2 t l)) (hb : ∀ l, b (ix2 r l) = B (ix2 t l)) (hd : ∀ l, d (ix2 r l) = D (ix2 t l)) (k : Fin 1024) :
    k0_pay12 (F := Ideal) w a b d (ix2 r k) = val_main_v23 (F := Ideal) W A B D (ix2 t k) := by
  refine Eq.trans (b := ∑ j : Fin 768, k0_pay11 (F := Ideal) a b d (ix2 r j) * w (ix2 k j)) (by pointwise [k0_pay12]) ?_
  refine Eq.trans (b := ∑ j : Fin 768, val_main_v20 (F := Ideal) A B D (ix2 t j) * W (ix2 k j))
    (Finset.sum_congr rfl fun j _ => congrArg₂ (· * ·) (tile_flat a b d A B D t r ha hb hd j) (hw k j)) ?_
  pointwise [val_main_v23]

theorem pay3_at (v2 : FVec Ideal S1x1024 .f32) (u v : FVec Ideal S256x1 .f32) (h : FVec Ideal S256x1024 .f32) (k : Fin 1024) :
    k0_pay3 (F := Ideal) x v2 e u v h (ix2 r k)
      = pull (fun j => x (ix2 r j)) (fun j => h (ix2 r j) * v2 (ix2 0 j)) (u (ix2 r 0)) (v (ix2 r 0)) k + e (ix2 r k) := by
  unfold pull
  pointwise [k0_pay3]
  simp only [Fin.sum_univ_one]

theorem ref_mean : val_main_v6 (F := Ideal) X (ix2 t 0) = Ideal.div (∑ j : Fin 1024, X (ix2 t j) * X (ix2 t j)) (Ideal.ofBits .f32 0x44800000#32) + Ideal.ofBits .f32 0x358637BD#32 := by
  pointwise [val_main_v6, val_main_v5, val_main_cst_1, val_main_v4, val_main_v3, val_main_cst_0, val_main_v2, val_main_v1, val_main_cst, val_main_v0]

theorem tile_mean (hx : ∀ k, x (ix2 r k) = X (ix2 t k)) : k0_pay7 (F := Ideal) x (ix2 r 0) = val_main_v6 (F := Ideal) X (ix2 t 0) := by
  rw [ref_mean]
  pointwise [k0_pay7]
  simp only [hx]

theorem tile_root (hx : ∀ k, x (ix2 r k) = X (ix2 t k)) : k0_pay8 (F := Ideal) x (ix2 r 0) = val_main_v7 (F := Ideal) X (ix2 t 0) :=
  congrArg Ideal.rsqrt (tile_mean x X t r hx)

theorem tile_root' (hx : ∀ k, x (ix2 r k) = X (ix2 t k)) : k0_pay9 (F := Ideal) x (ix2 r 0) = val_main_v10 (F := Ideal) X (ix2 t 0) := by
  refine Eq.trans (b := Ideal.ofBits .f32 0xBF000000#32 * Ideal.div (k0_pay8 (F := Ideal) x (ix2 r 0)) (k0_pay7 (F := Ideal) x (ix2 r 0))) (by pointwise [k0_pay9]) ?_
  rw [tile_root x X t r hx, tile_mean x X t r hx]
  pointwise [val_main_v10, val_main_v9, val_main_cst_2, val_main_v8]

theorem ref_dx (k : Fin 1024) : val_main_v44 (F := Ideal) X G W A B D E (ix2 t k)
    = pull (fun j => X (ix2 t j)) (fun j => val_main_v23 (F := Ideal) W A B D (ix2 t j) * G (ix1 j)) (val_main_v7 (F := Ideal) X (ix2 t 0)) (val_main_v10 (F := Ideal) X (ix2 t 0)) k
      + E (ix2 t k) := by
  unfold pull
  pointwise [val_main_v44, val_main_v43, val_main_v42, val_main_v41, val_main_v40, val_main_v39, val_main_v38, val_main_cst_7, val_main_v37, val_main_v36, val_main_cst_6, val_main_v35, val_main_v34,
    val_main_v33, val_main_v32, val_main_v31, val_main_cst_5, val_main_v30, val_main_v28, val_main_v27, val_main_v13]
  simp only [Fin.sum_univ_one]

theorem gain_at (k : Fin 1024) : k0_pay6 (F := Ideal) g (ix2 0 k) = g (ix2 0 k) := by
  pointwise [k0_pay6]

/-- The tile of the gradient of the input. -/
abbrev dxTile : FVec Ideal S256x1024 .f32 := k0_pay3 (F := Ideal) x (k0_pay6 g) e (k0_pay8 x) (k0_pay9 x) (k0_pay12 w a b d)

theorem tile_dx (hx : ∀ k, x (ix2 r k) = X (ix2 t k)) (hg : ∀ k, g (ix2 0 k) = G (ix1 k)) (hw : ∀ j k, w (ix2 j k) = W (ix2 j k))
    (ha : ∀ l, a (ix2 r l) = A (ix2 t l)) (hb : ∀ l, b (ix2 r l) = B (ix2 t l)) (hd : ∀ l, d (ix2 r l) = D (ix2 t l)) (he : ∀ k, e (ix2 r k) = E (ix2 t k)) (k : Fin 1024) :
    dxTile x g w a b d e (ix2 r k) = val_main_v44 (F := Ideal) X G W A B D E (ix2 t k) := by
  refine (pay3_at x e r _ _ _ _ k).trans ?_
  rw [ref_dx, tile_root x X t r hx, tile_root' x X t r hx, he]
  simp only [hx, gain_at, hg, tile_dh w a b d W A B D t r hw ha hb hd]

/-- What one grid point adds to the gradient of the gain. -/
abbrev dgPart : FVec Ideal S1x1024 .f32 := k0_pay2 (F := Ideal) (k0_pay10 x) (k0_pay12 w a b d)

theorem pay_dg (k : Fin 1024) : dgPart x w a b d (ix2 0 k) = ∑ r : Fin 256, x (ix2 r k) * k0_pay8 (F := Ideal) x (ix2 r 0) * k0_pay12 (F := Ideal) w a b d (ix2 r k) := by
  pointwise [k0_pay2, k0_pay10]

theorem ref_dg (k : Fin 1024) : val_main_v45 (F := Ideal) X W A B D (ix2 0 k)
    = ∑ t : Fin 4096, X (ix2 t k) * val_main_v7 (F := Ideal) X (ix2 t 0) * val_main_v23 (F := Ideal) W A B D (ix2 t k) := by
  pointwise [val_main_v45, val_main_v29, val_main_cst_4, val_main_v26, val_main_v25, val_main_cst_3, val_main_v24, val_main_v12, val_main_v11]
  simp only [Fin.sum_univ_one]

/-- What one grid point adds to the gradient of the projection. -/
abbrev dwPart : FVec Ideal S1024x768 .f32 := k0_pay1 (F := Ideal) (k0_pay11 a b d) (k0_pay13 x g)

theorem pay_dw (j : Fin 1024) (k : Fin 768) : dwPart x g a b d (ix2 j k)
    = ∑ r : Fin 256, x (ix2 r j) * k0_pay8 (F := Ideal) x (ix2 r 0) * g (ix2 0 j) * k0_pay11 (F := Ideal) a b d (ix2 r k) := by
  pointwise [k0_pay1, k0_pay13, k0_pay10, k0_pay6]

theorem ref_dw (j : Fin 1024) (k : Fin 768) : val_main_v22 (F := Ideal) X G A B D (ix2 j k)
    = ∑ t : Fin 4096, X (ix2 t j) * val_main_v7 (F := Ideal) X (ix2 t 0) * G (ix1 j) * val_main_v20 (F := Ideal) A B D (ix2 t k) := by
  pointwise [val_main_v22, val_main_v21, val_main_v15, val_main_v14, val_main_v13, val_main_v12, val_main_v11]
  exact Finset.sum_congr rfl fun _ _ => mul_comm _ _

theorem dg_step (v u : FVec Ideal S256x1024 .f32) (p : FVec Ideal S1x1024 .f32) (j : S1x1024.Idx) : k0_pay4 (F := Ideal) v u p j = p j + k0_pay2 (F := Ideal) v u j := by
  idx_vars j
  obtain rfl : j0 = 0 := Subsingleton.elim _ _
  pointwise [k0_pay4]

theorem dw_step (v : FVec Ideal S256x768 .f32) (u : FVec Ideal S256x1024 .bf16) (p : FVec Ideal S1024x768 .f32) (j : S1024x768.Idx) :
    k0_pay5 (F := Ideal) v u p j = p j + k0_pay1 (F := Ideal) v u j := by
  idx_vars j
  pointwise [k0_pay5]

end Row

/-! ## The blocks -/

variable (m : (ℓ : Loc nD τ sig) → Buf (Elt Ideal) ℓ)

abbrev aX (c : Dev nD) : FVec Ideal S4096x1024 .f32 := m ((c : Thread nD τ).loc main_arg0)
abbrev aG (c : Dev nD) : FVec Ideal S1024 .f32 := m ((c : Thread nD τ).loc main_arg1)
abbrev aW (c : Dev nD) : FVec Ideal S1024x768 .f32 := m ((c : Thread nD τ).loc main_arg2)
abbrev aA (c : Dev nD) : FVec Ideal S4096x256 .f32 := m ((c : Thread nD τ).loc main_arg3)
abbrev aB (c : Dev nD) : FVec Ideal S4096x256 .f32 := m ((c : Thread nD τ).loc main_arg4)
abbrev aD (c : Dev nD) : FVec Ideal S4096x256 .f32 := m ((c : Thread nD τ).loc main_arg5)
abbrev aE (c : Dev nD) : FVec Ideal S4096x1024 .f32 := m ((c : Thread nD τ).loc main_arg6)

theorem idx : ∀ t : Fin cfg0.N, win0_0.index t = ![t.val, 0] ∧ win0_1.index t = ![0, 0] ∧ win0_2.index t = ![0, 0] ∧ win0_3.index t = ![t.val, 0]
    ∧ win0_4.index t = ![t.val, 0] ∧ win0_5.index t = ![t.val, 0] ∧ win0_6.index t = ![t.val, 0] ∧ win0_7.index t = ![t.val, 0] ∧ win0_8.index t = ![0, 0]
    ∧ win0_9.index t = ![0, 0] :=
  (by decide +kernel : ∀ t : Fin grid0.N, _)

theorem lt16 (t : Fin cfg0.N) : t.val < 16 := lt_of_lt_of_eq t.isLt (show cfg0.N = 16 from N_0)

/-- The row of the sequence at row `r` of a grid point's tile. -/
def row (t : Fin cfg0.N) (r : Fin 256) : Fin 4096 := ⟨t.val * 256 + r.val, by have := lt16 t; omega⟩

theorem x_at (c : Dev nD) (t : Fin cfg0.N) (r : Fin 256) (k : Fin 1024) : (iblk m c 0 t : FVec Ideal S256x1024 .f32) (ix2 r k) = aX m c (ix2 (row t r) k) := by
  unfold row
  blk_point [iblk, V, idx t]

theorem v0_at (c : Dev nD) (k : Fin 1024) : (V m c main_v0 : FVec Ideal S1x1024 .f32) (ix2 0 k) = aG m c (ix1 k) := by
  entry_read
  pointwise

theorem g_at (c : Dev nD) (t : Fin cfg0.N) (k : Fin 1024) : (iblk m c 1 t : FVec Ideal S1x1024 .f32) (ix2 0 k) = aG m c (ix1 k) := by
  refine Eq.trans (b := (V m c main_v0 : FVec Ideal S1x1024 .f32) (ix2 0 k)) ?_ (v0_at m c k)
  blk_ext [iblk, idx t]

theorem w_at (c : Dev nD) (t : Fin cfg0.N) (j : Fin 1024) (k : Fin 768) : (iblk m c 2 t : FVec Ideal S1024x768 .f32) (ix2 j k) = aW m c (ix2 j k) := by
  blk_point [iblk, V, idx t]

theorem a_at (c : Dev nD) (t : Fin cfg0.N) (r : Fin 256) (l : Fin 256) : (iblk m c 3 t : FVec Ideal S256x256 .f32) (ix2 r l) = aA m c (ix2 (row t r) l) := by
  unfold row
  blk_point [iblk, V, idx t]

theorem b_at (c : Dev nD) (t : Fin cfg0.N) (r : Fin 256) (l : Fin 256) : (iblk m c 4 t : FVec Ideal S256x256 .f32) (ix2 r l) = aB m c (ix2 (row t r) l) := by
  unfold row
  blk_point [iblk, V, idx t]

theorem d_at (c : Dev nD) (t : Fin cfg0.N) (r : Fin 256) (l : Fin 256) : (iblk m c 5 t : FVec Ideal S256x256 .f32) (ix2 r l) = aD m c (ix2 (row t r) l) := by
  unfold row
  blk_point [iblk, V, idx t]

theorem e_at (c : Dev nD) (t : Fin cfg0.N) (r : Fin 256) (k : Fin 1024) : (iblk m c 6 t : FVec Ideal S256x1024 .f32) (ix2 r k) = aE m c (ix2 (row t r) k) := by
  unfold row
  blk_point [iblk, V, idx t]

theorem dx_tile (c : Dev nD) (t : Fin cfg0.N) (y : S256x1024.Idx) :
    dxTile (iblk m c 0 t) (iblk m c 1 t) (iblk m c 2 t) (iblk m c 3 t) (iblk m c 4 t) (iblk m c 5 t) (iblk m c 6 t) y
      = val_main_v44 (F := Ideal) (aX m c) (aG m c) (aW m c) (aA m c) (aB m c) (aD m c) (aE m c) (((View.whole main_v1_0).slice (win0_7.rect t)).emb y) := by
  idx_vars y
  refine (tile_dx _ _ _ _ _ _ _ _ _ _ _ _ _ _ (row t y0) y0 (fun k => x_at m c t y0 k) (fun k => g_at m c t k) (fun j k => w_at m c t j k) (fun l => a_at m c t y0 l) (fun l => b_at m c t y0 l) (fun l => d_at m c t y0 l)
    (fun k => e_at m c t y0 k) y1).trans ?_
  generalize val_main_v44 (F := Ideal) (aX m c) (aG m c) (aW m c) (aA m c) (aB m c) (aD m c) (aE m c) = R
  unfold row
  blk_ext [idx t]

theorem final7 (c : Dev nD) : (dats m 0 c).arrAt 7 cfg0.N = val_main_v44 (F := Ideal) (aX m c) (aG m c) (aW m c) (aA m c) (aB m c) (aD m c) (aE m c) := by
  refine (dats m 0 c).arrAt_eq_of_covers 7 _ (by decide +kernel) fun t _ y => ?_
  blk_simp
  rw [after0_7]
  by_cases h0 : t.val % 16 = 0
  · have h1 : ¬1 ≤ t.val := by have := lt16 t; omega
    rw [outsAt0_A m c t h0 h1 h0 h1]
    frame_out
    exact dx_tile m c t y
  · rw [outsAt0_B m c t h0 (by omega) h0 (by omega)]
    frame_out
    exact dx_tile m c t y

/-- What one grid point adds to the gradient of the gain, of the blocks. -/
def gPart (c : Dev nD) (t : Fin cfg0.N) : FVec Ideal S1x1024 .f32 := dgPart (iblk m c 0 t) (iblk m c 2 t) (iblk m c 3 t) (iblk m c 4 t) (iblk m c 5 t)

/-- What one grid point adds to the gradient of the projection, of the blocks. -/
def wPart (c : Dev nD) (t : Fin cfg0.N) : FVec Ideal S1024x768 .f32 := dwPart (iblk m c 0 t) (iblk m c 1 t) (iblk m c 3 t) (iblk m c 4 t) (iblk m c 5 t)

theorem gPart_at (c : Dev nD) (t : Fin cfg0.N) (k : Fin 1024) : gPart m c t (ix2 0 k)
    = ∑ r : Fin 256, aX m c (ix2 (row t r) k) * val_main_v7 (F := Ideal) (aX m c) (ix2 (row t r) 0) * val_main_v23 (F := Ideal) (aW m c) (aA m c) (aB m c) (aD m c) (ix2 (row t r) k) :=
  (pay_dg _ _ _ _ _ k).trans (Finset.sum_congr rfl fun r _ => congrArg₂ (· * ·) (congrArg₂ (· * ·) (x_at m c t r k) (tile_root _ _ (row t r) r fun k => x_at m c t r k))
    (tile_dh _ _ _ _ _ _ _ _ (row t r) r (fun j k => w_at m c t j k) (fun l => a_at m c t r l) (fun l => b_at m c t r l) (fun l => d_at m c t r l) k))

theorem wPart_at (c : Dev nD) (t : Fin cfg0.N) (j : Fin 1024) (k : Fin 768) : wPart m c t (ix2 j k)
    = ∑ r : Fin 256, aX m c (ix2 (row t r) j) * val_main_v7 (F := Ideal) (aX m c) (ix2 (row t r) 0) * aG m c (ix1 j) * val_main_v20 (F := Ideal) (aA m c) (aB m c) (aD m c) (ix2 (row t r) k) :=
  (pay_dw _ _ _ _ _ j k).trans (Finset.sum_congr rfl fun r _ => congrArg₂ (· * ·) (congrArg₂ (· * ·) (congrArg₂ (· * ·) (x_at m c t r j)
    (tile_root _ _ (row t r) r fun k => x_at m c t r k)) (g_at m c t j)) (tile_flat _ _ _ _ _ _ (row t r) r (fun l => a_at m c t r l) (fun l => b_at m c t r l) (fun l => d_at m c t r l) k))

theorem row_run (t : Fin cfg0.N) (hf : t.val % 16 = 15) (s : Fin 16) (r : Fin 256) (hl : s.val * 256 + r.val < 4096) :
    row ⟨16 * (t.val / 16) + s.val, Pipeline.run_point_lt_of_flush t hf s⟩ r = ⟨s.val * 256 + r.val, hl⟩ :=
  Fin.ext (by simp only [row]; have := lt16 t; omega)

theorem g_sum (c : Dev nD) (t : Fin cfg0.N) (hf : t.val % 16 = 15) (y : S1x1024.Idx) :
    ∑ s : Fin 16, gPart m c ⟨16 * (t.val / 16) + s.val, Pipeline.run_point_lt_of_flush t hf s⟩ y
      = val_main_v45 (F := Ideal) (aX m c) (aW m c) (aA m c) (aB m c) (aD m c) ((win0_8.blk t).view.emb y) := by
  idx_vars y
  obtain rfl : y0 = 0 := Subsingleton.elim _ _
  simp only [gPart_at m c]
  refine Eq.trans ?_ (Eq.trans (ref_dg (aX m c) (aW m c) (aA m c) (aB m c) (aD m c) y1).symm ?_)
  · refine Fin.sum_mul_add_congr fun s r hl => ?_
    rw [row_run t hf s r hl]
  · generalize val_main_v45 (F := Ideal) (aX m c) (aW m c) (aA m c) (aB m c) (aD m c) = R
    blk_ext [idx t]

theorem w_sum (c : Dev nD) (t : Fin cfg0.N) (hf : t.val % 16 = 15) (y : S1024x768.Idx) :
    ∑ s : Fin 16, wPart m c ⟨16 * (t.val / 16) + s.val, Pipeline.run_point_lt_of_flush t hf s⟩ y
      = val_main_v22 (F := Ideal) (aX m c) (aG m c) (aA m c) (aB m c) (aD m c) ((win0_9.blk t).view.emb y) := by
  idx_vars y
  simp only [wPart_at m c]
  refine Eq.trans ?_ (Eq.trans (ref_dw (aX m c) (aG m c) (aA m c) (aB m c) (aD m c) y0 y1).symm ?_)
  · refine Fin.sum_mul_add_congr fun s r hl => ?_
    rw [row_run t hf s r hl]
  · generalize val_main_v22 (F := Ideal) (aX m c) (aG m c) (aA m c) (aB m c) (aD m c) = R
    blk_ext [idx t]

theorem final8 (c : Dev nD) : (dats m 0 c).arrAt 8 cfg0.N = val_main_v45 (F := Ideal) (aX m c) (aW m c) (aA m c) (aB m c) (aD m c) := by
  refine (dats m 0 c).arrAt_eq_of_covers 8 _ (by decide +kernel) fun t hf y => ?_
  blk_simp
  rw [after0_8, Pipeline.eq_sum_fin_of_reset_step_apply_of_flush (fun n h => (outsAt0 m c n h).2.1) 16 (fun _ => (0 : EReal)) (fun t j => (gPart m c t j : EReal))
    (fun t h j => by have h1 : ¬1 ≤ t.val := by have := lt16 t; omega
                     rw [outsAt0_A m c t h h1 h h1, zero_add]; frame_out; rfl)
    (fun t h j => by rw [outsAt0_B m c t h (by omega) h (by omega)]; frame_out; exact dg_step _ _ _ _)
    t ((flush0_8 t).mp hf) _, zero_add]
  exact g_sum m c t ((flush0_8 t).mp hf) y

theorem final9 (c : Dev nD) : (dats m 0 c).arrAt 9 cfg0.N = val_main_v22 (F := Ideal) (aX m c) (aG m c) (aA m c) (aB m c) (aD m c) := by
  refine (dats m 0 c).arrAt_eq_of_covers 9 _ (by decide +kernel) fun t hf y => ?_
  blk_simp
  rw [after0_9, Pipeline.eq_sum_fin_of_reset_step_apply_of_flush (fun n h => (outsAt0 m c n h).2.2) 16 (fun _ => (0 : EReal)) (fun t j => (wPart m c t j : EReal))
    (fun t h j => by have h1 : ¬1 ≤ t.val := by have := lt16 t; omega
                     rw [outsAt0_A m c t h h1 h h1, zero_add]; frame_out; rfl)
    (fun t h j => by rw [outsAt0_B m c t h (by omega) h (by omega)]; frame_out; exact dw_step _ _ _ _)
    t ((flush0_9 t).mp hf) _, zero_add]
  exact w_sum m c t ((flush0_9 t).mp hf) y

end Cert.Kernel9Ideal.AttnSb
-- ==== Proof.AttnSbPair.lean ====
module

public import proofs.«01_k».proof.Defs
public import proofs.«01_k».proof.Proof.AttnSb
public import proofs.«01_k».proof.Proof.Gen.Reference9Ideal.Run

@[expose] public section

set_option maxRecDepth 16384

noncomputable section

open Idealize.ShloMosaic Idealize.ShloMosaic.TcCoe Idealize.SL.Sem
open Idealize.ShloMosaic.Pipeline (Dat)

namespace Cert.Kernel9Ideal.AttnSb

open Cert.Kernel9Ideal Cert.Kernel9Ideal.Gen
open Cert.Reference9Ideal.Read

/-- Kernel and reference agree: the gradients of the projection to the stick-breaking heads' queries, keys and values. -/
theorem algebraic : algebraic_Kernel9Ideal_Reference9Ideal := by
  pair_intro
  · run_from Cert.Kernel9Ideal.Value.run_blocks m g
  · refine (θ_run Cert.Reference9Ideal.defs _ _).mono (fun _ h c => ⟨(h c).1.trans ?_, (h c).2.1.trans ?_, (h c).2.2.1.trans ?_, (h c).2.2.2⟩) (Cert.Reference9Ideal.Value.run m' g')
    all_goals obtain ⟨h0, h1, h2, h3, h4, h5, h6⟩ := hagree c
    · rw [val_main_v44_eq, h0, h1, h2, h3, h4, h5, h6]
      exact (final7 m c).symm
    · rw [val_main_v45_eq, h0, h2, h3, h4, h5]
      exact (final8 m c).symm
    · rw [val_main_v22_eq, h0, h1, h3, h4, h5]
      exact (final9 m c).symm

end Cert.Kernel9Ideal.AttnSb
-- ==== Proof.RwRkv.lean ====
module

public import proofs.«01_k».proof.Proof.Gen.Kernel10Ideal.Value
public import proofs.«01_k».proof.Proof.Gen.Reference10Ideal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel10Ideal.RwRkv

open Cert.Kernel10Ideal Cert.Kernel10Ideal.Gen
open Cert.Reference10Ideal.Read

/-! ## One row: the projection of the input mixed with its shifted copy -/

section Row

variable (h s : FVec Ideal S256x1024 .f32) (x : FVec Ideal S1x1024 .f32) (w : FVec Ideal S1024x1024 .f32)
variable (H S : FVec Ideal S4096x1024 .f32) (X : FVec Ideal S6x1024 .f32) (W : FVec Ideal S1024x1024 .f32)

theorem tile_r (t : Fin 4096) (r : Fin 256) (hh : ∀ k, h (ix2 r k) = H (ix2 t k)) (hs : ∀ k, s (ix2 r k) = S (ix2 t k)) (hx : ∀ k, x (ix2 0 k) = X (ix2 0 k))
    (hw : ∀ j k, w (ix2 j k) = W (ix2 j k)) (k : Fin 1024) : k0_pay1 (F := Ideal) h s x w (ix2 r k) = val_main_v19 (F := Ideal) H S X W (ix2 t k) := by
  pointwise [k0_pay1, val_main_v19, val_main_v6, val_main_v5, val_main_v4, val_main_v3, val_main_v2, val_main_v1, val_main_v0]
  simp only [hh, hs, hx, hw]

theorem tile_k (t : Fin 4096) (r : Fin 256) (hh : ∀ k, h (ix2 r k) = H (ix2 t k)) (hs : ∀ k, s (ix2 r k) = S (ix2 t k)) (hx : ∀ k, x (ix2 0 k) = X (ix2 2 k))
    (hw : ∀ j k, w (ix2 j k) = W (ix2 j k)) (k : Fin 1024) : k0_pay2 (F := Ideal) h s x w (ix2 r k) = val_main_v20 (F := Ideal) H S X W (ix2 t k) := by
  pointwise [k0_pay2, val_main_v20, val_main_v12, val_main_v11, val_main_v10, val_main_v9, val_main_v8, val_main_v7, val_main_v0]
  simp only [hh, hs, hx, hw]

theorem tile_v (t : Fin 4096) (r : Fin 256) (hh : ∀ k, h (ix2 r k) = H (ix2 t k)) (hs : ∀ k, s (ix2 r k) = S (ix2 t k)) (hx : ∀ k, x (ix2 0 k) = X (ix2 3 k))
    (hw : ∀ j k, w (ix2 j k) = W (ix2 j k)) (k : Fin 1024) : k0_pay3 (F := Ideal) h s x w (ix2 r k) = val_main_v21 (F := Ideal) H S X W (ix2 t k) := by
  pointwise [k0_pay3, val_main_v21, val_main_v18, val_main_v17, val_main_v16, val_main_v15, val_main_v14, val_main_v13, val_main_v0]
  simp only [hh, hs, hx, hw]

end Row

/-! ## The blocks -/

variable (m : (ℓ : Loc nD τ sig) → Buf (Elt Ideal) ℓ)

abbrev aH (c : Dev nD) : FVec Ideal S4096x1024 .f32 := m ((c : Thread nD τ).loc main_arg0)
abbrev aS (c : Dev nD) : FVec Ideal S4096x1024 .f32 := m ((c : Thread nD τ).loc main_arg1)
abbrev aX (c : Dev nD) : FVec Ideal S6x1024 .f32 := m ((c : Thread nD τ).loc main_arg2)
abbrev aWr (c : Dev nD) : FVec Ideal S1024x1024 .f32 := m ((c : Thread nD τ).loc main_arg3)
abbrev aWk (c : Dev nD) : FVec Ideal S1024x1024 .f32 := m ((c : Thread nD τ).loc main_arg4)
abbrev aWv (c : Dev nD) : FVec Ideal S1024x1024 .f32 := m ((c : Thread nD τ).loc main_arg5)

theorem idx : ∀ t : Fin cfg0.N, win0_0.index t = ![t.val, 0] ∧ win0_1.index t = ![t.val, 0] ∧ win0_2.index t = ![0, 0] ∧ win0_3.index t = ![0, 0] ∧ win0_4.index t = ![0, 0]
    ∧ win0_5.index t = ![0, 0] ∧ win0_6.index t = ![0, 0] ∧ win0_7.index t = ![0, 0] ∧ win0_8.index t = ![t.val, 0] ∧ win0_9.index t = ![t.val, 0] ∧ win0_10.index t = ![t.val, 0] :=
  (by decide +kernel : ∀ t : Fin grid0.N, _)

/-- The row of the sequence at row `r` of a grid point's tile. -/
def row (t : Fin cfg0.N) (r : Fin 256) : Fin 4096 := ⟨t.val * 256 + r.val, by have := lt_of_lt_of_eq t.isLt (show cfg0.N = 16 from N_0); omega⟩

theorem h_at (c : Dev nD) (t : Fin cfg0.N) (r : Fin 256) (k : Fin 1024) : (iblk m c 0 t : FVec Ideal S256x1024 .f32) (ix2 r k) = aH m c (ix2 (row t r) k) := by
  unfold row
  blk_point [iblk, V, idx t]

theorem s_at (c : Dev nD) (t : Fin cfg0.N) (r : Fin 256) (k : Fin 1024) : (iblk m c 1 t : FVec Ideal S256x1024 .f32) (ix2 r k) = aS m c (ix2 (row t r) k) := by
  unfold row
  blk_point [iblk, V, idx t]

theorem xr_at (c : Dev nD) (t : Fin cfg0.N) (k : Fin 1024) : (iblk m c 2 t : FVec Ideal S1x1024 .f32) (ix2 0 k) = aX m c (ix2 0 k) := by
  refine Eq.trans (b := (V m c main_v0 : FVec Ideal S1x1024 .f32) (ix2 0 k)) (by blk_ext [iblk, idx t]) ?_
  entry_read
  pointwise

theorem wr_at (c : Dev nD) (t : Fin cfg0.N) (j k : Fin 1024) : (iblk m c 5 t : FVec Ideal S1024x1024 .f32) (ix2 j k) = aWr m c (ix2 j k) := by
  blk_point [iblk, V, idx t]

theorem final8 (c : Dev nD) : (dats m 0 c).arrAt 8 cfg0.N = val_main_v19 (F := Ideal) (aH m c) (aS m c) (aX m c) (aWr m c) := by
  refine (dats m 0 c).arrAt_eq_of_covers 8 _ (by decide +kernel) fun t _ y => ?_
  blk_simp
  rw [after0_8]
  idx_vars y
  unfold out0_8
  frame_out
  refine (tile_r _ _ _ _ _ _ _ _ (row t y0) y0 (fun k => h_at m c t y0 k) (fun k => s_at m c t y0 k) (fun k => xr_at m c t k) (fun j k => wr_at m c t j k) y1).trans ?_
  generalize val_main_v19 (F := Ideal) (aH m c) (aS m c) (aX m c) (aWr m c) = R
  unfold row
  blk_ext [idx t]

theorem xk_at (c : Dev nD) (t : Fin cfg0.N) (k : Fin 1024) : (iblk m c 3 t : FVec Ideal S1x1024 .f32) (ix2 0 k) = aX m c (ix2 2 k) := by
  refine Eq.trans (b := (V m c main_v1 : FVec Ideal S1x1024 .f32) (ix2 0 k)) (by blk_ext [iblk, idx t]) ?_
  entry_read
  pointwise

theorem wk_at (c : Dev nD) (t : Fin cfg0.N) (j k : Fin 1024) : (iblk m c 6 t : FVec Ideal S1024x1024 .f32) (ix2 j k) = aWk m c (ix2 j k) := by
  blk_point [iblk, V, idx t]

theorem final9 (c : Dev nD) : (dats m 0 c).arrAt 9 cfg0.N = val_main_v20 (F := Ideal) (aH m c) (aS m c) (aX m c) (aWk m c) := by
  refine (dats m 0 c).arrAt_eq_of_covers 9 _ (by decide +kernel) fun t _ y => ?_
  blk_simp
  rw [after0_9]
  idx_vars y
  unfold out0_9
  frame_out
  refine (tile_k _ _ _ _ _ _ _ _ (row t y0) y0 (fun k => h_at m c t y0 k) (fun k => s_at m c t y0 k) (fun k => xk_at m c t k) (fun j k => wk_at m c t j k) y1).trans ?_
  generalize val_main_v20 (F := Ideal) (aH m c) (aS m c) (aX m c) (aWk m c) = R
  unfold row
  blk_ext [idx t]

theorem xv_at (c : Dev nD) (t : Fin cfg0.N) (k : Fin 1024) : (iblk m c 4 t : FVec Ideal S1x1024 .f32) (ix2 0 k) = aX m c (ix2 3 k) := by
  refine Eq.trans (b := (V m c main_v2 : FVec Ideal S1x1024 .f32) (ix2 0 k)) (by blk_ext [iblk, idx t]) ?_
  entry_read
  pointwise

theorem wv_at (c : Dev nD) (t : Fin cfg0.N) (j k : Fin 1024) : (iblk m c 7 t : FVec Ideal S1024x1024 .f32) (ix2 j k) = aWv m c (ix2 j k) := by
  blk_point [iblk, V, idx t]

theorem final10 (c : Dev nD) : (dats m 0 c).arrAt 10 cfg0.N = val_main_v21 (F := Ideal) (aH m c) (aS m c) (aX m c) (aWv m c) := by
  refine (dats m 0 c).arrAt_eq_of_covers 10 _ (by decide +kernel) fun t _ y => ?_
  blk_simp
  rw [after0_10]
  idx_vars y
  unfold out0_10
  frame_out
  refine (tile_v _ _ _ _ _ _ _ _ (row t y0) y0 (fun k => h_at m c t y0 k) (fun k => s_at m c t y0 k) (fun k => xv_at m c t k) (fun j k => wv_at m c t j k) y1).trans ?_
  generalize val_main_v21 (F := Ideal) (aH m c) (aS m c) (aX m c) (aWv m c) = R
  unfold row
  blk_ext [idx t]

end Cert.Kernel10Ideal.RwRkv
-- ==== Proof.RwRkvPair.lean ====
module

public import proofs.«01_k».proof.Defs
public import proofs.«01_k».proof.Proof.RwRkv
public import proofs.«01_k».proof.Proof.Gen.Reference10Ideal.Run

@[expose] public section

set_option maxRecDepth 16384

noncomputable section

open Idealize.ShloMosaic Idealize.ShloMosaic.TcCoe Idealize.SL.Sem
open Idealize.ShloMosaic.Pipeline (Dat)

namespace Cert.Kernel10Ideal.RwRkv

open Cert.Kernel10Ideal Cert.Kernel10Ideal.Gen
open Cert.Reference10Ideal.Read

/-- Kernel and reference agree: the receptance, the key and the value of the time mixing. -/
theorem algebraic : algebraic_Kernel10Ideal_Reference10Ideal := by
  pair_intro
  · run_from Cert.Kernel10Ideal.Value.run_blocks m g
  · refine (θ_run Cert.Reference10Ideal.defs _ _).mono (fun _ h c => ⟨(h c).1.trans ?_, (h c).2.1.trans ?_, (h c).2.2.1.trans ?_, (h c).2.2.2⟩) (Cert.Reference10Ideal.Value.run m' g')
    all_goals obtain ⟨h0, h1, h2, h3, h4, h5⟩ := hagree c
    · rw [val_main_v19_eq, h0, h1, h2, h3]
      exact (final8 m c).symm
    · rw [val_main_v20_eq, h0, h1, h2, h4]
      exact (final9 m c).symm
    · rw [val_main_v21_eq, h0, h1, h2, h5]
      exact (final10 m c).symm

end Cert.Kernel10Ideal.RwRkv
-- ==== Proof.AttnQkRow.lean ====
module

public import proofs.«01_k».proof.Proof.Gen.Kernel11Ideal.Value
public import proofs.«01_k».proof.Proof.Gen.Reference11Ideal.Read
public import Idealize.ShloMosaic.Lib.Pipeline.ValueKit
public import proofs.«01_k».proof.Proof.NormPull
public import proofs.«01_k».proof.Proof.AttnV
public import proofs.«01_k».proof.Proof.Reals

@[expose] public section

set_option maxRecDepth 16384

noncomputable section

open Idealize.ShloMosaic Idealize.ShloMosaic.TcCoe Idealize.SL.Sem
open Idealize.ShloMosaic.Pipeline (Dat)

namespace Cert.Kernel11Ideal.AttnQk

open Cert.Kernel11Ideal Cert.Kernel11Ideal.Gen
open Cert.Reference11Ideal.Read
open Cert.NormPull
open Cert.Reals (IsR)
open Cert.Kernel8Ideal.AttnV (pick pick_first pick_last)

/-! ## Sums over the 64 columns of a head -/

/-- Column `l` of head `h`. -/
def col (h : Fin 12) (l : Fin 64) : Fin 768 := ⟨h.val * 64 + l.val, by omega⟩

theorem col_surj (j : Fin 768) : ∃ h l, j = col h l :=
  ⟨⟨j.val / 64, by omega⟩, ⟨j.val % 64, by omega⟩, Fin.ext (by simp only [col]; omega)⟩

/-- A sum whose terms after the first `n` are zero. -/
theorem sum_front {n p : ℕ} (F : Fin (n + p) → EReal) (f : Fin n → EReal) (h1 : ∀ k, F (Fin.castAdd p k) = f k) (h2 : ∀ k, F (Fin.natAdd n k) = 0) :
    ∑ k, F k = ∑ k, f k := by
  rw [Fin.sum_univ_add, Finset.sum_congr rfl fun k _ => h1 k, Finset.sum_congr rfl fun k _ => h2 k, Finset.sum_const_zero, add_zero]

/-- Over the columns, a row counts on a head's columns alone when the others are left out. -/
theorem sum_cols (f : Fin 768 → EReal) (h : Fin 12) : ∑ k, f k * (if k.val / 64 = h.val then 1 else 0) = ∑ l, f (col h l) := by
  refine (Fintype.sum_of_injective (col h) (fun d e hde => ?_) _ _ (fun c hc => ?_) fun d => ?_).symm
  · simp only [col, Fin.ext_iff] at hde ⊢; omega
  · rw [if_neg, mul_zero]
    intro hch
    exact hc ⟨⟨c.val % 64, by omega⟩, by simp only [col, Fin.ext_iff]; omega⟩
  · rw [if_pos, mul_one]
    simp only [col]; omega

/-- Over the heads, the head of a column. -/
theorem sum_heads (f : Fin 12 → EReal) (h : Fin 12) (l : Fin 64) : ∑ k : Fin 12, f k * (if (col h l).val / 64 = k.val then 1 else 0) = f h := by
  refine (Finset.sum_eq_single h (fun k _ hk => ?_) (fun hn => absurd (Finset.mem_univ _) hn)).trans ?_
  · rw [if_neg, mul_zero]
    intro e
    exact hk (Fin.ext (by simp only [col] at e; omega))
  · rw [if_pos, mul_one]
    simp only [col]; omega

/-- The head of a column, as the kernel computes it. -/
theorem head_col : ∀ k : Fin 768, Scalar.select
      (IntOp.andi
        (IntOp.cmpi .ne
          (IntOp.subi (BitVec.setWidth 32 (IntOp.cmpi .sgt (BitVec.ofNat 32 k.val) 0#32)) (BitVec.setWidth 32 (IntOp.cmpi .slt (BitVec.ofNat 32 k.val) 0#32)))
          (Scalar.subi (Scalar.extui (Scalar.cmpi .sgt 64#32 0#32)) (Scalar.extui (Scalar.cmpi .slt 64#32 0#32))))
        (IntOp.cmpi .ne (IntOp.remsi .vector (BitVec.ofNat 32 k.val) 64#32) 0#32))
      (IntOp.subi (IntOp.divsi .vector (BitVec.ofNat 32 k.val) 64#32) 1#32)
      (IntOp.divsi .vector (BitVec.ofNat 32 k.val) 64#32) = BitVec.ofNat 32 (k.val / 64) := by decide +kernel

theorem head_bit : ∀ u h : Fin 12, IntOp.cmpi .eq (BitVec.ofNat 32 u.val) (BitVec.ofNat 32 h.val) = if u.val = h.val then 1#1 else 0#1 := by decide +kernel

/-- The kernel's table of ones and zeros: is a column one of a head's. -/
theorem hot_at (k : Fin 768) (h : Fin 12) : k0_pay38 (F := Ideal) (ix2 k h) = if k.val / 64 = h.val then 1 else 0 := by
  pointwise [k0_pay38]
  rw [head_col k, head_bit ⟨k.val / 64, by omega⟩ h]
  dsimp only
  split <;> simp [FloatOps.sitofp]

/-- The sums over each head's columns, as the kernel takes them: the row in three pieces, times the table. -/
def gsum1 (v : FVec Ideal S256x768 .f32) : FVec Ideal S256x12 .f32 :=
  have a : FVec Ideal S256x768 .bf16 := truncf .bf16 v bitsLt_bf16_f32
  have b : FVec Ideal S256x768 .f32 := subf v (extf .f32 a bitsLt_bf16_f32)
  have c : FVec Ideal S256x768 .bf16 := truncf .bf16 b bitsLt_bf16_f32
  have d : FVec Ideal S256x768 .bf16 := truncf .bf16 (subf b (extf .f32 c bitsLt_bf16_f32)) bitsLt_bf16_f32
  matmul dot_S256x2304_S2304x12_S256x12_1_0_0_1_n_n none
    (concatenate S256x2304 1 [⟨S256x768, a⟩, ⟨S256x768, c⟩, ⟨S256x768, d⟩] concatenates_S256x768_S256x768_S256x768_S256x2304_d1)
    (concatenate S2304x12 0 [⟨S768x12, k0_pay38 (F := Ideal)⟩, ⟨S768x12, k0_pay38 (F := Ideal)⟩, ⟨S768x12, k0_pay38 (F := Ideal)⟩] concatenates_S768x12_S768x12_S768x12_S2304x12_d0)
    (constant S256x12 .f32 0x00000000#32)

/-- A value per head on all of its columns, as the kernel spreads it. -/
def gsum2 (s : FVec Ideal S256x12 .f32) : FVec Ideal S256x768 .f32 :=
  have a : FVec Ideal S256x12 .bf16 := truncf .bf16 s bitsLt_bf16_f32
  have b : FVec Ideal S256x12 .f32 := subf s (extf .f32 a bitsLt_bf16_f32)
  have c : FVec Ideal S256x12 .bf16 := truncf .bf16 b bitsLt_bf16_f32
  have d : FVec Ideal S256x12 .bf16 := truncf .bf16 (subf b (extf .f32 c bitsLt_bf16_f32)) bitsLt_bf16_f32
  matmul dot_S256x36_S768x36_S256x768_1_1_0_0_n_n none
    (concatenate S256x36 1 [⟨S256x12, a⟩, ⟨S256x12, c⟩, ⟨S256x12, d⟩] concatenates_S256x12_S256x12_S256x12_S256x36_d1)
    (concatenate S768x36 1 [⟨S768x12, k0_pay38 (F := Ideal)⟩, ⟨S768x12, k0_pay38 (F := Ideal)⟩, ⟨S768x12, k0_pay38 (F := Ideal)⟩] concatenates_S768x12_S768x12_S768x12_S768x36_d1)
    (constant S256x768 .f32 0x00000000#32)

theorem sub_self' {x : EReal} (h : IsR x) : x - x = 0 := by
  obtain ⟨a, rfl⟩ := h
  rw [← EReal.coe_sub, sub_self, EReal.coe_zero]

theorem gsum1_at (v : FVec Ideal S256x768 .f32) (r : Fin 256) (hv : ∀ j, IsR (v (ix2 r j))) (h : Fin 12) : gsum1 v (ix2 r h) = ∑ l : Fin 64, v (ix2 r (col h l)) := by
  rw [← sum_cols (fun k => v (ix2 r k)) h]
  simp only [← hot_at]
  pointwise [gsum1]
  refine sum_front (n := 768) (p := 1536) _ _ (fun k => ?_) fun k => ?_
  · simp only [Fin.val_castAdd, dif_pos k.isLt]
  · have hk : ¬(Fin.natAdd 768 k).val < 768 := by simp only [Fin.val_natAdd]; omega
    rw [dif_neg hk, dif_neg hk]
    simp only [sub_self' (hv _), dite_eq_ite, ite_self, sub_zero, zero_mul]

theorem gsum2_at (s : FVec Ideal S256x12 .f32) (r : Fin 256) (hs : ∀ j, IsR (s (ix2 r j))) (h : Fin 12) (l : Fin 64) : gsum2 s (ix2 r (col h l)) = s (ix2 r h) := by
  rw [← sum_heads (fun k => s (ix2 r k)) h l]
  simp only [← hot_at]
  pointwise [gsum2]
  refine sum_front (n := 12) (p := 24) _ _ (fun k => ?_) fun k => ?_
  · simp only [Fin.val_castAdd, dif_pos k.isLt]
  · have hk : ¬(Fin.natAdd 12 k).val < 12 := by simp only [Fin.val_natAdd]; omega
    rw [dif_neg hk, dif_neg hk]
    simp only [sub_self' (hs _), dite_eq_ite, ite_self, sub_zero, zero_mul]

theorem mean_gsum (v : FVec Ideal S256x768 .f32) : k0_pay15 (F := Ideal) v (iota .tc S768x12 32 [0] iota_S768x12_d0_w32) 64#32 k0_pay13 k0_pay14 0#32
    = addf (mulf (gsum2 (gsum1 v)) (broadcast S256x768 (Scalar.ofBits .f32 0x3C800000#32))) (broadcast S256x768 (Scalar.ofBits .f32 0x358637BD#32)) := rfl

theorem dp_gsum (p v c q : FVec Ideal S256x768 .f32) : k0_pay43 (F := Ideal) p q k0_pay38 (k0_pay39 p v c) (k0_pay41 p v c) (k0_pay42 p v c)
    = addf (addf q (mulf p (gsum2 (gsum1 (k0_pay37 p v c))))) (mulf (gsum2 (gsum1 (k0_pay37 p v c))) p) := rfl

/-- A sum over the first two axes of three. -/
theorem sum_two {a b n : ℕ} (h : (⟨3, ![a, b, n]⟩ : Shape).ReducesTo [0, 1] ⟨1, ![n]⟩) (x : (⟨3, ![a, b, n]⟩ : Shape).Idx → EReal) (init : EReal) (l : Fin n) :
    Ideal.hostReduceAdd h x init (ix1 l) = init + ∑ t : Fin a, ∑ u : Fin b, x (ix3 t u l) := by
  unfold Ideal.hostReduceAdd
  rw [← Fintype.sum_prod_type']
  refine congrArg (init + ·) (Finset.sum_nbij' (fun i => ((⟨(i 0).val, (i 0).isLt⟩ : Fin a), (⟨(i 1).val, (i 1).isLt⟩ : Fin b))) (fun p => ix3 p.1 p.2 l)
    (fun _ _ => Finset.mem_univ _) (fun p _ => ?_) (fun i hi => ?_) (fun p _ => rfl) fun i hi => ?_)
  · rw [Finset.mem_filter]
    refine ⟨Finset.mem_univ _, funext fun c => Fin.ext ?_⟩
    match c with | ⟨0, _⟩ => rfl
  · have e := congrArg (fun j => (j 0).val) (Finset.mem_filter.mp hi).2
    refine funext fun c => Fin.ext ?_
    match c with | ⟨0, _⟩ => rfl | ⟨1, _⟩ => rfl | ⟨2, _⟩ => exact e.symm
  · have e := congrArg (fun j => (j 0).val) (Finset.mem_filter.mp hi).2
    refine congrArg x (funext fun c => Fin.ext ?_)
    match c with | ⟨0, _⟩ => rfl | ⟨1, _⟩ => rfl | ⟨2, _⟩ => exact e

/-! ## Real numbers -/

theorem ofBits_64 : Ideal.ofBits .f32 0x42800000#32 = ((64 : ℝ) : EReal) := by
  simp [Ideal.ofBits, Ideal.ieee]; rw [← EReal.coe_mul]; norm_num

theorem ofBits_64th : Ideal.ofBits .f32 0x3C800000#32 = (((1 : ℝ) / 64 : ℝ) : EReal) := by
  simp [Ideal.ofBits, Ideal.ieee]; rw [← EReal.coe_mul]; norm_num

theorem ofBits_neg_half : IsR (Ideal.ofBits .f32 0xBF000000#32) := by
  simp [Ideal.ofBits, Ideal.ieee]
  exact ((Reals.isR_coe _).mul (Reals.isR_coe _)).neg

theorem div_64 (x : EReal) : Ideal.div x (Ideal.ofBits .f32 0x42800000#32) = x * Ideal.ofBits .f32 0x3C800000#32 := by
  rw [ofBits_64, ofBits_64th, Ideal.div_coe (by norm_num)]

/-- The mean square of a head's 64 columns and a positive constant. -/
abbrev den (p : Fin 64 → EReal) : EReal := Ideal.div (∑ l, p l * p l) (Ideal.ofBits .f32 0x42800000#32) + Ideal.ofBits .f32 0x358637BD#32

theorem den_pos (p : Fin 64 → EReal) (hp : ∀ l, IsR (p l)) : ∃ e : ℝ, 0 < e ∧ den p = (e : EReal) := by
  obtain ⟨e, he, hb⟩ := Reals.ofBits_eps
  choose r hr using hp
  have h : (∑ k, p k * p k) = ((∑ k, r k * r k : ℝ) : EReal) := by
    rw [Reals.coe_sum]; exact Finset.sum_congr rfl fun k _ => by rw [hr k]; push_cast; rfl
  have hp : 0 < (∑ k, r k * r k) * (1 / 64) + e :=
    add_pos_of_nonneg_of_pos (mul_nonneg (Finset.sum_nonneg fun k _ => mul_self_nonneg _) (by norm_num)) he
  refine ⟨_, hp, ?_⟩
  unfold den
  rw [h, ofBits_64, hb, Ideal.div_coe (by norm_num), ← EReal.coe_mul, ← EReal.coe_add]

theorem isR_root (p : Fin 64 → EReal) (hp : ∀ l, IsR (p l)) : IsR (Ideal.rsqrt (den p)) := by
  obtain ⟨e, he, hd⟩ := den_pos p hp
  rw [hd, Ideal.rsqrt_coe, if_neg (not_lt.mpr he.le), if_neg he.ne']
  exact ⟨_, rfl⟩

theorem isR_fac (p : Fin 64 → EReal) (hp : ∀ l, IsR (p l)) : IsR (Ideal.ofBits .f32 0xBF000000#32 * Ideal.div (Ideal.rsqrt (den p)) (den p)) := by
  refine ofBits_neg_half.mul ?_
  have h := isR_root p hp
  obtain ⟨e, he, hd⟩ := den_pos p hp
  rw [hd] at h ⊢
  rw [Ideal.div_coe he.ne']
  exact h.mul (Reals.isR_coe _)

/-- A factor of every term, out of a sum of reals. -/
theorem sum_factor (p c : Fin 64 → EReal) (v k : EReal) (hp : ∀ l, IsR (p l)) (hc : ∀ l, IsR (c l)) (hv : IsR v) (hk : IsR k) :
    ∑ l, p l * c l * v * k = (∑ l, p l * c l) * v * k := by
  choose p' hp using hp
  choose c' hc using hc
  obtain ⟨v, rfl⟩ := hv
  obtain ⟨k, rfl⟩ := hk
  simp only [hp, hc, ← EReal.coe_mul, ← Reals.coe_sum, ← Finset.sum_mul]

/-! ## One row -/

section Row

variable (x : FVec Ideal S256x1024 .f32) (g : FVec Ideal S1x1024 .f32) (w : FVec Ideal S1024x768 .f32) (n : FVec Ideal S1x64 .f32) (d : FVec Ideal S6x256x128 .f32)
  (e : FVec Ideal S256x1024 .f32)
variable (X : FVec Ideal S4096x1024 .f32) (G : FVec Ideal S1024 .f32) (W : FVec Ideal S1024x768 .f32) (N : FVec Ideal S64 .f32) (D : FVec Ideal S6x4096x128 .f32)
  (E : FVec Ideal S4096x1024 .f32)
variable (t : Fin 4096) (r : Fin 256)

/-! ### The norm of the input and its projection -/

theorem ref_mean : val_main_v6 (F := Ideal) X (ix2 t 0) = Ideal.div (∑ j : Fin 1024, X (ix2 t j) * X (ix2 t j)) (Ideal.ofBits .f32 0x44800000#32) + Ideal.ofBits .f32 0x358637BD#32 := by
  pointwise [val_main_v6, val_main_v5, val_main_cst_1, val_main_v4, val_main_v3, val_main_cst_0, val_main_v2, val_main_v1, val_main_cst, val_main_v0]

theorem tile_mean (hx : ∀ k, x (ix2 r k) = X (ix2 t k)) : k0_pay6 (F := Ideal) x (ix2 r 0) = val_main_v6 (F := Ideal) X (ix2 t 0) := by
  rw [ref_mean]
  pointwise [k0_pay6]
  simp only [hx]

theorem tile_root (hx : ∀ k, x (ix2 r k) = X (ix2 t k)) : k0_pay7 (F := Ideal) x (ix2 r 0) = val_main_v7 (F := Ideal) X (ix2 t 0) :=
  congrArg Ideal.rsqrt (tile_mean x X t r hx)

theorem tile_root' (hx : ∀ k, x (ix2 r k) = X (ix2 t k)) : k0_pay8 (F := Ideal) x (ix2 r 0) = val_main_v10 (F := Ideal) X (ix2 t 0) := by
  refine Eq.trans (b := Ideal.ofBits .f32 0xBF000000#32 * Ideal.div (k0_pay7 (F := Ideal) x (ix2 r 0)) (k0_pay6 (F := Ideal) x (ix2 r 0))) (by pointwise [k0_pay8]) ?_
  rw [tile_root x X t r hx, tile_mean x X t r hx]
  pointwise [val_main_v10, val_main_v9, val_main_cst_2, val_main_v8]

theorem normed_at (k : Fin 1024) : k0_pay9 (F := Ideal) x (ix2 r k) = x (ix2 r k) * k0_pay7 (F := Ideal) x (ix2 r 0) := by
  pointwise [k0_pay9]

theorem gain_at (k : Fin 1024) : k0_pay4 (F := Ideal) g (ix2 0 k) = g (ix2 0 k) := by
  pointwise [k0_pay4]

theorem scaled_at (k : Fin 1024) : k0_pay10 (F := Ideal) x g (ix2 r k) = x (ix2 r k) * k0_pay7 (F := Ideal) x (ix2 r 0) * g (ix2 0 k) := by
  pointwise [k0_pay10, k0_pay9, k0_pay4]

theorem proj_at (j : Fin 768) : k0_pay11 (F := Ideal) x g w (ix2 r j) = ∑ k : Fin 1024, k0_pay10 (F := Ideal) x g (ix2 r k) * w (ix2 k j) := by
  pointwise [k0_pay11]

theorem ref_normed (k : Fin 1024) : val_main_v15 (F := Ideal) X G (ix2 t k) = X (ix2 t k) * val_main_v7 (F := Ideal) X (ix2 t 0) * G (ix1 k) := by
  pointwise [val_main_v15, val_main_v14, val_main_v13, val_main_v12, val_main_v11]

theorem ref_proj (j : Fin 768) : val_main_v16 (F := Ideal) X G W (ix2 t j) = ∑ k : Fin 1024, val_main_v15 (F := Ideal) X G (ix2 t k) * W (ix2 k j) := by
  pointwise [val_main_v16]

/-- The projection, by head and column. -/
abbrev hp (h : Fin 12) (l : Fin 64) : EReal := val_main_v17 (F := Ideal) X G W (ix3 t h l)

theorem ref_heads (h : Fin 12) (l : Fin 64) : hp X G W t h l = val_main_v16 (F := Ideal) X G W (ix2 t (col h l)) := by
  pointwise [hp, val_main_v17]
  generalize val_main_v16 (F := Ideal) X G W = R
  unfold col
  refine congrArg R (funext fun a => Fin.ext ?_)
  match a with | ⟨0, _⟩ => rfl | ⟨1, _⟩ => rfl

theorem tile_proj (hx : ∀ k, x (ix2 r k) = X (ix2 t k)) (hg : ∀ k, g (ix2 0 k) = G (ix1 k)) (hw : ∀ j k, w (ix2 j k) = W (ix2 j k)) (h : Fin 12) (l : Fin 64) :
    k0_pay11 (F := Ideal) x g w (ix2 r (col h l)) = hp X G W t h l := by
  rw [proj_at, ref_heads, ref_proj]
  simp only [scaled_at, ref_normed, tile_root x X t r hx, hx, hg, hw]

/-! ### The norm of each head -/

theorem ref_den (h : Fin 12) : val_main_v24 (F := Ideal) X G W (ix3 t h 0) = den (hp X G W t h) := by
  pointwise [den, hp, val_main_v24, val_main_v23, val_main_cst_5, val_main_v22, val_main_v21, val_main_cst_4, val_main_v20, val_main_v19, val_main_cst_3, val_main_v18]

theorem ref_hroot (h : Fin 12) : val_main_v25 (F := Ideal) X G W (ix3 t h 0) = Ideal.rsqrt (den (hp X G W t h)) :=
  congrArg Ideal.rsqrt (ref_den X G W t h)

theorem ref_fac (h : Fin 12) : val_main_v28 (F := Ideal) X G W (ix3 t h 0)
    = Ideal.ofBits .f32 0xBF000000#32 * Ideal.div (Ideal.rsqrt (den (hp X G W t h))) (den (hp X G W t h)) := by
  rw [← ref_hroot, ← ref_den]
  pointwise [val_main_v28, val_main_v27, val_main_cst_6, val_main_v26]

/-- The projection is real where the gain and the weights are. -/
theorem isR_proj (hG : ∀ i, IsR (G i)) (hW : ∀ i, IsR (W i)) (h : Fin 12) (l : Fin 64) : IsR (hp X G W t h l) := by
  have hr : ∀ k, IsR (X (ix2 t k) * val_main_v7 (F := Ideal) X (ix2 t 0)) := fun k => by
    have e : val_main_v7 (F := Ideal) X (ix2 t 0) = Ideal.rsqrt (val_main_v6 (F := Ideal) X (ix2 t 0)) := rfl
    rw [e, ref_mean]
    exact Reals.isR_normed (fun j : Fin 1024 => X (ix2 t j)) k
  rw [ref_heads, ref_proj]
  refine Reals.IsR.sum fun k _ => ?_
  rw [ref_normed]
  exact ((hr k).mul (hG _)).mul (hW _)

section
variable (u : FVec Ideal S256x768 .f32)

/-- The mean squares of the heads, as the kernel takes them. -/
abbrev hden : FVec Ideal S256x768 .f32 := k0_pay15 (F := Ideal) u (iota .tc S768x12 32 [0] iota_S768x12_d0_w32) 64#32 k0_pay13 k0_pay14 0#32
abbrev hroot : FVec Ideal S256x768 .f32 := k0_pay16 (F := Ideal) u (iota .tc S768x12 32 [0] iota_S768x12_d0_w32) 64#32 k0_pay13 k0_pay14 0#32
abbrev hfac : FVec Ideal S256x768 .f32 := k0_pay17 (F := Ideal) u (iota .tc S768x12 32 [0] iota_S768x12_d0_w32) 64#32 k0_pay13 k0_pay14 0#32

theorem hden_at (p : Fin 12 → Fin 64 → EReal) (hu : ∀ h l, u (ix2 r (col h l)) = p h l * p h l) (hpr : ∀ h l, IsR (p h l)) (h : Fin 12) (l : Fin 64) :
    hden u (ix2 r (col h l)) = den (p h) := by
  have hv : ∀ j, IsR (u (ix2 r j)) := fun j => by
    obtain ⟨h, l, rfl⟩ := col_surj j
    rw [hu]; exact (hpr h l).mul (hpr h l)
  have hs : ∀ k, IsR (gsum1 u (ix2 r k)) := fun k => by
    rw [gsum1_at u r hv]; exact Reals.IsR.sum fun l _ => hv _
  refine Eq.trans (b := gsum2 (gsum1 u) (ix2 r (col h l)) * Ideal.ofBits .f32 0x3C800000#32 + Ideal.ofBits .f32 0x358637BD#32) ?_ ?_
  · exact congrFun (mean_gsum u) _
  · rw [gsum2_at _ r hs, gsum1_at u r hv, ← div_64]
    simp only [hu]

theorem hroot_at (p : Fin 12 → Fin 64 → EReal) (hu : ∀ h l, u (ix2 r (col h l)) = p h l * p h l) (hpr : ∀ h l, IsR (p h l)) (h : Fin 12) (l : Fin 64) :
    hroot u (ix2 r (col h l)) = Ideal.rsqrt (den (p h)) :=
  congrArg Ideal.rsqrt (hden_at r u p hu hpr h l)

theorem hfac_at (p : Fin 12 → Fin 64 → EReal) (hu : ∀ h l, u (ix2 r (col h l)) = p h l * p h l) (hpr : ∀ h l, IsR (p h l)) (h : Fin 12) (l : Fin 64) :
    hfac u (ix2 r (col h l)) = Ideal.ofBits .f32 0xBF000000#32 * Ideal.div (Ideal.rsqrt (den (p h))) (den (p h)) := by
  rw [← hroot_at r u p hu hpr h l, ← hden_at r u p hu hpr h l]
  pointwise [hfac, k0_pay17]

end

/-! ### The incoming gradient -/

/-- The incoming gradient: the six slabs side by side. -/
abbrev flat : FVec Ideal S256x768 .f32 := k0_pay21 (F := Ideal) d (k0_pay20 d)

theorem flat_at (j : Fin 768) : flat d (ix2 r j) = d (ix3 ⟨j.val / 128, by omega⟩ r ⟨j.val % 128, by omega⟩) := by
  have slab0 : ∀ l, k0_pay20 (F := Ideal) d (ix2 r l) = d (ix3 0 r l) := fun l => by pointwise [k0_pay20]
  refine Eq.trans (b := (if j.val / 128 = 5 then d (ix3 5 r ⟨j.val % 128, by omega⟩) else 0) + (if j.val / 128 = 4 then d (ix3 4 r ⟨j.val % 128, by omega⟩) else 0)
    + (if j.val / 128 = 3 then d (ix3 3 r ⟨j.val % 128, by omega⟩) else 0) + (if j.val / 128 = 2 then d (ix3 2 r ⟨j.val % 128, by omega⟩) else 0)
    + (if j.val / 128 = 1 then d (ix3 1 r ⟨j.val % 128, by omega⟩) else 0) + (if j.val / 128 = 0 then k0_pay20 (F := Ideal) d (ix2 r ⟨j.val % 128, by omega⟩) else 0)) ?_ ?_
  · show k0_pay21 (F := Ideal) d (k0_pay20 d) (ix2 r j) = _
    generalize k0_pay20 (F := Ideal) d = a
    pointwise [k0_pay21]
    exact congrArg₂ (· + ·) (congrArg₂ (· + ·) (congrArg₂ (· + ·) (congrArg₂ (· + ·) (congrArg₂ (· + ·) (pick_last (fun l => d (ix3 5 r l)) j.val j.isLt)
      (pick (fun l => d (ix3 4 r l)) 4 j.val)) (pick (fun l => d (ix3 3 r l)) 3 j.val)) (pick (fun l => d (ix3 2 r l)) 2 j.val)) (pick (fun l => d (ix3 1 r l)) 1 j.val))
      (pick_first (fun l => a (ix2 r l)) j.val)
  · rw [slab0]
    have hj : j.val / 128 < 6 := by omega
    generalize hl : (⟨j.val % 128, by omega⟩ : Fin 128) = l
    generalize hp : (⟨j.val / 128, hj⟩ : Fin 6) = p
    rw [show j.val / 128 = p.val from congrArg Fin.val hp]
    fin_cases p <;> simp

theorem ref_flat (h : Fin 12) (l : Fin 64) : val_main_v37 (F := Ideal) D (ix3 t h l) = D (ix3 ⟨(col h l).val / 128, by omega⟩ t ⟨(col h l).val % 128, by omega⟩) := by
  pointwise [val_main_v37, val_main_v36]
  unfold col
  exact congrArg₂ (fun a b => D (ix3 a t b)) (Fin.ext (by dsimp only; omega)) (Fin.ext (by dsimp only; omega))

theorem tile_flat (hd : ∀ p l, d (ix3 p r l) = D (ix3 p t l)) (h : Fin 12) (l : Fin 64) : flat d (ix2 r (col h l)) = val_main_v37 (F := Ideal) D (ix3 t h l) := by
  rw [flat_at, ref_flat, hd]

/-- The gain of a head's norm on the columns of all heads. -/
theorem gains_at (h : Fin 12) (l : Fin 64) : k0_pay19 (F := Ideal) (k0_pay5 n) (ix2 0 (col h l)) = n (ix2 0 l) := by
  have e : ∀ l, k0_pay5 (F := Ideal) n (ix2 0 l) = n (ix2 0 l) := fun l => by pointwise [k0_pay5]
  rw [← e]
  generalize k0_pay5 (F := Ideal) n = a
  have hj : (col h l).val = h.val * 64 + l.val := rfl
  generalize col h l = j at hj ⊢
  pointwise [k0_pay19]
  fin_cases h <;> dsimp only at hj
  all_goals
    simp (disch := omega) only [dif_pos, dif_neg]
    exact congrArg (fun k => a (ix2 0 k)) (Fin.ext (by dsimp only; omega))

/-- The gradient of the heads' normed columns. -/
abbrev ct : FVec Ideal S256x768 .f32 := k0_pay23 (F := Ideal) d (k0_pay19 (k0_pay5 n)) (k0_pay20 d)

theorem tile_ct (hd : ∀ p l, d (ix3 p r l) = D (ix3 p t l)) (hn : ∀ l, n (ix2 0 l) = N (ix1 l)) (h : Fin 12) (l : Fin 64) :
    ct n d (ix2 r (col h l)) = val_main_v42 (F := Ideal) N D (ix3 t h l) := by
  refine Eq.trans (b := flat d (ix2 r (col h l)) * k0_pay19 (F := Ideal) (k0_pay5 n) (ix2 0 (col h l))) ?_ ?_
  · show k0_pay23 (F := Ideal) d (k0_pay19 (k0_pay5 n)) (k0_pay20 d) (ix2 r (col h l)) = k0_pay21 (F := Ideal) d (k0_pay20 d) (ix2 r (col h l)) * _
    generalize k0_pay19 (F := Ideal) (k0_pay5 n) = a
    pointwise [k0_pay23]
  · rw [tile_flat d D t r hd, gains_at, hn]
    pointwise [val_main_v42, val_main_v41, val_main_v31]

/-! ### The gradient of the projection's result -/

theorem prod_at (p v c : FVec Ideal S256x768 .f32) (j : Fin 768) :
    k0_pay37 (F := Ideal) p v c (ix2 r j) = p (ix2 r j) * c (ix2 r j) * v (ix2 r j) * Ideal.ofBits .f32 0x3C800000#32 := by
  pointwise [k0_pay37]

/-- The gradient of the projection's result, of a projection `p`, a factor `v` and a gradient `c` that are real numbers. -/
theorem pay43_at (p v c q : FVec Ideal S256x768 .f32) (P C : Fin 12 → Fin 64 → EReal) (U : Fin 12 → EReal) (hp : ∀ h l, p (ix2 r (col h l)) = P h l)
    (hc : ∀ h l, c (ix2 r (col h l)) = C h l) (hv : ∀ h l, v (ix2 r (col h l)) = U h) (hP : ∀ h l, IsR (P h l)) (hC : ∀ h l, IsR (C h l)) (hU : ∀ h, IsR (U h))
    (h : Fin 12) (l : Fin 64) :
    k0_pay43 (F := Ideal) p q k0_pay38 (k0_pay39 p v c) (k0_pay41 p v c) (k0_pay42 p v c) (ix2 r (col h l))
      = q (ix2 r (col h l)) + P h l * Ideal.div ((∑ l, P h l * C h l) * U h) (Ideal.ofBits .f32 0x42800000#32)
        + Ideal.div ((∑ l, P h l * C h l) * U h) (Ideal.ofBits .f32 0x42800000#32) * P h l := by
  have hk : IsR (Ideal.ofBits .f32 0x3C800000#32) := by rw [ofBits_64th]; exact Reals.isR_coe _
  have ha : ∀ h l, k0_pay37 (F := Ideal) p v c (ix2 r (col h l)) = P h l * C h l * U h * Ideal.ofBits .f32 0x3C800000#32 := fun h l => by
    rw [prod_at, hp, hc, hv]
  have hr : ∀ j, IsR (k0_pay37 (F := Ideal) p v c (ix2 r j)) := fun j => by
    obtain ⟨h, l, rfl⟩ := col_surj j
    rw [ha]; exact (((hP h l).mul (hC h l)).mul (hU h)).mul hk
  have hs : ∀ k, IsR (gsum1 (k0_pay37 (F := Ideal) p v c) (ix2 r k)) := fun k => by
    rw [gsum1_at _ r hr]; exact Reals.IsR.sum fun l _ => hr _
  have hg : gsum2 (gsum1 (k0_pay37 (F := Ideal) p v c)) (ix2 r (col h l)) = Ideal.div ((∑ l, P h l * C h l) * U h) (Ideal.ofBits .f32 0x42800000#32) := by
    rw [gsum2_at _ r hs, gsum1_at _ r hr, div_64, ← sum_factor _ _ _ _ (hP h) (hC h) (hU h) hk]
    exact Finset.sum_congr rfl fun l _ => ha h l
  refine Eq.trans (b := q (ix2 r (col h l)) + p (ix2 r (col h l)) * gsum2 (gsum1 (k0_pay37 (F := Ideal) p v c)) (ix2 r (col h l))
    + gsum2 (gsum1 (k0_pay37 (F := Ideal) p v c)) (ix2 r (col h l)) * p (ix2 r (col h l))) (congrFun (dp_gsum p v c q) _) ?_
  rw [hg, hp]

theorem ref_mul (h : Fin 12) (l : Fin 64) : val_main_v57 (F := Ideal) X G W N D (ix3 t h l)
    = val_main_v42 (F := Ideal) N D (ix3 t h l) * val_main_v25 (F := Ideal) X G W (ix3 t h 0)
      + hp X G W t h l * Ideal.div ((∑ l, hp X G W t h l * val_main_v42 (F := Ideal) N D (ix3 t h l)) * val_main_v28 (F := Ideal) X G W (ix3 t h 0)) (Ideal.ofBits .f32 0x42800000#32)
      + Ideal.div ((∑ l, hp X G W t h l * val_main_v42 (F := Ideal) N D (ix3 t h l)) * val_main_v28 (F := Ideal) X G W (ix3 t h 0)) (Ideal.ofBits .f32 0x42800000#32)
        * hp X G W t h l := by
  pointwise [hp, val_main_v57, val_main_v56, val_main_v55, val_main_v54, val_main_v53, val_main_v52, val_main_cst_11, val_main_v51, val_main_v50, val_main_cst_10, val_main_v49,
    val_main_v48, val_main_v47, val_main_v46, val_main_v45, val_main_cst_9, val_main_v44]
  simp only [Fin.sum_univ_one]

theorem ref_dp (h : Fin 12) (l : Fin 64) : val_main_v58 (F := Ideal) X G W N D (ix2 t (col h l)) = val_main_v57 (F := Ideal) X G W N D (ix3 t h l) := by
  pointwise [val_main_v58]
  unfold col
  generalize val_main_v57 (F := Ideal) X G W N D = R
  exact congrArg₂ (fun a b => R (ix3 t a b)) (Fin.ext (by dsimp only; omega)) (Fin.ext (by dsimp only; omega))

/-- The gradient of the projection's result. -/
abbrev dp : FVec Ideal S256x768 .f32 :=
  k0_pay43 (F := Ideal) (k0_pay11 x g w) (k0_pay36 (hroot (k0_pay12 x g w)) (ct n d)) k0_pay38 (k0_pay39 (k0_pay11 x g w) (hfac (k0_pay12 x g w)) (ct n d))
    (k0_pay41 (k0_pay11 x g w) (hfac (k0_pay12 x g w)) (ct n d)) (k0_pay42 (k0_pay11 x g w) (hfac (k0_pay12 x g w)) (ct n d))

theorem rooted_at (a b : FVec Ideal S256x768 .f32) (j : Fin 768) : k0_pay36 (F := Ideal) a b (ix2 r j) = b (ix2 r j) * a (ix2 r j) := by
  pointwise [k0_pay36]

theorem square_at (j : Fin 768) : k0_pay12 (F := Ideal) x g w (ix2 r j) = k0_pay11 (F := Ideal) x g w (ix2 r j) * k0_pay11 (F := Ideal) x g w (ix2 r j) := by
  pointwise [k0_pay12]

/-- What is asked of one row: it is the row of the arrays, and its numbers are real. -/
structure RowOf : Prop where
  hx : ∀ k, x (ix2 r k) = X (ix2 t k)
  hg : ∀ k, g (ix2 0 k) = G (ix1 k)
  hw : ∀ j k, w (ix2 j k) = W (ix2 j k)
  hn : ∀ l, n (ix2 0 l) = N (ix1 l)
  hd : ∀ p l, d (ix3 p r l) = D (ix3 p t l)
  hP : ∀ h l, IsR (hp X G W t h l)
  hC : ∀ h l, IsR (val_main_v42 (F := Ideal) N D (ix3 t h l))

variable {x g w n d X G W N D t r} in
theorem RowOf.pr (H : RowOf x g w n d X G W N D t r) (h : Fin 12) (l : Fin 64) : k0_pay11 (F := Ideal) x g w (ix2 r (col h l)) = hp X G W t h l :=
  tile_proj x g w X G W t r H.hx H.hg H.hw h l

variable {x g w n d X G W N D t r} in
theorem RowOf.sq (H : RowOf x g w n d X G W N D t r) (h : Fin 12) (l : Fin 64) : k0_pay12 (F := Ideal) x g w (ix2 r (col h l)) = hp X G W t h l * hp X G W t h l := by
  rw [square_at, H.pr]

variable {x g w n d X G W N D t r} in
theorem RowOf.root (H : RowOf x g w n d X G W N D t r) (h : Fin 12) (l : Fin 64) :
    hroot (k0_pay12 x g w) (ix2 r (col h l)) = val_main_v25 (F := Ideal) X G W (ix3 t h 0) := by
  rw [hroot_at r _ _ H.sq H.hP, ref_hroot]

variable {x g w n d X G W N D t r} in
theorem RowOf.dp (H : RowOf x g w n d X G W N D t r) (j : Fin 768) : dp x g w n d (ix2 r j) = val_main_v58 (F := Ideal) X G W N D (ix2 t j) := by
  obtain ⟨h, l, rfl⟩ := col_surj j
  have hU : ∀ h, IsR (val_main_v28 (F := Ideal) X G W (ix3 t h 0)) := fun h => by
    rw [ref_fac]; exact isR_fac _ (H.hP h)
  have hC : ∀ h l, ct n d (ix2 r (col h l)) = val_main_v42 (F := Ideal) N D (ix3 t h l) := tile_ct n d N D t r H.hd H.hn
  refine (pay43_at r _ _ _ _ _ _ _ H.pr hC (fun h l => ?_) H.hP H.hC hU h l).trans ?_
  · rw [hfac_at r _ _ H.sq H.hP, ref_fac]
  · rw [rooted_at, hC, H.root, ref_dp, ref_mul]

/-! ### The gradients -/

section
variable (p q : FVec Ideal S256x768 .f32) (o : FVec Ideal S768x12 .bf16) (a b c : FVec Ideal S256x768 .bf16)

theorem pay44_at (k : Fin 1024) : k0_pay44 (F := Ideal) w p q o a b c (ix2 r k) = ∑ j : Fin 768, k0_pay43 (F := Ideal) p q o a b c (ix2 r j) * w (ix2 k j) := by
  pointwise [k0_pay44]

theorem pay45_at (h : FVec Ideal S256x1024 .f32) (j : Fin 1024) (k : Fin 768) :
    k0_pay45 (F := Ideal) h p q o a b c (ix2 j k) = ∑ r : Fin 256, h (ix2 r j) * k0_pay43 (F := Ideal) p q o a b c (ix2 r k) := by
  pointwise [k0_pay45]

theorem pay46_at (h : FVec Ideal S256x1024 .f32) (k : Fin 1024) :
    k0_pay46 (F := Ideal) w h p q o a b c (ix2 0 k) = ∑ r : Fin 256, h (ix2 r k) * k0_pay44 (F := Ideal) w p q o a b c (ix2 r k) := by
  pointwise [k0_pay46]

theorem pay47_at (v2 : FVec Ideal S1x1024 .f32) (u v : FVec Ideal S256x1 .f32) (k : Fin 1024) :
    k0_pay47 (F := Ideal) x v2 w e u v p q o a b c (ix2 r k)
      = pull (fun j => x (ix2 r j)) (fun j => k0_pay44 (F := Ideal) w p q o a b c (ix2 r j) * v2 (ix2 0 j)) (u (ix2 r 0)) (v (ix2 r 0)) k + e (ix2 r k) := by
  unfold pull
  pointwise [k0_pay47]
  simp only [Fin.sum_univ_one]

end

/-- The gradient at the normed input. -/
abbrev dh : FVec Ideal S256x1024 .f32 :=
  k0_pay44 (F := Ideal) w (k0_pay11 x g w) (k0_pay36 (hroot (k0_pay12 x g w)) (ct n d)) k0_pay38 (k0_pay39 (k0_pay11 x g w) (hfac (k0_pay12 x g w)) (ct n d))
    (k0_pay41 (k0_pay11 x g w) (hfac (k0_pay12 x g w)) (ct n d)) (k0_pay42 (k0_pay11 x g w) (hfac (k0_pay12 x g w)) (ct n d))

theorem ref_dh (k : Fin 1024) : val_main_v61 (F := Ideal) X G W N D (ix2 t k) = ∑ j : Fin 768, val_main_v58 (F := Ideal) X G W N D (ix2 t j) * W (ix2 k j) := by
  pointwise [val_main_v61]

variable {x g w n d X G W N D t r} in
theorem RowOf.dh (H : RowOf x g w n d X G W N D t r) (k : Fin 1024) : dh x g w n d (ix2 r k) = val_main_v61 (F := Ideal) X G W N D (ix2 t k) := by
  rw [ref_dh]
  exact (pay44_at w r _ _ _ _ _ _ k).trans (Finset.sum_congr rfl fun j _ => congrArg₂ (· * ·) (H.dp j) (H.hw k j))

theorem ref_dx (k : Fin 1024) : val_main_v82 (F := Ideal) X G W N D E (ix2 t k)
    = pull (fun j => X (ix2 t j)) (fun j => val_main_v61 (F := Ideal) X G W N D (ix2 t j) * G (ix1 j)) (val_main_v7 (F := Ideal) X (ix2 t 0)) (val_main_v10 (F := Ideal) X (ix2 t 0)) k
      + E (ix2 t k) := by
  unfold pull
  pointwise [val_main_v82, val_main_v81, val_main_v80, val_main_v79, val_main_v78, val_main_v77, val_main_v76, val_main_cst_16, val_main_v75, val_main_v74, val_main_cst_15, val_main_v73,
    val_main_v72, val_main_v71, val_main_v70, val_main_v69, val_main_cst_14, val_main_v68, val_main_v66, val_main_v65, val_main_v13]
  simp only [Fin.sum_univ_one]

/-- The tile of the gradient of the input. -/
abbrev dxTile : FVec Ideal S256x1024 .f32 :=
  k0_pay47 (F := Ideal) x (k0_pay4 g) w e (k0_pay7 x) (k0_pay8 x) (k0_pay11 x g w) (k0_pay36 (hroot (k0_pay12 x g w)) (ct n d)) k0_pay38
    (k0_pay39 (k0_pay11 x g w) (hfac (k0_pay12 x g w)) (ct n d)) (k0_pay41 (k0_pay11 x g w) (hfac (k0_pay12 x g w)) (ct n d)) (k0_pay42 (k0_pay11 x g w) (hfac (k0_pay12 x g w)) (ct n d))

variable {x g w n d e X G W N D E t r} in
theorem RowOf.dx (H : RowOf x g w n d X G W N D t r) (he : ∀ k, e (ix2 r k) = E (ix2 t k)) (k : Fin 1024) :
    dxTile x g w n d e (ix2 r k) = val_main_v82 (F := Ideal) X G W N D E (ix2 t k) := by
  refine (pay47_at x w e r _ _ _ _ _ _ _ _ _ k).trans ?_
  rw [ref_dx, tile_root x X t r H.hx, tile_root' x X t r H.hx, he]
  simp only [H.hx, gain_at, H.hg, ← H.dh]

/-- What one grid point adds to the gradient of the gain. -/
abbrev dgPart : FVec Ideal S1x1024 .f32 :=
  k0_pay46 (F := Ideal) w (k0_pay9 x) (k0_pay11 x g w) (k0_pay36 (hroot (k0_pay12 x g w)) (ct n d)) k0_pay38 (k0_pay39 (k0_pay11 x g w) (hfac (k0_pay12 x g w)) (ct n d))
    (k0_pay41 (k0_pay11 x g w) (hfac (k0_pay12 x g w)) (ct n d)) (k0_pay42 (k0_pay11 x g w) (hfac (k0_pay12 x g w)) (ct n d))

theorem pay_dg (k : Fin 1024) : dgPart x g w n d (ix2 0 k) = ∑ r : Fin 256, x (ix2 r k) * k0_pay7 (F := Ideal) x (ix2 r 0) * dh x g w n d (ix2 r k) := by
  refine (pay46_at w _ _ _ _ _ _ _ k).trans ?_
  simp only [normed_at]

theorem ref_dg (k : Fin 1024) : val_main_v83 (F := Ideal) X G W N D (ix2 0 k)
    = ∑ t : Fin 4096, X (ix2 t k) * val_main_v7 (F := Ideal) X (ix2 t 0) * val_main_v61 (F := Ideal) X G W N D (ix2 t k) := by
  pointwise [val_main_v83, val_main_v67, val_main_cst_13, val_main_v64, val_main_v63, val_main_cst_12, val_main_v62, val_main_v12, val_main_v11]
  simp only [Fin.sum_univ_one]

/-- What one grid point adds to the gradient of the projection. -/
abbrev dwPart : FVec Ideal S1024x768 .f32 :=
  k0_pay45 (F := Ideal) (k0_pay10 x g) (k0_pay11 x g w) (k0_pay36 (hroot (k0_pay12 x g w)) (ct n d)) k0_pay38 (k0_pay39 (k0_pay11 x g w) (hfac (k0_pay12 x g w)) (ct n d))
    (k0_pay41 (k0_pay11 x g w) (hfac (k0_pay12 x g w)) (ct n d)) (k0_pay42 (k0_pay11 x g w) (hfac (k0_pay12 x g w)) (ct n d))

theorem pay_dw (j : Fin 1024) (k : Fin 768) :
    dwPart x g w n d (ix2 j k) = ∑ r : Fin 256, x (ix2 r j) * k0_pay7 (F := Ideal) x (ix2 r 0) * g (ix2 0 j) * dp x g w n d (ix2 r k) := by
  refine (pay45_at _ _ _ _ _ _ _ j k).trans ?_
  simp only [scaled_at]

theorem ref_dw (j : Fin 1024) (k : Fin 768) : val_main_v60 (F := Ideal) X G W N D (ix2 j k)
    = ∑ t : Fin 4096, X (ix2 t j) * val_main_v7 (F := Ideal) X (ix2 t 0) * G (ix1 j) * val_main_v58 (F := Ideal) X G W N D (ix2 t k) := by
  pointwise [val_main_v60, val_main_v59, val_main_v15, val_main_v14, val_main_v13, val_main_v12, val_main_v11]
  exact Finset.sum_congr rfl fun _ _ => mul_comm _ _

/-- The projection over the heads' roots. -/
abbrev scaledHeads : FVec Ideal S256x768 .f32 :=
  k0_pay18 (F := Ideal) (k0_pay11 x g w) (k0_pay12 x g w) (iota .tc S768x12 32 [0] iota_S768x12_d0_w32) 64#32 k0_pay13 k0_pay14 0#32

theorem heads_at (j : Fin 768) : scaledHeads x g w (ix2 r j) = k0_pay11 (F := Ideal) x g w (ix2 r j) * hroot (k0_pay12 x g w) (ix2 r j) := by
  pointwise [scaledHeads, k0_pay18]

/-- What one grid point adds to the gradient of the heads' gain. -/
abbrev dnPart : FVec Ideal S1x64 .f32 :=
  k0_pay35 (F := Ideal) (k0_pay24 d (scaledHeads x g w) (k0_pay20 d)) (k0_pay25 d (scaledHeads x g w) (k0_pay20 d)) (k0_pay26 d (scaledHeads x g w) (k0_pay20 d))
    (k0_pay27 d (scaledHeads x g w) (k0_pay20 d)) (k0_pay28 d (scaledHeads x g w) (k0_pay20 d)) (k0_pay29 d (scaledHeads x g w) (k0_pay20 d)) (k0_pay30 d (scaledHeads x g w) (k0_pay20 d))
    (k0_pay31 d (scaledHeads x g w) (k0_pay20 d)) (k0_pay32 d (scaledHeads x g w) (k0_pay20 d)) (k0_pay33 d (scaledHeads x g w) (k0_pay20 d)) (k0_pay34 d (scaledHeads x g w) (k0_pay20 d))

theorem pay22_at (v : FVec Ideal S256x768 .f32) (a : FVec Ideal S256x128 .f32) (j : Fin 768) :
    k0_pay22 (F := Ideal) d v a (ix2 0 j) = ∑ r : Fin 256, v (ix2 r j) * k0_pay21 (F := Ideal) d a (ix2 r j) := by
  pointwise [k0_pay22]

theorem slices_at (v : FVec Ideal S256x768 .f32) (a : FVec Ideal S256x128 .f32) (l : Fin 64) :
    k0_pay35 (F := Ideal) (k0_pay24 d v a) (k0_pay25 d v a) (k0_pay26 d v a) (k0_pay27 d v a) (k0_pay28 d v a) (k0_pay29 d v a) (k0_pay30 d v a) (k0_pay31 d v a)
      (k0_pay32 d v a) (k0_pay33 d v a) (k0_pay34 d v a) (ix2 0 l) = ∑ h : Fin 12, k0_pay22 (F := Ideal) d v a (ix2 0 (col h l)) := by
  pointwise [k0_pay35, k0_pay34, k0_pay33, k0_pay32, k0_pay31, k0_pay30, k0_pay29, k0_pay28, k0_pay27, k0_pay26, k0_pay25, k0_pay24]
  generalize k0_pay22 (F := Ideal) d v a = R
  simp only [Fin.sum_univ_castSucc, Fin.sum_univ_zero, zero_add, col, Fin.val_castSucc, Fin.val_last, zero_mul, one_mul, Nat.reduceMul]

theorem pay_dn (l : Fin 64) : dnPart x g w d (ix2 0 l)
    = ∑ r : Fin 256, ∑ h : Fin 12, k0_pay11 (F := Ideal) x g w (ix2 r (col h l)) * hroot (k0_pay12 x g w) (ix2 r (col h l)) * flat d (ix2 r (col h l)) := by
  refine (slices_at d _ _ l).trans ?_
  rw [Finset.sum_comm]
  refine Finset.sum_congr rfl fun h _ => (pay22_at d _ _ _).trans (Finset.sum_congr rfl fun r _ => ?_)
  rw [heads_at]

theorem ref_sum (l : Fin 64) : val_main_v39 (F := Ideal) X G W D (ix1 l) = ∑ t : Fin 4096, ∑ h : Fin 12, val_main_v38 (F := Ideal) X G W D (ix3 t h l) := by
  unfold val_main_v39
  generalize val_main_v38 (F := Ideal) X G W D = R
  refine (sum_two _ R _ l).trans ?_
  pointwise [val_main_cst_7]

theorem ref_sum' (l : Fin 64) : val_main_v43 (F := Ideal) X G W D (ix1 l) = val_main_v40 (F := Ideal) X G W D (ix3 0 0 l) := by
  unfold val_main_v43
  generalize val_main_v40 (F := Ideal) X G W D = R
  refine (sum_two _ R _ l).trans ?_
  pointwise [val_main_cst_8]
  simp only [Fin.sum_univ_one]

theorem ref_dn (l : Fin 64) : val_main_v84 (F := Ideal) X G W D (ix2 0 l)
    = ∑ t : Fin 4096, ∑ h : Fin 12, hp X G W t h l * val_main_v25 (F := Ideal) X G W (ix3 t h 0) * val_main_v37 (F := Ideal) D (ix3 t h l) := by
  refine Eq.trans (b := val_main_v43 (F := Ideal) X G W D (ix1 l)) (by pointwise [val_main_v84]) ?_
  refine (ref_sum' X G W D l).trans (Eq.trans (b := val_main_v39 (F := Ideal) X G W D (ix1 l)) (by pointwise [val_main_v40]) ?_)
  rw [ref_sum]
  pointwise [hp, val_main_v38, val_main_v30, val_main_v29]

variable {x g w n d X G W N D t r} in
theorem RowOf.dn (H : RowOf x g w n d X G W N D t r) (l : Fin 64) :
    ∑ h : Fin 12, k0_pay11 (F := Ideal) x g w (ix2 r (col h l)) * hroot (k0_pay12 x g w) (ix2 r (col h l)) * flat d (ix2 r (col h l))
      = ∑ h : Fin 12, hp X G W t h l * val_main_v25 (F := Ideal) X G W (ix3 t h 0) * val_main_v37 (F := Ideal) D (ix3 t h l) :=
  Finset.sum_congr rfl fun h _ => by rw [H.pr, H.root, tile_flat d D t r H.hd]

theorem dg_step (v p : FVec Ideal S1x1024 .f32) (j : S1x1024.Idx) : k0_pay1 (F := Ideal) v p j = p j + v j := by
  idx_vars j
  obtain rfl : j0 = 0 := Subsingleton.elim _ _
  pointwise [k0_pay1]

theorem dw_step (v p : FVec Ideal S1024x768 .f32) (j : S1024x768.Idx) : k0_pay2 (F := Ideal) v p j = p j + v j := by
  idx_vars j
  pointwise [k0_pay2]

theorem dn_step (v p : FVec Ideal S1x64 .f32) (j : S1x64.Idx) : k0_pay3 (F := Ideal) v p j = p j + v j := by
  idx_vars j
  obtain rfl : j0 = 0 := Subsingleton.elim _ _
  pointwise [k0_pay3]

end Row

end Cert.Kernel11Ideal.AttnQk
-- ==== Proof.AttnQk.lean ====
module

public import proofs.«01_k».proof.Proof.Gen.Kernel11Ideal.Value
public import proofs.«01_k».proof.Proof.Gen.Reference11Ideal.Read
public import Idealize.ShloMosaic.Lib.Pipeline.ValueKit
public import proofs.«01_k».proof.Proof.AttnQkRow

@[expose] public section

set_option maxRecDepth 16384

noncomputable section

open Idealize.ShloMosaic Idealize.ShloMosaic.TcCoe Idealize.SL.Sem
open Idealize.ShloMosaic.Pipeline (Dat)

namespace Cert.Kernel11Ideal.AttnQk

open Cert.Kernel11Ideal Cert.Kernel11Ideal.Gen
open Cert.Reference11Ideal.Read
open Cert.NormPull
open Cert.Reals (IsR)

/-! ## The blocks -/

variable (m : (ℓ : Loc nD τ sig) → Buf (Elt Ideal) ℓ)

abbrev aX (c : Dev nD) : FVec Ideal S4096x1024 .f32 := m ((c : Thread nD τ).loc main_arg0)
abbrev aG (c : Dev nD) : FVec Ideal S1024 .f32 := m ((c : Thread nD τ).loc main_arg1)
abbrev aW (c : Dev nD) : FVec Ideal S1024x768 .f32 := m ((c : Thread nD τ).loc main_arg2)
abbrev aN (c : Dev nD) : FVec Ideal S64 .f32 := m ((c : Thread nD τ).loc main_arg3)
abbrev aD (c : Dev nD) : FVec Ideal S6x4096x128 .f32 := m ((c : Thread nD τ).loc main_arg4)
abbrev aE (c : Dev nD) : FVec Ideal S4096x1024 .f32 := m ((c : Thread nD τ).loc main_arg5)

theorem idx : ∀ t : Fin cfg0.N, win0_0.index t = ![t.val, 0] ∧ win0_1.index t = ![0, 0] ∧ win0_2.index t = ![0, 0] ∧ win0_3.index t = ![0, 0] ∧ win0_4.index t = ![0, t.val, 0]
    ∧ win0_5.index t = ![t.val, 0] ∧ win0_6.index t = ![t.val, 0] ∧ win0_7.index t = ![0, 0] ∧ win0_8.index t = ![0, 0] ∧ win0_9.index t = ![0, 0] :=
  (by decide +kernel : ∀ t : Fin grid0.N, _)

theorem lt16 (t : Fin cfg0.N) : t.val < 16 := lt_of_lt_of_eq t.isLt (show cfg0.N = 16 from N_0)

/-- The row of the sequence at row `r` of a grid point's tile. -/
def row (t : Fin cfg0.N) (r : Fin 256) : Fin 4096 := ⟨t.val * 256 + r.val, by have := lt16 t; omega⟩

theorem x_at (c : Dev nD) (t : Fin cfg0.N) (r : Fin 256) (k : Fin 1024) : (iblk m c 0 t : FVec Ideal S256x1024 .f32) (ix2 r k) = aX m c (ix2 (row t r) k) := by
  unfold row
  blk_point [iblk, V, idx t]

theorem v0_at (c : Dev nD) (k : Fin 1024) : (V m c main_v0 : FVec Ideal S1x1024 .f32) (ix2 0 k) = aG m c (ix1 k) := by
  entry_read
  pointwise

theorem g_at (c : Dev nD) (t : Fin cfg0.N) (k : Fin 1024) : (iblk m c 1 t : FVec Ideal S1x1024 .f32) (ix2 0 k) = aG m c (ix1 k) := by
  refine Eq.trans (b := (V m c main_v0 : FVec Ideal S1x1024 .f32) (ix2 0 k)) ?_ (v0_at m c k)
  blk_ext [iblk, idx t]

theorem w_at (c : Dev nD) (t : Fin cfg0.N) (j : Fin 1024) (k : Fin 768) : (iblk m c 2 t : FVec Ideal S1024x768 .f32) (ix2 j k) = aW m c (ix2 j k) := by
  blk_point [iblk, V, idx t]

theorem v1_at (c : Dev nD) (l : Fin 64) : (V m c main_v1 : FVec Ideal S1x64 .f32) (ix2 0 l) = aN m c (ix1 l) := by
  entry_read
  pointwise

theorem n_at (c : Dev nD) (t : Fin cfg0.N) (l : Fin 64) : (iblk m c 3 t : FVec Ideal S1x64 .f32) (ix2 0 l) = aN m c (ix1 l) := by
  refine Eq.trans (b := (V m c main_v1 : FVec Ideal S1x64 .f32) (ix2 0 l)) ?_ (v1_at m c l)
  blk_ext [iblk, idx t]

theorem d_at (c : Dev nD) (t : Fin cfg0.N) (p : Fin 6) (r : Fin 256) (l : Fin 128) : (iblk m c 4 t : FVec Ideal S6x256x128 .f32) (ix3 p r l) = aD m c (ix3 p (row t r) l) := by
  unfold row
  blk_point [iblk, V, idx t]

theorem e_at (c : Dev nD) (t : Fin cfg0.N) (r : Fin 256) (k : Fin 1024) : (iblk m c 5 t : FVec Ideal S256x1024 .f32) (ix2 r k) = aE m c (ix2 (row t r) k) := by
  unfold row
  blk_point [iblk, V, idx t]

/-- The gains, the projection and the incoming gradient are real numbers. -/
structure RealArgs (c : Dev nD) : Prop where
  hG : ∀ i, IsR (aG m c i)
  hW : ∀ i, IsR (aW m c i)
  hN : ∀ i, IsR (aN m c i)
  hD : ∀ i, IsR (aD m c i)

variable {m} in
theorem RealArgs.rowOf {c : Dev nD} (H : RealArgs m c) (t : Fin cfg0.N) (r : Fin 256) :
    RowOf (iblk m c 0 t) (iblk m c 1 t) (iblk m c 2 t) (iblk m c 3 t) (iblk m c 4 t) (aX m c) (aG m c) (aW m c) (aN m c) (aD m c) (row t r) r where
  hx := fun k => x_at m c t r k
  hg := fun k => g_at m c t k
  hw := fun j k => w_at m c t j k
  hn := fun l => n_at m c t l
  hd := fun p l => d_at m c t p r l
  hP := fun h l => isR_proj _ _ _ _ H.hG H.hW h l
  hC := fun h l => by
    refine (?_ : val_main_v42 (F := Ideal) (aN m c) (aD m c) (ix3 (row t r) h l) = val_main_v37 (F := Ideal) (aD m c) (ix3 (row t r) h l) * aN m c (ix1 l)) ▸ ?_
    · pointwise [val_main_v42, val_main_v41, val_main_v31]
    · rw [ref_flat]
      exact (H.hD _).mul (H.hN _)

theorem dx_tile (c : Dev nD) (H : RealArgs m c) (t : Fin cfg0.N) (y : S256x1024.Idx) :
    dxTile (iblk m c 0 t) (iblk m c 1 t) (iblk m c 2 t) (iblk m c 3 t) (iblk m c 4 t) (iblk m c 5 t) y
      = val_main_v82 (F := Ideal) (aX m c) (aG m c) (aW m c) (aN m c) (aD m c) (aE m c) (((View.whole main_v2_0).slice (win0_6.rect t)).emb y) := by
  idx_vars y
  refine ((H.rowOf t y0).dx (fun k => e_at m c t y0 k) y1).trans ?_
  generalize val_main_v82 (F := Ideal) (aX m c) (aG m c) (aW m c) (aN m c) (aD m c) (aE m c) = R
  unfold row
  blk_ext [idx t]

theorem final6 (c : Dev nD) (H : RealArgs m c) :
    (dats m 0 c).arrAt 6 cfg0.N = val_main_v82 (F := Ideal) (aX m c) (aG m c) (aW m c) (aN m c) (aD m c) (aE m c) := by
  refine (dats m 0 c).arrAt_eq_of_covers 6 _ (by decide +kernel) fun t _ y => ?_
  blk_simp
  rw [after0_6]
  by_cases h0 : t.val % 16 = 0
  · have h1 : ¬1 ≤ t.val := by have := lt16 t; omega
    rw [outsAt0_A m c t h0 h1 h0 h1 h0 h1]
    frame_out
    exact dx_tile m c H t y
  · have h1 : 1 ≤ t.val := by omega
    rw [outsAt0_B m c t h0 h1 h0 h1 h0 h1]
    frame_out
    exact dx_tile m c H t y

/-- What one grid point adds to the gradients of the gain, of the projection and of the heads' gain, of the blocks. -/
def gPart (c : Dev nD) (t : Fin cfg0.N) : FVec Ideal S1x1024 .f32 := dgPart (iblk m c 0 t) (iblk m c 1 t) (iblk m c 2 t) (iblk m c 3 t) (iblk m c 4 t)
def wPart (c : Dev nD) (t : Fin cfg0.N) : FVec Ideal S1024x768 .f32 := dwPart (iblk m c 0 t) (iblk m c 1 t) (iblk m c 2 t) (iblk m c 3 t) (iblk m c 4 t)
def nPart (c : Dev nD) (t : Fin cfg0.N) : FVec Ideal S1x64 .f32 := dnPart (iblk m c 0 t) (iblk m c 1 t) (iblk m c 2 t) (iblk m c 4 t)

theorem gPart_at (c : Dev nD) (H : RealArgs m c) (t : Fin cfg0.N) (k : Fin 1024) : gPart m c t (ix2 0 k)
    = ∑ r : Fin 256, aX m c (ix2 (row t r) k) * val_main_v7 (F := Ideal) (aX m c) (ix2 (row t r) 0)
        * val_main_v61 (F := Ideal) (aX m c) (aG m c) (aW m c) (aN m c) (aD m c) (ix2 (row t r) k) :=
  (pay_dg _ _ _ _ _ k).trans (Finset.sum_congr rfl fun r _ => congrArg₂ (· * ·) (congrArg₂ (· * ·) (x_at m c t r k) (tile_root _ _ (row t r) r fun k => x_at m c t r k))
    ((H.rowOf t r).dh k))

theorem wPart_at (c : Dev nD) (H : RealArgs m c) (t : Fin cfg0.N) (j : Fin 1024) (k : Fin 768) : wPart m c t (ix2 j k)
    = ∑ r : Fin 256, aX m c (ix2 (row t r) j) * val_main_v7 (F := Ideal) (aX m c) (ix2 (row t r) 0) * aG m c (ix1 j)
        * val_main_v58 (F := Ideal) (aX m c) (aG m c) (aW m c) (aN m c) (aD m c) (ix2 (row t r) k) :=
  (pay_dw _ _ _ _ _ j k).trans (Finset.sum_congr rfl fun r _ => congrArg₂ (· * ·) (congrArg₂ (· * ·) (congrArg₂ (· * ·) (x_at m c t r j)
    (tile_root _ _ (row t r) r fun k => x_at m c t r k)) (g_at m c t j)) ((H.rowOf t r).dp k))

theorem nPart_at (c : Dev nD) (H : RealArgs m c) (t : Fin cfg0.N) (l : Fin 64) : nPart m c t (ix2 0 l)
    = ∑ r : Fin 256, ∑ h : Fin 12, hp (aX m c) (aG m c) (aW m c) (row t r) h l * val_main_v25 (F := Ideal) (aX m c) (aG m c) (aW m c) (ix3 (row t r) h 0)
        * val_main_v37 (F := Ideal) (aD m c) (ix3 (row t r) h l) :=
  (pay_dn _ _ _ _ l).trans (Finset.sum_congr rfl fun r _ => (H.rowOf t r).dn l)

theorem row_run (t : Fin cfg0.N) (hf : t.val % 16 = 15) (s : Fin 16) (r : Fin 256) (hl : s.val * 256 + r.val < 4096) :
    row ⟨16 * (t.val / 16) + s.val, Pipeline.run_point_lt_of_flush t hf s⟩ r = ⟨s.val * 256 + r.val, hl⟩ :=
  Fin.ext (by simp only [row]; have := lt16 t; omega)

theorem g_sum (c : Dev nD) (H : RealArgs m c) (t : Fin cfg0.N) (hf : t.val % 16 = 15) (y : S1x1024.Idx) :
    ∑ s : Fin 16, gPart m c ⟨16 * (t.val / 16) + s.val, Pipeline.run_point_lt_of_flush t hf s⟩ y
      = val_main_v83 (F := Ideal) (aX m c) (aG m c) (aW m c) (aN m c) (aD m c) ((win0_7.blk t).view.emb y) := by
  idx_vars y
  obtain rfl : y0 = 0 := Subsingleton.elim _ _
  simp only [gPart_at m c H]
  refine Eq.trans ?_ (Eq.trans (ref_dg (aX m c) (aG m c) (aW m c) (aN m c) (aD m c) y1).symm ?_)
  · refine Fin.sum_mul_add_congr fun s r hl => ?_
    rw [row_run t hf s r hl]
  · generalize val_main_v83 (F := Ideal) (aX m c) (aG m c) (aW m c) (aN m c) (aD m c) = R
    blk_ext [idx t]

theorem w_sum (c : Dev nD) (H : RealArgs m c) (t : Fin cfg0.N) (hf : t.val % 16 = 15) (y : S1024x768.Idx) :
    ∑ s : Fin 16, wPart m c ⟨16 * (t.val / 16) + s.val, Pipeline.run_point_lt_of_flush t hf s⟩ y
      = val_main_v60 (F := Ideal) (aX m c) (aG m c) (aW m c) (aN m c) (aD m c) ((win0_8.blk t).view.emb y) := by
  idx_vars y
  simp only [wPart_at m c H]
  refine Eq.trans ?_ (Eq.trans (ref_dw (aX m c) (aG m c) (aW m c) (aN m c) (aD m c) y0 y1).symm ?_)
  · refine Fin.sum_mul_add_congr fun s r hl => ?_
    rw [row_run t hf s r hl]
  · generalize val_main_v60 (F := Ideal) (aX m c) (aG m c) (aW m c) (aN m c) (aD m c) = R
    blk_ext [idx t]

theorem n_sum (c : Dev nD) (H : RealArgs m c) (t : Fin cfg0.N) (hf : t.val % 16 = 15) (y : S1x64.Idx) :
    ∑ s : Fin 16, nPart m c ⟨16 * (t.val / 16) + s.val, Pipeline.run_point_lt_of_flush t hf s⟩ y
      = val_main_v84 (F := Ideal) (aX m c) (aG m c) (aW m c) (aD m c) ((win0_9.blk t).view.emb y) := by
  idx_vars y
  obtain rfl : y0 = 0 := Subsingleton.elim _ _
  simp only [nPart_at m c H]
  refine Eq.trans ?_ (Eq.trans (ref_dn (aX m c) (aG m c) (aW m c) (aD m c) y1).symm ?_)
  · refine Fin.sum_mul_add_congr fun s r hl => ?_
    rw [row_run t hf s r hl]
  · generalize val_main_v84 (F := Ideal) (aX m c) (aG m c) (aW m c) (aD m c) = R
    blk_ext [idx t]

theorem final7 (c : Dev nD) (H : RealArgs m c) : (dats m 0 c).arrAt 7 cfg0.N = val_main_v83 (F := Ideal) (aX m c) (aG m c) (aW m c) (aN m c) (aD m c) := by
  refine (dats m 0 c).arrAt_eq_of_covers 7 _ (by decide +kernel) fun t hf y => ?_
  blk_simp
  rw [after0_7, Pipeline.eq_sum_fin_of_reset_step_apply_of_flush (fun n h => (outsAt0 m c n h).2.1) 16 (fun _ => (0 : EReal)) (fun t j => (gPart m c t j : EReal))
    (fun t h j => by have h1 : ¬1 ≤ t.val := by have := lt16 t; omega
                     rw [outsAt0_A m c t h h1 h h1 h h1, zero_add]; frame_out; rfl)
    (fun t h j => by have h1 : 1 ≤ t.val := by omega
                     rw [outsAt0_B m c t h h1 h h1 h h1]; frame_out; exact dg_step _ _ _)
    t ((flush0_7 t).mp hf) _, zero_add]
  exact g_sum m c H t ((flush0_7 t).mp hf) y

theorem final8 (c : Dev nD) (H : RealArgs m c) : (dats m 0 c).arrAt 8 cfg0.N = val_main_v60 (F := Ideal) (aX m c) (aG m c) (aW m c) (aN m c) (aD m c) := by
  refine (dats m 0 c).arrAt_eq_of_covers 8 _ (by decide +kernel) fun t hf y => ?_
  blk_simp
  rw [after0_8, Pipeline.eq_sum_fin_of_reset_step_apply_of_flush (fun n h => (outsAt0 m c n h).2.2.1) 16 (fun _ => (0 : EReal)) (fun t j => (wPart m c t j : EReal))
    (fun t h j => by have h1 : ¬1 ≤ t.val := by have := lt16 t; omega
                     rw [outsAt0_A m c t h h1 h h1 h h1, zero_add]; frame_out; rfl)
    (fun t h j => by have h1 : 1 ≤ t.val := by omega
                     rw [outsAt0_B m c t h h1 h h1 h h1]; frame_out; exact dw_step _ _ _)
    t ((flush0_8 t).mp hf) _, zero_add]
  exact w_sum m c H t ((flush0_8 t).mp hf) y

theorem final9 (c : Dev nD) (H : RealArgs m c) : (dats m 0 c).arrAt 9 cfg0.N = val_main_v84 (F := Ideal) (aX m c) (aG m c) (aW m c) (aD m c) := by
  refine (dats m 0 c).arrAt_eq_of_covers 9 _ (by decide +kernel) fun t hf y => ?_
  blk_simp
  rw [after0_9, Pipeline.eq_sum_fin_of_reset_step_apply_of_flush (fun n h => (outsAt0 m c n h).2.2.2) 16 (fun _ => (0 : EReal)) (fun t j => (nPart m c t j : EReal))
    (fun t h j => by have h1 : ¬1 ≤ t.val := by have := lt16 t; omega
                     rw [outsAt0_A m c t h h1 h h1 h h1, zero_add]; frame_out; rfl)
    (fun t h j => by have h1 : 1 ≤ t.val := by omega
                     rw [outsAt0_B m c t h h1 h h1 h h1]; frame_out; exact dn_step _ _ _)
    t ((flush0_9 t).mp hf) _, zero_add]
  exact n_sum m c H t ((flush0_9 t).mp hf) y

end Cert.Kernel11Ideal.AttnQk
-- ==== Proof.AttnQkPair.lean ====
module

public import proofs.«01_k».proof.Defs
public import proofs.«01_k».proof.Proof.AttnQk
public import proofs.«01_k».proof.Proof.Gen.Reference11Ideal.Run
public import proofs.«01_k».proof.Proof.Gen.Pre_finite11

@[expose] public section

set_option maxRecDepth 16384

noncomputable section

open Idealize.ShloMosaic Idealize.ShloMosaic.TcCoe Idealize.SL.Sem
open Idealize.ShloMosaic.Pipeline (Dat)

namespace Cert.Kernel11Ideal.AttnQk

open Cert.Kernel11Ideal Cert.Kernel11Ideal.Gen
open Cert.Reference11Ideal.Read

variable (m : (ℓ : Loc nD τ sig) → Buf (Elt Ideal) ℓ)

/-- Under the precondition every entry of the gains, the projection and the gradient is a real number. -/
theorem args_real (hp : Pre_Kernel11Ideal_finite11 m) (c : Dev nD) : RealArgs m c := by
  obtain ⟨h0, h1, h2, h3⟩ := hp c
  refine ⟨fun i => ?_, fun i => ?_, fun i => ?_, fun i => ?_⟩
  · have h := congrFun h0 i; revert h; pointwise [Cert.Pre_finite11.fn]; exact Reals.real_of_eq
  · have h := congrFun h1 i; revert h; pointwise [Cert.Pre_finite11.fn]; exact Reals.real_of_eq
  · have h := congrFun h2 i; revert h; pointwise [Cert.Pre_finite11.fn]; exact Reals.real_of_eq
  · have h := congrFun h3 i; revert h; pointwise [Cert.Pre_finite11.fn]; exact Reals.real_of_eq

/-- Kernel and reference agree: the gradients of the norm, the projection and the norm of each head. -/
theorem algebraic : algebraic_Kernel11Ideal_Reference11Ideal_pre_finite11 := by
  pair_intro
  · run_from Cert.Kernel11Ideal.Value.run_blocks m g
  · refine (θ_run Cert.Reference11Ideal.defs _ _).mono (fun _ h c => ⟨(h c).1.trans ?_, (h c).2.1.trans ?_, (h c).2.2.1.trans ?_, (h c).2.2.2.1.trans ?_, (h c).2.2.2.2⟩) (Cert.Reference11Ideal.Value.run m' g')
    all_goals obtain ⟨h0, h1, h2, h3, h4, h5⟩ := hagree c
    all_goals have H := args_real m hpre c
    · rw [val_main_v82_eq, h0, h1, h2, h3, h4, h5]
      exact (final6 m c H).symm
    · rw [val_main_v83_eq, h0, h1, h2, h3, h4]
      exact (final7 m c H).symm
    · rw [val_main_v60_eq, h0, h1, h2, h3, h4]
      exact (final8 m c H).symm
    · rw [val_main_v84_eq, h0, h1, h2, h4]
      exact (final9 m c H).symm

end Cert.Kernel11Ideal.AttnQk
-- ==== Proof.AttnIn.lean ====
module

public import proofs.«01_k».proof.Proof.Gen.Kernel12Ideal.Value
public import proofs.«01_k».proof.Proof.Gen.Reference12Ideal.Read
public import Idealize.ShloMosaic.Lib.Pipeline.ValueKit
public import proofs.«01_k».proof.Proof.AttnQkRow

@[expose] public section

set_option maxRecDepth 16384

noncomputable section

open Idealize.ShloMosaic Idealize.ShloMosaic.TcCoe Idealize.SL.Sem
open Idealize.ShloMosaic.Pipeline (Dat)

namespace Cert.Kernel12Ideal.AttnIn

open Cert.Kernel12Ideal Cert.Kernel12Ideal.Gen
open Cert.Reference12Ideal.Read
open Cert.Reals (IsR)
open Cert.Kernel11Ideal.AttnQk (col col_surj hp)

/-! ## One row -/

section Row

variable (x : FVec Ideal S256x1024 .f32) (g : FVec Ideal S1x1024 .f32) (w : FVec Ideal S1024x768 .f32) (n : FVec Ideal S1x64 .f32)
variable (X : FVec Ideal S4096x1024 .f32) (G : FVec Ideal S1024 .f32) (W : FVec Ideal S1024x768 .f32) (N : FVec Ideal S64 .f32)
variable (t : Fin 4096) (r : Fin 256)

/-- The projection of the normed input, as the gradient's call recomputes it. -/
abbrev proj : FVec Ideal S256x768 .f32 := Cert.Kernel11Ideal.Gen.k0_pay11 (F := Ideal) x g w

/-- The reference's projection of the normed input. -/
abbrev refProj : FVec Ideal ⟨2, ![4096, 768]⟩ .f32 := Cert.Reference11Ideal.Read.val_main_v16 (F := Ideal) X G W

/-- What is asked of one row: it is the row of the arrays. -/
structure RowOf : Prop where
  hx : ∀ k, x (ix2 r k) = X (ix2 t k)
  hg : ∀ k, g (ix2 0 k) = G (ix1 k)
  hw : ∀ j k, w (ix2 j k) = W (ix2 j k)

variable {x g w X G W t r} in
theorem RowOf.heads (H : RowOf x g w X G W t r) (h : Fin 12) (l : Fin 64) : proj x g w (ix2 r (col h l)) = hp X G W t h l :=
  Cert.Kernel11Ideal.AttnQk.tile_proj x g w X G W t r H.hx H.hg H.hw h l

variable {x g w X G W t r} in
theorem RowOf.proj (H : RowOf x g w X G W t r) (j : Fin 768) : proj x g w (ix2 r j) = refProj X G W (ix2 t j) := by
  obtain ⟨h, l, rfl⟩ := col_surj j
  rw [H.heads, Cert.Kernel11Ideal.AttnQk.ref_heads]

/-! ### The stick-breaking heads: three column blocks of the projection -/

variable {x g w X G W t r} in
theorem RowOf.sb_q (H : RowOf x g w X G W t r) (k : Fin 256) : k0_pay5 (F := Ideal) x g w (ix2 r k) = val_main_v14 (F := Ideal) X G W (ix2 t k) := by
  refine Eq.trans (b := AttnIn.proj x g w (ix2 r ⟨k.val, by omega⟩)) ?_ ((H.proj _).trans ?_)
  · show extractStridedSlice S256x256 ![0, 0] (AttnIn.proj x g w) slices_S256x768_o0_0_S256x256 (ix2 r k) = _
    generalize AttnIn.proj x g w = R
    pointwise
  · have e : val_main_v13 (F := Ideal) X G W = refProj X G W := rfl
    pointwise [val_main_v14]
    rw [e]

variable {x g w X G W t r} in
theorem RowOf.sb_k (H : RowOf x g w X G W t r) (k : Fin 256) : k0_pay6 (F := Ideal) x g w (ix2 r k) = val_main_v15 (F := Ideal) X G W (ix2 t k) := by
  refine Eq.trans (b := AttnIn.proj x g w (ix2 r ⟨256 + k.val, by omega⟩)) ?_ ((H.proj _).trans ?_)
  · show extractStridedSlice S256x256 ![0, 256] (AttnIn.proj x g w) slices_S256x768_o0_256_S256x256 (ix2 r k) = _
    generalize AttnIn.proj x g w = R
    pointwise
  · have e : val_main_v13 (F := Ideal) X G W = refProj X G W := rfl
    pointwise [val_main_v15]
    rw [e]

variable {x g w X G W t r} in
theorem RowOf.sb_v (H : RowOf x g w X G W t r) (k : Fin 256) : k0_pay7 (F := Ideal) x g w (ix2 r k) = val_main_v16 (F := Ideal) X G W (ix2 t k) := by
  refine Eq.trans (b := AttnIn.proj x g w (ix2 r ⟨512 + k.val, by omega⟩)) ?_ ((H.proj _).trans ?_)
  · show extractStridedSlice S256x256 ![0, 512] (AttnIn.proj x g w) slices_S256x768_o0_512_S256x256 (ix2 r k) = _
    generalize AttnIn.proj x g w = R
    pointwise
  · have e : val_main_v13 (F := Ideal) X G W = refProj X G W := rfl
    pointwise [val_main_v16]
    rw [e]

/-! ### The dilated heads: six slabs of two heads -/

/-- Column `l` of slab `p`. -/
def scol (p : Fin 6) (l : Fin 128) : Fin 768 := ⟨p.val * 128 + l.val, by omega⟩

/-- The columns in six slabs, as the kernel stacks them. -/
def slabs (y : FVec Ideal S256x768 .f32) : FVec Ideal S6x256x128 .f32 :=
  concatenate S6x256x128 0
    [⟨S1x256x128, shapeCast S1x256x128 (extractStridedSlice S256x128 ![0, 0] y slices_S256x768_o0_0_S256x128) shapeCasts_S256x128_S1x256x128⟩,
     ⟨S1x256x128, shapeCast S1x256x128 (extractStridedSlice S256x128 ![0, 128] y slices_S256x768_o0_128_S256x128) shapeCasts_S256x128_S1x256x128⟩,
     ⟨S1x256x128, shapeCast S1x256x128 (extractStridedSlice S256x128 ![0, 256] y slices_S256x768_o0_256_S256x128) shapeCasts_S256x128_S1x256x128⟩,
     ⟨S1x256x128, shapeCast S1x256x128 (extractStridedSlice S256x128 ![0, 384] y slices_S256x768_o0_384_S256x128) shapeCasts_S256x128_S1x256x128⟩,
     ⟨S1x256x128, shapeCast S1x256x128 (extractStridedSlice S256x128 ![0, 512] y slices_S256x768_o0_512_S256x128) shapeCasts_S256x128_S1x256x128⟩,
     ⟨S1x256x128, shapeCast S1x256x128 (extractStridedSlice S256x128 ![0, 640] y slices_S256x768_o0_640_S256x128) shapeCasts_S256x128_S1x256x128⟩]
    concatenates_S1x256x128_S1x256x128_S1x256x128_S1x256x128_S1x256x128_S1x256x128_S6x256x128_d0

theorem slabs_at (y : FVec Ideal S256x768 .f32) (p : Fin 6) (l : Fin 128) : slabs y (ix3 p r l) = y (ix2 r (scol p l)) := by
  have hj : (scol p l).val = p.val * 128 + l.val := rfl
  generalize scol p l = j at hj ⊢
  pointwise [slabs]
  fin_cases p <;> dsimp only at hj
  all_goals
    simp (disch := omega) only [dif_pos, dif_neg]
    exact congrArg (fun k => y (ix2 r k)) (Fin.ext (by dsimp only; omega))

/-- The projection with every head normed. -/
def headNorm : FVec Ideal S256x768 .f32 :=
  mulf (mulf (proj x g w) (Cert.Kernel11Ideal.AttnQk.hroot (Cert.Kernel11Ideal.Gen.k0_pay12 x g w)))
    (broadcastTo S256x768 (Cert.Kernel11Ideal.Gen.k0_pay19 (Cert.Kernel11Ideal.Gen.k0_pay5 n)) broadcasts_S1x768_S256x768)

theorem headNorm_at (j : Fin 768) : headNorm x g w n (ix2 r j)
    = proj x g w (ix2 r j) * Cert.Kernel11Ideal.AttnQk.hroot (Cert.Kernel11Ideal.Gen.k0_pay12 x g w) (ix2 r j)
      * Cert.Kernel11Ideal.Gen.k0_pay19 (F := Ideal) (Cert.Kernel11Ideal.Gen.k0_pay5 n) (ix2 0 j) := by
  unfold headNorm
  generalize Cert.Kernel11Ideal.Gen.k0_pay19 (F := Ideal) (Cert.Kernel11Ideal.Gen.k0_pay5 n) = a
  generalize Cert.Kernel11Ideal.AttnQk.hroot (Cert.Kernel11Ideal.Gen.k0_pay12 x g w) = b
  generalize proj x g w = c
  pointwise

/-- The queries' slabs, and the keys'. -/
abbrev qTile : FVec Ideal S6x256x128 .f32 :=
  k0_pay14 (F := Ideal) (k0_pay2 n) (k0_pay9 x (k0_pay1 g) w (k0_pay8 x)) k0_pay10 (k0_pay11 x (k0_pay1 g) w (k0_pay8 x)) (k0_pay12 x (k0_pay1 g) w (k0_pay8 x))
    (k0_pay13 x (k0_pay1 g) w (k0_pay8 x))
abbrev kTile : FVec Ideal S6x256x128 .f32 :=
  k0_pay20 (F := Ideal) (k0_pay3 n) (k0_pay19 (k0_pay15 x (k0_pay1 g) w) (k0_pay16 x (k0_pay1 g) w) (iota .tc S768x12 32 [0] iota_S768x12_d0_w32) 64#32 k0_pay17 k0_pay18)

theorem qTile_eq : qTile x g w n = slabs (headNorm x g w n) := rfl
theorem kTile_eq : kTile x g w n = slabs (headNorm x g w n) := rfl
theorem vTile_eq : k0_pay21 (F := Ideal) x (k0_pay1 g) w = slabs (proj x g w) := rfl

theorem ref_slab (p : Fin 6) (l : Fin 128) (h : Fin 12) (k : Fin 64) (e : scol p l = col h k) : val_main_v46 (F := Ideal) X G W N (ix3 p t l)
    = hp X G W t h k * Cert.Reference11Ideal.Read.val_main_v25 (F := Ideal) X G W (ix3 t h 0) * N (ix1 k) := by
  have e : p.val * 128 + l.val = h.val * 64 + k.val := congrArg Fin.val e
  refine Eq.trans (b := val_main_v44 (F := Ideal) X G W N (ix3 t h k)) ?_ ?_
  · pointwise [val_main_v46, val_main_v45]
    generalize val_main_v44 (F := Ideal) X G W N = R
    exact congrArg₂ (fun a b => R (ix3 t a b)) (Fin.ext (by dsimp only; omega)) (Fin.ext (by dsimp only; omega))
  · have e1 : Cert.Reference11Ideal.Read.val_main_v17 (F := Ideal) X G W = val_main_v31 X G W := rfl
    have e2 : Cert.Reference11Ideal.Read.val_main_v25 (F := Ideal) X G W = val_main_v39 X G W := rfl
    rw [hp, e1, e2]
    pointwise [val_main_v44, val_main_v43, val_main_v42, val_main_v41, val_main_v40]

theorem ref_keys : val_main_v76 (F := Ideal) X G W N = val_main_v46 X G W N := rfl

theorem ref_values (p : Fin 6) (l : Fin 128) : val_main_v92 (F := Ideal) X G W (ix3 p t l) = refProj X G W (ix2 t (scol p l)) := by
  have e : val_main_v90 (F := Ideal) X G W = refProj X G W := rfl
  pointwise [val_main_v92, val_main_v91]
  rw [e]
  generalize refProj X G W = R
  unfold scol
  exact congrArg (fun a => R (ix2 t a)) (Fin.ext (by dsimp only))

variable {x g w X G W t r} in
theorem RowOf.normed (H : RowOf x g w X G W t r) (hn : ∀ l, n (ix2 0 l) = N (ix1 l)) (hG : ∀ i, IsR (G i)) (hW : ∀ i, IsR (W i)) (p : Fin 6) (l : Fin 128) :
    slabs (headNorm x g w n) (ix3 p r l) = val_main_v46 (F := Ideal) X G W N (ix3 p t l) := by
  obtain ⟨h, k, e⟩ := col_surj (scol p l)
  rw [slabs_at, ref_slab X G W N t p l h k e, e, headNorm_at, H.heads, Cert.Kernel11Ideal.AttnQk.gains_at, hn,
    Cert.Kernel11Ideal.AttnQk.hroot_at r (Cert.Kernel11Ideal.Gen.k0_pay12 x g w) (hp X G W t)
      (fun h l => (Cert.Kernel11Ideal.AttnQk.square_at x g w r _).trans (congrArg₂ (· * ·) (H.heads h l) (H.heads h l))) (fun h l => Cert.Kernel11Ideal.AttnQk.isR_proj X G W t hG hW h l),
    Cert.Kernel11Ideal.AttnQk.ref_hroot]

end Row

/-! ## The blocks -/

variable (m : (ℓ : Loc nD τ sig) → Buf (Elt Ideal) ℓ)

abbrev aX (c : Dev nD) : FVec Ideal S4096x1024 .f32 := m ((c : Thread nD τ).loc main_arg0)
abbrev aG (c : Dev nD) : FVec Ideal S1024 .f32 := m ((c : Thread nD τ).loc main_arg1)
abbrev aS (c : Dev nD) : FVec Ideal S1024x768 .f32 := m ((c : Thread nD τ).loc main_arg2)
abbrev aQ (c : Dev nD) : FVec Ideal S1024x768 .f32 := m ((c : Thread nD τ).loc main_arg3)
abbrev aK (c : Dev nD) : FVec Ideal S1024x768 .f32 := m ((c : Thread nD τ).loc main_arg4)
abbrev aV (c : Dev nD) : FVec Ideal S1024x768 .f32 := m ((c : Thread nD τ).loc main_arg5)
abbrev aNq (c : Dev nD) : FVec Ideal S64 .f32 := m ((c : Thread nD τ).loc main_arg6)
abbrev aNk (c : Dev nD) : FVec Ideal S64 .f32 := m ((c : Thread nD τ).loc main_arg7)

theorem idx : ∀ t : Fin cfg0.N, win0_0.index t = ![t.val, 0] ∧ win0_1.index t = ![0, 0] ∧ win0_2.index t = ![0, 0] ∧ win0_3.index t = ![0, 0] ∧ win0_4.index t = ![0, 0]
    ∧ win0_5.index t = ![0, 0] ∧ win0_6.index t = ![0, 0] ∧ win0_7.index t = ![0, 0] ∧ win0_8.index t = ![t.val, 0] ∧ win0_9.index t = ![t.val, 0] ∧ win0_10.index t = ![t.val, 0]
    ∧ win0_11.index t = ![0, t.val, 0] ∧ win0_12.index t = ![0, t.val, 0] ∧ win0_13.index t = ![0, t.val, 0] :=
  (by decide +kernel : ∀ t : Fin grid0.N, _)

/-- The row of the sequence at row `r` of a grid point's tile. -/
def row (t : Fin cfg0.N) (r : Fin 256) : Fin 4096 := ⟨t.val * 256 + r.val, by have := lt_of_lt_of_eq t.isLt (show cfg0.N = 16 from N_0); omega⟩

theorem x_at (c : Dev nD) (t : Fin cfg0.N) (r : Fin 256) (k : Fin 1024) : (iblk m c 0 t : FVec Ideal S256x1024 .f32) (ix2 r k) = aX m c (ix2 (row t r) k) := by
  unfold row
  blk_point [iblk, V, idx t]

theorem g_at (c : Dev nD) (t : Fin cfg0.N) (k : Fin 1024) : (iblk m c 1 t : FVec Ideal S1x1024 .f32) (ix2 0 k) = aG m c (ix1 k) := by
  refine Eq.trans (b := (V m c main_v0 : FVec Ideal S1x1024 .f32) (ix2 0 k)) (by blk_ext [iblk, idx t]) ?_
  entry_read
  pointwise

theorem nq_at (c : Dev nD) (t : Fin cfg0.N) (l : Fin 64) : (iblk m c 6 t : FVec Ideal S1x64 .f32) (ix2 0 l) = aNq m c (ix1 l) := by
  refine Eq.trans (b := (V m c main_v1 : FVec Ideal S1x64 .f32) (ix2 0 l)) (by blk_ext [iblk, idx t]) ?_
  entry_read
  pointwise

theorem nk_at (c : Dev nD) (t : Fin cfg0.N) (l : Fin 64) : (iblk m c 7 t : FVec Ideal S1x64 .f32) (ix2 0 l) = aNk m c (ix1 l) := by
  refine Eq.trans (b := (V m c main_v2 : FVec Ideal S1x64 .f32) (ix2 0 l)) (by blk_ext [iblk, idx t]) ?_
  entry_read
  pointwise

theorem row_s (c : Dev nD) (t : Fin cfg0.N) (r : Fin 256) : RowOf (iblk m c 0 t) (iblk m c 1 t) (iblk m c 2 t) (aX m c) (aG m c) (aS m c) (row t r) r :=
  ⟨x_at m c t r, g_at m c t, fun j k => by blk_point [iblk, V, idx t]⟩

theorem row_q (c : Dev nD) (t : Fin cfg0.N) (r : Fin 256) : RowOf (iblk m c 0 t) (iblk m c 1 t) (iblk m c 3 t) (aX m c) (aG m c) (aQ m c) (row t r) r :=
  ⟨x_at m c t r, g_at m c t, fun j k => by blk_point [iblk, V, idx t]⟩

theorem row_k (c : Dev nD) (t : Fin cfg0.N) (r : Fin 256) : RowOf (iblk m c 0 t) (iblk m c 1 t) (iblk m c 4 t) (aX m c) (aG m c) (aK m c) (row t r) r :=
  ⟨x_at m c t r, g_at m c t, fun j k => by blk_point [iblk, V, idx t]⟩

theorem row_v (c : Dev nD) (t : Fin cfg0.N) (r : Fin 256) : RowOf (iblk m c 0 t) (iblk m c 1 t) (iblk m c 5 t) (aX m c) (aG m c) (aV m c) (row t r) r :=
  ⟨x_at m c t r, g_at m c t, fun j k => by blk_point [iblk, V, idx t]⟩

/-- The gain and the projections to the queries and the keys are real numbers. -/
structure RealArgs (c : Dev nD) : Prop where
  hG : ∀ i, IsR (aG m c i)
  hQ : ∀ i, IsR (aQ m c i)
  hK : ∀ i, IsR (aK m c i)

theorem final8 (c : Dev nD) : (dats m 0 c).arrAt 8 cfg0.N = val_main_v14 (F := Ideal) (aX m c) (aG m c) (aS m c) := by
  refine (dats m 0 c).arrAt_eq_of_covers 8 _ (by decide +kernel) fun t _ y => ?_
  blk_simp
  rw [after0_8]
  idx_vars y
  unfold out0_8
  frame_out
  refine ((row_s m c t y0).sb_q y1).trans ?_
  generalize val_main_v14 (F := Ideal) (aX m c) (aG m c) (aS m c) = R
  unfold row
  blk_ext [idx t]

theorem final9 (c : Dev nD) : (dats m 0 c).arrAt 9 cfg0.N = val_main_v15 (F := Ideal) (aX m c) (aG m c) (aS m c) := by
  refine (dats m 0 c).arrAt_eq_of_covers 9 _ (by decide +kernel) fun t _ y => ?_
  blk_simp
  rw [after0_9]
  idx_vars y
  unfold out0_9
  frame_out
  refine ((row_s m c t y0).sb_k y1).trans ?_
  generalize val_main_v15 (F := Ideal) (aX m c) (aG m c) (aS m c) = R
  unfold row
  blk_ext [idx t]

theorem final10 (c : Dev nD) : (dats m 0 c).arrAt 10 cfg0.N = val_main_v16 (F := Ideal) (aX m c) (aG m c) (aS m c) := by
  refine (dats m 0 c).arrAt_eq_of_covers 10 _ (by decide +kernel) fun t _ y => ?_
  blk_simp
  rw [after0_10]
  idx_vars y
  unfold out0_10
  frame_out
  refine ((row_s m c t y0).sb_v y1).trans ?_
  generalize val_main_v16 (F := Ideal) (aX m c) (aG m c) (aS m c) = R
  unfold row
  blk_ext [idx t]

theorem final11 (c : Dev nD) (H : RealArgs m c) : (dats m 0 c).arrAt 11 cfg0.N = val_main_v46 (F := Ideal) (aX m c) (aG m c) (aQ m c) (aNq m c) := by
  refine (dats m 0 c).arrAt_eq_of_covers 11 _ (by decide +kernel) fun t _ y => ?_
  blk_simp
  rw [after0_11]
  idx_vars y
  unfold out0_11 k0_pay23 k0_pay22
  frame_out
  refine ((congrFun (qTile_eq _ _ _ _) _).trans ((row_q m c t y1).normed _ _ (nq_at m c t) H.hG H.hQ y0 y2)).trans ?_
  generalize val_main_v46 (F := Ideal) (aX m c) (aG m c) (aQ m c) (aNq m c) = R
  unfold row
  blk_ext [idx t]

theorem final12 (c : Dev nD) (H : RealArgs m c) : (dats m 0 c).arrAt 12 cfg0.N = val_main_v76 (F := Ideal) (aX m c) (aG m c) (aK m c) (aNk m c) := by
  rw [ref_keys]
  refine (dats m 0 c).arrAt_eq_of_covers 12 _ (by decide +kernel) fun t _ y => ?_
  blk_simp
  rw [after0_12]
  idx_vars y
  unfold out0_12 k0_pay22
  frame_out
  refine ((congrFun (kTile_eq _ _ _ _) _).trans ((row_k m c t y1).normed _ _ (nk_at m c t) H.hG H.hK y0 y2)).trans ?_
  generalize val_main_v46 (F := Ideal) (aX m c) (aG m c) (aK m c) (aNk m c) = R
  unfold row
  blk_ext [idx t]

theorem final13 (c : Dev nD) : (dats m 0 c).arrAt 13 cfg0.N = val_main_v92 (F := Ideal) (aX m c) (aG m c) (aV m c) := by
  refine (dats m 0 c).arrAt_eq_of_covers 13 _ (by decide +kernel) fun t _ y => ?_
  blk_simp
  rw [after0_13]
  idx_vars y
  unfold out0_13 k0_pay22
  frame_out
  refine ((congrFun (vTile_eq _ _ _) _).trans ((slabs_at _ _ _ _).trans (((row_v m c t y1).proj _).trans (ref_values _ _ _ _ y0 y2).symm))).trans ?_
  generalize val_main_v92 (F := Ideal) (aX m c) (aG m c) (aV m c) = R
  unfold row
  blk_ext [idx t]

end Cert.Kernel12Ideal.AttnIn
-- ==== Proof.AttnInPair.lean ====
module

public import proofs.«01_k».proof.Defs
public import proofs.«01_k».proof.Proof.AttnIn
public import proofs.«01_k».proof.Proof.Gen.Reference12Ideal.Run
public import proofs.«01_k».proof.Proof.Gen.Pre_finite12

@[expose] public section

set_option maxRecDepth 16384

noncomputable section

open Idealize.ShloMosaic Idealize.ShloMosaic.TcCoe Idealize.SL.Sem
open Idealize.ShloMosaic.Pipeline (Dat)

namespace Cert.Kernel12Ideal.AttnIn

open Cert.Kernel12Ideal Cert.Kernel12Ideal.Gen
open Cert.Reference12Ideal.Read

variable (m : (ℓ : Loc nD τ sig) → Buf (Elt Ideal) ℓ)

/-- Under the precondition every entry of the gain and of the projections to the queries and the keys is a real number. -/
theorem args_real (hp : Pre_Kernel12Ideal_finite12 m) (c : Dev nD) : RealArgs m c := by
  obtain ⟨h0, h1, h2⟩ := hp c
  refine ⟨fun i => ?_, fun i => ?_, fun i => ?_⟩
  · have h := congrFun h0 i; revert h; pointwise [Cert.Pre_finite12.fn]; exact Reals.real_of_eq
  · have h := congrFun h1 i; revert h; pointwise [Cert.Pre_finite12.fn]; exact Reals.real_of_eq
  · have h := congrFun h2 i; revert h; pointwise [Cert.Pre_finite12.fn]; exact Reals.real_of_eq

/-- Kernel and reference agree: the queries, keys and values of the stick-breaking and of the dilated heads. -/
theorem algebraic : algebraic_Kernel12Ideal_Reference12Ideal_pre_finite12 := by
  pair_intro
  · run_from Cert.Kernel12Ideal.Value.run_blocks m g
  · refine (θ_run Cert.Reference12Ideal.defs _ _).mono (fun _ h c => ⟨(h c).1.trans ?_, (h c).2.1.trans ?_, (h c).2.2.1.trans ?_, (h c).2.2.2.1.trans ?_, (h c).2.2.2.2.1.trans ?_,
      (h c).2.2.2.2.2.1.trans ?_, (h c).2.2.2.2.2.2⟩) (Cert.Reference12Ideal.Value.run m' g')
    all_goals obtain ⟨h0, h1, h2, h3, h4, h5, h6, h7⟩ := hagree c
    all_goals have H := args_real m hpre c
    · rw [val_main_v14_eq, h0, h1, h2]
      exact (final8 m c).symm
    · rw [val_main_v15_eq, h0, h1, h2]
      exact (final9 m c).symm
    · rw [val_main_v16_eq, h0, h1, h2]
      exact (final10 m c).symm
    · rw [val_main_v46_eq, h0, h1, h3, h6]
      exact (final11 m c H).symm
    · rw [val_main_v76_eq, h0, h1, h4, h7]
      exact (final12 m c H).symm
    · rw [val_main_v92_eq, h0, h1, h5]
      exact (final13 m c).symm

end Cert.Kernel12Ideal.AttnIn
-- ==== Proof.lean ====
module

public import proofs.«01_k».proof.Defs
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Pre_finite6
public import proofs.«01_k».proof.Proof.Gen.Pre_finite7
public import proofs.«01_k».proof.Proof.Gen.Pre_finite11
public import proofs.«01_k».proof.Proof.Gen.Pre_finite12
public import proofs.«01_k».proof.Proof.Gen.Pre_finite2
public import proofs.«01_k».proof.Proof.FfnBwdPair
public import proofs.«01_k».proof.Proof.FfnFwdPair
public import proofs.«01_k».proof.Proof.NormBwdPair
public import proofs.«01_k».proof.Proof.RwProjPair
public import proofs.«01_k».proof.Proof.DilFwdPair
public import proofs.«01_k».proof.Proof.AttnOutPair
public import proofs.«01_k».proof.Proof.AttnVPair
public import proofs.«01_k».proof.Proof.AttnSbPair
public import proofs.«01_k».proof.Proof.RwRkvPair
public import proofs.«01_k».proof.Proof.AttnQkPair
public import proofs.«01_k».proof.Proof.AttnInPair
public import Idealize.ShloMosaic.Adequacy
public import Idealize.ShloMosaic.Init

@[expose] public section

noncomputable section

namespace Cert.Proof

open Idealize.ShloMosaic Idealize.SL.Sem

/-- The reference of the backward call runs and keeps its arguments; it has no semaphores. -/
theorem frame_reference2 : Cert.quiescent_Reference2Ideal := fun m ρ _ =>
  (θ_run Cert.Reference2Ideal.defs _ _).mono (fun r h => ⟨fun c => (h c).2.2.2.2, sem_eq_zero_of_no_sems (by decide) r.2⟩)
    (Cert.Reference2Ideal.Value.run m ρ)

/-- The reference of the forward call runs and keeps its arguments; it has no semaphores. -/
theorem frame_reference3 : Cert.quiescent_Reference3Ideal := fun m ρ _ =>
  (θ_run Cert.Reference3Ideal.defs _ _).mono (fun r h => ⟨fun c => (h c).2.2.2, sem_eq_zero_of_no_sems (by decide) r.2⟩)
    (Cert.Reference3Ideal.Value.run m ρ)

/-- The reference of the norm's backward call runs and keeps its arguments; it has no semaphores. -/
theorem frame_reference4 : Cert.quiescent_Reference4Ideal := fun m ρ _ =>
  (θ_run Cert.Reference4Ideal.defs _ _).mono (fun r h => ⟨fun c => (h c).2.2, sem_eq_zero_of_no_sems (by decide) r.2⟩)
    (Cert.Reference4Ideal.Value.run m ρ)

/-- The reference of the projection's backward call runs and keeps its arguments; it has no semaphores. -/
theorem frame_reference5 : Cert.quiescent_Reference5Ideal := fun m ρ _ =>
  (θ_run Cert.Reference5Ideal.defs _ _).mono (fun r h => ⟨fun c => (h c).2.2.2.2, sem_eq_zero_of_no_sems (by decide) r.2⟩)
    (Cert.Reference5Ideal.Value.run m ρ)

/-- The reference of the attention's forward call runs and keeps its arguments; it has no semaphores. -/
theorem frame_reference6 : Cert.quiescent_Reference6Ideal := fun m ρ _ =>
  (θ_run Cert.Reference6Ideal.defs _ _).mono (fun r h => ⟨fun c => (h c).2.2, sem_eq_zero_of_no_sems (by decide) r.2⟩)
    (Cert.Reference6Ideal.Value.run m ρ)

/-- The reference of the output projection's backward call runs and keeps its arguments; it has no semaphores. -/
theorem frame_reference7 : Cert.quiescent_Reference7Ideal := fun m ρ _ =>
  (θ_run Cert.Reference7Ideal.defs _ _).mono (fun r h => ⟨fun c => (h c).2.2.2.2.2, sem_eq_zero_of_no_sems (by decide) r.2⟩)
    (Cert.Reference7Ideal.Value.run m ρ)

/-- The reference of the values projection's backward call runs and keeps its arguments; it has no semaphores. -/
theorem frame_reference8 : Cert.quiescent_Reference8Ideal := fun m ρ _ =>
  (θ_run Cert.Reference8Ideal.defs _ _).mono (fun r h => ⟨fun c => (h c).2.2.2, sem_eq_zero_of_no_sems (by decide) r.2⟩)
    (Cert.Reference8Ideal.Value.run m ρ)

/-- The reference of the stick-breaking heads' projection's backward call runs and keeps its arguments; it has no semaphores. -/
theorem frame_reference9 : Cert.quiescent_Reference9Ideal := fun m ρ _ =>
  (θ_run Cert.Reference9Ideal.defs _ _).mono (fun r h => ⟨fun c => (h c).2.2.2, sem_eq_zero_of_no_sems (by decide) r.2⟩)
    (Cert.Reference9Ideal.Value.run m ρ)

/-- The reference of the three projections' forward call runs and keeps its arguments; it has no semaphores. -/
theorem frame_reference10 : Cert.quiescent_Reference10Ideal := fun m ρ _ =>
  (θ_run Cert.Reference10Ideal.defs _ _).mono (fun r h => ⟨fun c => (h c).2.2.2, sem_eq_zero_of_no_sems (by decide) r.2⟩)
    (Cert.Reference10Ideal.Value.run m ρ)

/-- The reference of the queries projection's backward call runs and keeps its arguments; it has no semaphores. -/
theorem frame_reference11 : Cert.quiescent_Reference11Ideal := fun m ρ _ =>
  (θ_run Cert.Reference11Ideal.defs _ _).mono (fun r h => ⟨fun c => (h c).2.2.2.2, sem_eq_zero_of_no_sems (by decide) r.2⟩)
    (Cert.Reference11Ideal.Value.run m ρ)

/-- The reference of the attention's input projections runs and keeps its arguments; it has no semaphores. -/
theorem frame_reference12 : Cert.quiescent_Reference12Ideal := fun m ρ _ =>
  (θ_run Cert.Reference12Ideal.defs _ _).mono (fun r h => ⟨fun c => (h c).2.2.2.2.2.2, sem_eq_zero_of_no_sems (by decide) r.2⟩)
    (Cert.Reference12Ideal.Value.run m ρ)

theorem claim : Cert.Claim :=
  ⟨Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Pre_finite2.Gen.facts, Cert.Pre_finite6.Gen.facts, Cert.Pre_finite7.Gen.facts,
    Cert.Pre_finite11.Gen.facts, Cert.Pre_finite12.Gen.facts,
    fun m ρ _ => Cert.Kernel2.Gen.frame m ρ, fun m ρ _ => Cert.Kernel2Ideal.Gen.frame m ρ,
    fun m ρ _ => Cert.Kernel2Ideal.Gen.frame m ρ, frame_reference2, fun m ρ _ => frame_reference2 m ρ trivial,
    fun m ρ _ => Cert.Kernel3.Gen.frame m ρ, fun m ρ _ => Cert.Kernel3Ideal.Gen.frame m ρ,
    frame_reference3,
    fun m ρ _ => Cert.Kernel4.Gen.frame m ρ, fun m ρ _ => Cert.Kernel4Ideal.Gen.frame m ρ,
    frame_reference4,
    fun m ρ _ => Cert.Kernel5.Gen.frame m ρ, fun m ρ _ => Cert.Kernel5Ideal.Gen.frame m ρ,
    frame_reference5,
    fun m ρ _ => Cert.Kernel6.Gen.frame m ρ, fun m ρ _ => Cert.Kernel6Ideal.Gen.frame m ρ,
    fun m ρ _ => Cert.Kernel6Ideal.Gen.frame m ρ, frame_reference6, fun m ρ _ => frame_reference6 m ρ trivial,
    fun m ρ _ => Cert.Kernel7.Gen.frame m ρ, fun m ρ _ => Cert.Kernel7Ideal.Gen.frame m ρ,
    fun m ρ _ => Cert.Kernel7Ideal.Gen.frame m ρ, frame_reference7, fun m ρ _ => frame_reference7 m ρ trivial,
    fun m ρ _ => Cert.Kernel8.Gen.frame m ρ, fun m ρ _ => Cert.Kernel8Ideal.Gen.frame m ρ,
    frame_reference8,
    fun m ρ _ => Cert.Kernel9.Gen.frame m ρ, fun m ρ _ => Cert.Kernel9Ideal.Gen.frame m ρ,
    frame_reference9,
    fun m ρ _ => Cert.Kernel10.Gen.frame m ρ, fun m ρ _ => Cert.Kernel10Ideal.Gen.frame m ρ,
    frame_reference10,
    fun m ρ _ => Cert.Kernel11.Gen.frame m ρ, fun m ρ _ => Cert.Kernel11Ideal.Gen.frame m ρ,
    fun m ρ _ => Cert.Kernel11Ideal.Gen.frame m ρ, frame_reference11, fun m ρ _ => frame_reference11 m ρ trivial,
    fun m ρ _ => Cert.Kernel12.Gen.frame m ρ, fun m ρ _ => Cert.Kernel12Ideal.Gen.frame m ρ,
    fun m ρ _ => Cert.Kernel12Ideal.Gen.frame m ρ, frame_reference12, fun m ρ _ => frame_reference12 m ρ trivial,
    trivial, Cert.Kernel2Ideal.FfnBwd.algebraic,
    trivial, Cert.Kernel3Ideal.FfnFwd.algebraic,
    trivial, Cert.Kernel4Ideal.NormBwd.algebraic,
    trivial, Cert.Kernel5Ideal.RwProj.algebraic,
    Cert.Kernel6Ideal.DilFwd.preserves, Cert.Kernel6Ideal.DilFwd.algebraic,
    trivial, Cert.Kernel7Ideal.AttnOut.algebraic,
    trivial, Cert.Kernel8Ideal.AttnV.algebraic,
    trivial, Cert.Kernel9Ideal.AttnSb.algebraic,
    trivial, Cert.Kernel10Ideal.RwRkv.algebraic,
    trivial, Cert.Kernel11Ideal.AttnQk.algebraic,
    trivial, Cert.Kernel12Ideal.AttnIn.algebraic⟩

end Cert.Proof

end
